-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)) (v4 : (c : Dev Cert.KernelIdeal.nD) → Buf (Elt Ideal) ((c.tc : Thread Cert.KernelIdeal.nD Cert.KernelIdeal.τ).loc Cert.KernelIdeal.main_v0_4)) (v5 : (c : Dev Cert.KernelIdeal.nD) → Buf (Elt Ideal) ((c.tc : Thread Cert.KernelIdeal.nD Cert.KernelIdeal.τ).loc Cert.KernelIdeal.main_v0_5)) (v6 : (c : Dev Cert.KernelIdeal.nD) → Buf (Elt Ideal) ((c.tc : Thread Cert.KernelIdeal.nD Cert.KernelIdeal.τ).loc Cert.KernelIdeal.main_v0_6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_v0_4) = v4 c
          ∧ r.2.mem ((c.tc : Thread Cert.KernelIdeal.nD Cert.KernelIdeal.τ).loc Cert.KernelIdeal.main_v0_5) = v5 c
          ∧ r.2.mem ((c.tc : Thread Cert.KernelIdeal.nD Cert.KernelIdeal.τ).loc Cert.KernelIdeal.main_v0_6) = v6 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v155) = v0 c
          ∧ r.2.mem ((c.tc : Thread Cert.ReferenceIdeal.nD Cert.ReferenceIdeal.τ).loc Cert.ReferenceIdeal.main_v165_0) = v1 c
          ∧ r.2.mem ((c.tc : Thread Cert.ReferenceIdeal.nD Cert.ReferenceIdeal.τ).loc Cert.ReferenceIdeal.main_v158) = v2 c
          ∧ r.2.mem ((c.tc : Thread Cert.ReferenceIdeal.nD Cert.ReferenceIdeal.τ).loc Cert.ReferenceIdeal.main_v165_1) = v3 c
          ∧ r.2.mem ((c.tc : Thread Cert.ReferenceIdeal.nD Cert.ReferenceIdeal.τ).loc Cert.ReferenceIdeal.main_v161) = v4 c
          ∧ r.2.mem ((c.tc : Thread Cert.ReferenceIdeal.nD Cert.ReferenceIdeal.τ).loc Cert.ReferenceIdeal.main_v165_2) = v5 c
          ∧ r.2.mem ((c.tc : Thread Cert.ReferenceIdeal.nD Cert.ReferenceIdeal.τ).loc Cert.ReferenceIdeal.main_v164) = v6 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x4096x2048 : Shape := ⟨3, ![8, 4096, 2048]⟩
abbrev S8x4096x512 : Shape := ⟨3, ![8, 4096, 512]⟩
abbrev S8x16x32x128x128 : Shape := ⟨5, ![8, 16, 32, 128, 128]⟩
abbrev S8x4x32x512 : Shape := ⟨4, ![8, 4, 32, 512]⟩
abbrev S8x4x32x128x128 : Shape := ⟨5, ![8, 4, 32, 128, 128]⟩
abbrev S8x4x32x128 : Shape := ⟨4, ![8, 4, 32, 128]⟩
abbrev S1x128x512 : Shape := ⟨3, ![1, 128, 512]⟩
abbrev S1x128x128 : Shape := ⟨3, ![1, 128, 128]⟩
abbrev S1x4x1x128x128 : Shape := ⟨5, ![1, 4, 1, 128, 128]⟩
abbrev S1x1x32x512 : Shape := ⟨4, ![1, 1, 32, 512]⟩
abbrev S1x1x1x128x128 : Shape := ⟨5, ![1, 1, 1, 128, 128]⟩
abbrev S1x1x32x128 : Shape := ⟨4, ![1, 1, 32, 128]⟩
abbrev S512x128 : Shape := ⟨2, ![512, 128]⟩
abbrev S32x128x128 : Shape := ⟨3, ![32, 128, 128]⟩
abbrev S32x128x512 : Shape := ⟨3, ![32, 128, 512]⟩
abbrev S32x512 : Shape := ⟨2, ![32, 512]⟩
abbrev S128x512 : Shape := ⟨2, ![128, 512]⟩
abbrev S32x128 : Shape := ⟨2, ![32, 128]⟩
abbrev S128x128 : Shape := ⟨2, ![128, 128]⟩
abbrev S1 : Shape := ⟨1, ![1]⟩
abbrev S1x1x1 : Shape := ⟨3, ![1, 1, 1]⟩
abbrev S1x1 : Shape := ⟨2, ![1, 1]⟩
abbrev S252x1x1 : Shape := ⟨3, ![252, 1, 1]⟩
abbrev S1x128 : Shape := ⟨2, ![1, 128]⟩
abbrev S1x512 : Shape := ⟨2, ![1, 512]⟩
abbrev S1x1x1x512 : Shape := ⟨4, ![1, 1, 1, 512]⟩
abbrev S1x1x1x128 : Shape := ⟨4, ![1, 1, 1, 128]⟩
abbrev S512 : Shape := ⟨1, ![512]⟩
abbrev S252x32x512 : Shape := ⟨3, ![252, 32, 512]⟩
abbrev S1x32x512 : Shape := ⟨3, ![1, 32, 512]⟩
abbrev S8x512 : Shape := ⟨2, ![8, 512]⟩
abbrev S16x8x512 : Shape := ⟨3, ![16, 8, 512]⟩

abbrev nBuf : Space → Nat
  | .hbm => 10
  | .vmem => 29
  | .smem => 0
  | _ => 0

abbrev bufTy : (tb : Table) → Fin (tcTables nBuf tb) → BufTy
  | .hbm, ⟨0, _⟩ => ⟨S8x4096x2048, .bf16⟩
  | .hbm, ⟨1, _⟩ => ⟨S8x4096x512, .bf16⟩
  | .hbm, ⟨2, _⟩ => ⟨S8x4096x512, .bf16⟩
  | .hbm, ⟨3, _⟩ => ⟨S8x4096x2048, .bf16⟩
  | .hbm, ⟨4, _⟩ => ⟨S8x16x32x128x128, .fp8e4m3⟩
  | .hbm, ⟨5, _⟩ => ⟨S8x4x32x512, .f32⟩
  | .hbm, ⟨6, _⟩ => ⟨S8x4x32x128x128, .fp8e4m3⟩
  | .hbm, ⟨7, _⟩ => ⟨S8x4x32x128, .f32⟩
  | .hbm, ⟨8, _⟩ => ⟨S8x4x32x128x128, .fp8e4m3⟩
  | .hbm, ⟨9, _⟩ => ⟨S8x4x32x128, .f32⟩
  | .local _ .vmem, ⟨0, _⟩ => ⟨S1x128x512, .bf16⟩
  | .local _ .vmem, ⟨1, _⟩ => ⟨S1x128x512, .bf16⟩
  | .local _ .vmem, ⟨2, _⟩ => ⟨S1x128x128, .bf16⟩
  | .local _ .vmem, ⟨3, _⟩ => ⟨S1x128x128, .bf16⟩
  | .local _ .vmem, ⟨4, _⟩ => ⟨S1x128x128, .bf16⟩
  | .local _ .vmem, ⟨5, _⟩ => ⟨S1x128x128, .bf16⟩
  | .local _ .vmem, ⟨6, _⟩ => ⟨S1x128x512, .bf16⟩
  | .local _ .vmem, ⟨7, _⟩ => ⟨S1x128x512, .bf16⟩
  | .local _ .vmem, ⟨8, _⟩ => ⟨S1x4x1x128x128, .fp8e4m3⟩
  | .local _ .vmem, ⟨9, _⟩ => ⟨S1x4x1x128x128, .fp8e4m3⟩
  | .local _ .vmem, ⟨10, _⟩ => ⟨S1x1x32x512, .f32⟩
  | .local _ .vmem, ⟨11, _⟩ => ⟨S1x1x32x512, .f32⟩
  | .local _ .vmem, ⟨12, _⟩ => ⟨S1x1x1x128x128, .fp8e4m3⟩
  | .local _ .vmem, ⟨13, _⟩ => ⟨S1x1x1x128x128, .fp8e4m3⟩
  | .local _ .vmem, ⟨14, _⟩ => ⟨S1x1x32x128, .f32⟩
  | .local _ .vmem, ⟨15, _⟩ => ⟨S1x1x32x128, .f32⟩
  | .local _ .vmem, ⟨16, _⟩ => ⟨S1x1x1x128x128, .fp8e4m3⟩
  | .local _ .vmem, ⟨17, _⟩ => ⟨S1x1x1x128x128, .fp8e4m3⟩
  | .local _ .vmem, ⟨18, _⟩ => ⟨S1x1x32x128, .f32⟩
  | .local _ .vmem, ⟨19, _⟩ => ⟨S1x1x32x128, .f32⟩
  | .local _ .vmem, ⟨20, _⟩ => ⟨S512x128, .fp8e4m3⟩
  | .local _ .vmem, ⟨21, _⟩ => ⟨S32x128x128, .fp8e4m3⟩
  | .local _ .vmem, ⟨22, _⟩ => ⟨S32x128x128, .fp8e4m3⟩
  | .local _ .vmem, ⟨23, _⟩ => ⟨S32x128x512, .f32⟩
  | .local _ .vmem, ⟨24, _⟩ => ⟨S32x512, .f32⟩
  | .local _ .vmem, ⟨25, _⟩ => ⟨S32x512, .f32⟩
  | .local _ .vmem, ⟨26, _⟩ => ⟨S32x512, .f32⟩
  | .local _ .vmem, ⟨27, _⟩ => ⟨S32x512, .f32⟩
  | .local _ .vmem, ⟨28, _⟩ => ⟨S128x512, .f32⟩
  | _, _ => ⟨S8x4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev main_v0_4 : Ref sig .tc := ⟨.hbm, 7, rfl⟩
abbrev main_v0_5 : Ref sig .tc := ⟨.hbm, 8, rfl⟩
abbrev main_v0_6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_scratch3 : Ref sig .tc := ⟨.vmem, 23, rfl⟩
abbrev cc0_scratch4 : Ref sig .tc := ⟨.vmem, 24, rfl⟩
abbrev cc0_scratch5 : Ref sig .tc := ⟨.vmem, 25, rfl⟩
abbrev cc0_scratch6 : Ref sig .tc := ⟨.vmem, 26, rfl⟩
abbrev cc0_scratch7 : Ref sig .tc := ⟨.vmem, 27, rfl⟩
abbrev cc0_scratch8 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨3, ![8, 4, 32], ![false, false, false]⟩

def k0_off1 (i : grid0.Coords) : Fin 4 → Nat :=
  let c0_89 : Index := 0#32
  let c0_90 : Index := 0#32
  let arg2 : BitVec 32 := BitVec.ofNat 32 (i 2).val
  let v224 : Index := Scalar.indexCast arg2
  let c0_91 : Index := 0#32
  ![0, 0, v224.toNat, 0]
def k0_off2 (i : grid0.Coords) : Fin 3 → Nat :=
  let arg2 : BitVec 32 := BitVec.ofNat 32 (i 2).val
  let v278 : Index := Scalar.indexCast arg2
  let c0_115 : Index := 0#32
  let c0_116 : Index := 0#32
  ![v278.toNat, 0, 0]
def k0_off3 (i : grid0.Coords) : Fin 4 → Nat :=
  let c0_117 : Index := 0#32
  let c0_118 : Index := 0#32
  let arg2 : BitVec 32 := BitVec.ofNat 32 (i 2).val
  let v284 : Index := Scalar.indexCast arg2
  let c0_119 : Index := 0#32
  ![0, 0, v284.toNat, 0]
@[reducible] def k0_t1_loop (i : grid0.Coords) : Scf.Loop 32 :=
  let c0_i32_153 : BitVec 32 := 0#32
  let arg2 : BitVec 32 := BitVec.ofNat 32 (i 2).val
  let v355 : BitVec 32 := Scalar.subi arg2 c0_i32_153
  let c1_i32_155 : BitVec 32 := 1#32
  let v357 : BitVec 32 := Scalar.divsi v355 c1_i32_155
  let v358 : BitVec 32 := Scalar.muli v357 c1_i32_155
  let v359 : BitVec 32 := Scalar.addi c0_i32_153 v358
  let c1_i32_156 : BitVec 32 := 1#32
  ⟨c0_i32_153, v359, c1_i32_156⟩
def k0_off4 (i : grid0.Coords) (k0_t1 : Fin (k0_t1_loop i).trips) : Fin 3 → Nat :=
  let c0_i32_153 : BitVec 32 := 0#32
  let c1_i32_156 : BitVec 32 := 1#32
  let arg22 : BitVec 32 := Scf.iv c0_i32_153 c1_i32_156 k0_t1
  let v485 : Index := Scalar.indexCast arg22
  let c0_221 : Index := 0#32
  let c0_222 : Index := 0#32
  ![v485.toNat, 0, 0]
def k0_off5 (i : grid0.Coords) (k0_t1 : Fin (k0_t1_loop i).trips) : Fin 3 → Nat :=
  let c0_i32_153 : BitVec 32 := 0#32
  let c1_i32_156 : BitVec 32 := 1#32
  let arg22 : BitVec 32 := Scf.iv c0_i32_153 c1_i32_156 k0_t1
  let v489 : Index := Scalar.indexCast arg22
  let c0_224 : Index := 0#32
  let c0_225 : Index := 0#32
  ![v489.toNat, 0, 0]
def k0_off6 (i : grid0.Coords) (k0_t1 : Fin (k0_t1_loop i).trips) : Fin 2 → Nat :=
  let c0_i32_153 : BitVec 32 := 0#32
  let c1_i32_156 : BitVec 32 := 1#32
  let arg22 : BitVec 32 := Scf.iv c0_i32_153 c1_i32_156 k0_t1
  let v495 : Index := Scalar.indexCast arg22
  let c0_227 : Index := 0#32
  ![v495.toNat, 0]
@[reducible] def k0_t2_loop (i : grid0.Coords) : Scf.Loop 32 :=
  let c0_i32_153 : BitVec 32 := 0#32
  let arg2 : BitVec 32 := BitVec.ofNat 32 (i 2).val
  let v355 : BitVec 32 := Scalar.subi arg2 c0_i32_153
  let c1_i32_155 : BitVec 32 := 1#32
  let v357 : BitVec 32 := Scalar.divsi v355 c1_i32_155
  let v358 : BitVec 32 := Scalar.muli v357 c1_i32_155
  let v359 : BitVec 32 := Scalar.addi c0_i32_153 v358
  let v356 : BitVec 32 := Scalar.addi c0_i32_153 v355
  let c1_i32_157 : BitVec 32 := 1#32
  ⟨v359, v356, c1_i32_157⟩
def k0_off7 (i : grid0.Coords) (k0_t2 : Fin (k0_t2_loop i).trips) : Fin 3 → Nat :=
  let c0_i32_153 : BitVec 32 := 0#32
  let arg2 : BitVec 32 := BitVec.ofNat 32 (i 2).val
  let v355 : BitVec 32 := Scalar.subi arg2 c0_i32_153
  let c1_i32_155 : BitVec 32 := 1#32
  let v357 : BitVec 32 := Scalar.divsi v355 c1_i32_155
  let v358 : BitVec 32 := Scalar.muli v357 c1_i32_155
  let v359 : BitVec 32 := Scalar.addi c0_i32_153 v358
  let c1_i32_157 : BitVec 32 := 1#32
  let arg22 : BitVec 32 := Scf.iv v359 c1_i32_157 k0_t2
  let v485 : Index := Scalar.indexCast arg22
  let c0_221 : Index := 0#32
  let c0_222 : Index := 0#32
  ![v485.toNat, 0, 0]
def k0_off8 (i : grid0.Coords) (k0_t2 : Fin (k0_t2_loop i).trips) : Fin 3 → Nat :=
  let c0_i32_153 : BitVec 32 := 0#32
  let arg2 : BitVec 32 := BitVec.ofNat 32 (i 2).val
  let v355 : BitVec 32 := Scalar.subi arg2 c0_i32_153
  let c1_i32_155 : BitVec 32 := 1#32
  let v357 : BitVec 32 := Scalar.divsi v355 c1_i32_155
  let v358 : BitVec 32 := Scalar.muli v357 c1_i32_155
  let v359 : BitVec 32 := Scalar.addi c0_i32_153 v358
  let c1_i32_157 : BitVec 32 := 1#32
  let arg22 : BitVec 32 := Scf.iv v359 c1_i32_157 k0_t2
  let v489 : Index := Scalar.indexCast arg22
  let c0_224 : Index := 0#32
  let c0_225 : Index := 0#32
  ![v489.toNat, 0, 0]
def k0_off9 (i : grid0.Coords) (k0_t2 : Fin (k0_t2_loop i).trips) : Fin 2 → Nat :=
  let c0_i32_153 : BitVec 32 := 0#32
  let arg2 : BitVec 32 := BitVec.ofNat 32 (i 2).val
  let v355 : BitVec 32 := Scalar.subi arg2 c0_i32_153
  let c1_i32_155 : BitVec 32 := 1#32
  let v357 : BitVec 32 := Scalar.divsi v355 c1_i32_155
  let v358 : BitVec 32 := Scalar.muli v357 c1_i32_155
  let v359 : BitVec 32 := Scalar.addi c0_i32_153 v358
  let c1_i32_157 : BitVec 32 := 1#32
  let arg22 : BitVec 32 := Scf.iv v359 c1_i32_157 k0_t2
  let v495 : Index := Scalar.indexCast arg22
  let c0_227 : Index := 0#32
  ![v495.toNat, 0]
def k0_off10 (i : grid0.Coords) : Fin 3 → Nat :=
  let arg2 : BitVec 32 := BitVec.ofNat 32 (i 2).val
  let v373 : Index := Scalar.indexCast arg2
  let c0_163 : Index := 0#32
  let c0_164 : Index := 0#32
  ![v373.toNat, 0, 0]
def k0_off11 (i : grid0.Coords) : Fin 2 → Nat :=
  let arg2 : BitVec 32 := BitVec.ofNat 32 (i 2).val
  let v379 : Index := Scalar.indexCast arg2
  let c0_166 : Index := 0#32
  ![v379.toNat, 0]
@[reducible] def k0_t3_loop (i : grid0.Coords) : Scf.Loop 32 :=
  let c0_i32_202 : BitVec 32 := 0#32
  let arg2 : BitVec 32 := BitVec.ofNat 32 (i 2).val
  let c1_i32_200 : BitVec 32 := 1#32
  let v447 : BitVec 32 := Scalar.addi arg2 c1_i32_200
  let v449 : BitVec 32 := Scalar.subi v447 c0_i32_202
  let c1_i32_203 : BitVec 32 := 1#32
  let v451 : BitVec 32 := Scalar.divsi v449 c1_i32_203
  let v452 : BitVec 32 := Scalar.muli v451 c1_i32_203
  let v453 : BitVec 32 := Scalar.addi c0_i32_202 v452
  let c1_i32_204 : BitVec 32 := 1#32
  ⟨c0_i32_202, v453, c1_i32_204⟩
def k0_off12 (i : grid0.Coords) (k0_t3 : Fin (k0_t3_loop i).trips) : Fin 3 → Nat :=
  let c0_i32_202 : BitVec 32 := 0#32
  let c1_i32_204 : BitVec 32 := 1#32
  let arg22 : BitVec 32 := Scf.iv c0_i32_202 c1_i32_204 k0_t3
  let v485 : Index := Scalar.indexCast arg22
  let c0_221 : Index := 0#32
  let c0_222 : Index := 0#32
  ![v485.toNat, 0, 0]
def k0_off13 (i : grid0.Coords) (k0_t3 : Fin (k0_t3_loop i).trips) : Fin 2 → Nat :=
  let c0_i32_202 : BitVec 32 := 0#32
  let c1_i32_204 : BitVec 32 := 1#32
  let arg22 : BitVec 32 := Scf.iv c0_i32_202 c1_i32_204 k0_t3
  let v488 : Index := Scalar.indexCast arg22
  let c0_223 : Index := 0#32
  ![v488.toNat, 0]
def k0_off14 (i : grid0.Coords) (k0_t3 : Fin (k0_t3_loop i).trips) : Fin 3 → Nat :=
  let c0_i32_202 : BitVec 32 := 0#32
  let c1_i32_204 : BitVec 32 := 1#32
  let arg22 : BitVec 32 := Scf.iv c0_i32_202 c1_i32_204 k0_t3
  let v507 : Index := Scalar.indexCast arg22
  let c0_228 : Index := 0#32
  let c0_229 : Index := 0#32
  ![v507.toNat, 0, 0]
@[reducible] def k0_t4_loop (i : grid0.Coords) : Scf.Loop 32 :=
  let c0_i32_202 : BitVec 32 := 0#32
  let arg2 : BitVec 32 := BitVec.ofNat 32 (i 2).val
  let c1_i32_200 : BitVec 32 := 1#32
  let v447 : BitVec 32 := Scalar.addi arg2 c1_i32_200
  let v449 : BitVec 32 := Scalar.subi v447 c0_i32_202
  let c1_i32_203 : BitVec 32 := 1#32
  let v451 : BitVec 32 := Scalar.divsi v449 c1_i32_203
  let v452 : BitVec 32 := Scalar.muli v451 c1_i32_203
  let v453 : BitVec 32 := Scalar.addi c0_i32_202 v452
  let v450 : BitVec 32 := Scalar.addi c0_i32_202 v449
  let c1_i32_205 : BitVec 32 := 1#32
  ⟨v453, v450, c1_i32_205⟩
def k0_off15 (i : grid0.Coords) (k0_t4 : Fin (k0_t4_loop i).trips) : Fin 3 → Nat :=
  let c0_i32_202 : BitVec 32 := 0#32
  let arg2 : BitVec 32 := BitVec.ofNat 32 (i 2).val
  let c1_i32_200 : BitVec 32 := 1#32
  let v447 : BitVec 32 := Scalar.addi arg2 c1_i32_200
  let v449 : BitVec 32 := Scalar.subi v447 c0_i32_202
  let c1_i32_203 : BitVec 32 := 1#32
  let v451 : BitVec 32 := Scalar.divsi v449 c1_i32_203
  let v452 : BitVec 32 := Scalar.muli v451 c1_i32_203
  let v453 : BitVec 32 := Scalar.addi c0_i32_202 v452
  let c1_i32_205 : BitVec 32 := 1#32
  let arg22 : BitVec 32 := Scf.iv v453 c1_i32_205 k0_t4
  let v485 : Index := Scalar.indexCast arg22
  let c0_221 : Index := 0#32
  let c0_222 : Index := 0#32
  ![v485.toNat, 0, 0]
def k0_off16 (i : grid0.Coords) (k0_t4 : Fin (k0_t4_loop i).trips) : Fin 2 → Nat :=
  let c0_i32_202 : BitVec 32 := 0#32
  let arg2 : BitVec 32 := BitVec.ofNat 32 (i 2).val
  let c1_i32_200 : BitVec 32 := 1#32
  let v447 : BitVec 32 := Scalar.addi arg2 c1_i32_200
  let v449 : BitVec 32 := Scalar.subi v447 c0_i32_202
  let c1_i32_203 : BitVec 32 := 1#32
  let v451 : BitVec 32 := Scalar.divsi v449 c1_i32_203
  let v452 : BitVec 32 := Scalar.muli v451 c1_i32_203
  let v453 : BitVec 32 := Scalar.addi c0_i32_202 v452
  let c1_i32_205 : BitVec 32 := 1#32
  let arg22 : BitVec 32 := Scf.iv v453 c1_i32_205 k0_t4
  let v488 : Index := Scalar.indexCast arg22
  let c0_223 : Index := 0#32
  ![v488.toNat, 0]
def k0_off17 (i : grid0.Coords) (k0_t4 : Fin (k0_t4_loop i).trips) : Fin 3 → Nat :=
  let c0_i32_202 : BitVec 32 := 0#32
  let arg2 : BitVec 32 := BitVec.ofNat 32 (i 2).val
  let c1_i32_200 : BitVec 32 := 1#32
  let v447 : BitVec 32 := Scalar.addi arg2 c1_i32_200
  let v449 : BitVec 32 := Scalar.subi v447 c0_i32_202
  let c1_i32_203 : BitVec 32 := 1#32
  let v451 : BitVec 32 := Scalar.divsi v449 c1_i32_203
  let v452 : BitVec 32 := Scalar.muli v451 c1_i32_203
  let v453 : BitVec 32 := Scalar.addi c0_i32_202 v452
  let c1_i32_205 : BitVec 32 := 1#32
  let arg22 : BitVec 32 := Scf.iv v453 c1_i32_205 k0_t4
  let v507 : Index := Scalar.indexCast arg22
  let c0_228 : Index := 0#32
  let c0_229 : Index := 0#32
  ![v507.toNat, 0, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_4 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, arg2.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_6 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, arg2.toNat, c0_i32.toNat, c0_i32_0.toNat]

def cc0_transform_7 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_8 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, arg2.toNat, c0_i32.toNat, c0_i32_0.toNat]

def cc0_transform_9 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x128x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x128x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x128x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x128x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x4x1x128x128 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x1x32x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1x1x1x128x128 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x1x32x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S1x1x1x128x128 .fp8e4m3 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]

abbrev stage0_9 : Fin 2 → Memref sig .tc .vmem S1x1x32x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, false]
-- ==== ReferenceIdeal.lean ====
abbrev S8x4096x2048 : Shape := ⟨3, ![8, 4096, 2048]⟩
abbrev S8x4096x512 : Shape := ⟨3, ![8, 4096, 512]⟩
abbrev S8x32x128x16x128 : Shape := ⟨5, ![8, 32, 128, 16, 128]⟩
abbrev S8x16x32x128x128 : Shape := ⟨5, ![8, 16, 32, 128, 128]⟩
abbrev S_ : Shape := ⟨0, ![]⟩
abbrev S8x16x32 : Shape := ⟨3, ![8, 16, 32]⟩
abbrev S8x16x32x1x1 : Shape := ⟨5, ![8, 16, 32, 1, 1]⟩
abbrev S252 : Shape := ⟨1, ![252]⟩
abbrev S8x16x32x1x1x1 : Shape := ⟨6, ![8, 16, 32, 1, 1, 1]⟩
abbrev S1x1x1x1x1x252 : Shape := ⟨6, ![1, 1, 1, 1, 1, 252]⟩
abbrev S8x16x32x1x1x252 : Shape := ⟨6, ![8, 16, 32, 1, 1, 252]⟩
abbrev S8x32x128x4x128 : Shape := ⟨5, ![8, 32, 128, 4, 128]⟩
abbrev S8x4x32x128x128 : Shape := ⟨5, ![8, 4, 32, 128, 128]⟩
abbrev S8x4x32 : Shape := ⟨3, ![8, 4, 32]⟩
abbrev S8x4x32x1x1 : Shape := ⟨5, ![8, 4, 32, 1, 1]⟩
abbrev S8x4x32x1x1x1 : Shape := ⟨6, ![8, 4, 32, 1, 1, 1]⟩
abbrev S8x4x32x1x1x252 : Shape := ⟨6, ![8, 4, 32, 1, 1, 252]⟩
abbrev S8x4x4x4096x128 : Shape := ⟨5, ![8, 4, 4, 4096, 128]⟩
abbrev S8x4x4096x128 : Shape := ⟨4, ![8, 4, 4096, 128]⟩
abbrev S8x4x4x32 : Shape := ⟨4, ![8, 4, 4, 32]⟩
abbrev S8x4x4x4096x4096 : Shape := ⟨5, ![8, 4, 4, 4096, 4096]⟩
abbrev S8x4x4x32x128 : Shape := ⟨5, ![8, 4, 4, 32, 128]⟩
abbrev S8x4x4x4096 : Shape := ⟨4, ![8, 4, 4, 4096]⟩
abbrev S8x4x32x128 : Shape := ⟨4, ![8, 4, 32, 128]⟩
abbrev S8x4x4096 : Shape := ⟨3, ![8, 4, 4096]⟩
abbrev S8x4x4x4096x1 : Shape := ⟨5, ![8, 4, 4, 4096, 1]⟩
abbrev S8x4x1x1x4096 : Shape := ⟨5, ![8, 4, 1, 1, 4096]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S8x4x4x4096x32x128 : Shape := ⟨6, ![8, 4, 4, 4096, 32, 128]⟩
abbrev S8x4x4x4096x32 : Shape := ⟨5, ![8, 4, 4, 4096, 32]⟩
abbrev S8x4x4x4096x32x1 : Shape := ⟨6, ![8, 4, 4, 4096, 32, 1]⟩
abbrev S8x4x4x4096x32x1x1 : Shape := ⟨7, ![8, 4, 4, 4096, 32, 1, 1]⟩
abbrev S1x1x1x1x1x1x252 : Shape := ⟨7, ![1, 1, 1, 1, 1, 1, 252]⟩
abbrev S8x4x4x4096x32x1x252 : Shape := ⟨7, ![8, 4, 4, 4096, 32, 1, 252]⟩
abbrev S8x4x32x128x4x4096 : Shape := ⟨6, ![8, 4, 32, 128, 4, 4096]⟩
abbrev S8x4x1x1x32x1 : Shape := ⟨6, ![8, 4, 1, 1, 32, 1]⟩
abbrev S8x4096x4x4x128 : Shape := ⟨5, ![8, 4096, 4, 4, 128]⟩
abbrev S8x4x32x4 : Shape := ⟨4, ![8, 4, 32, 4]⟩
abbrev S8x4x32x4x128 : Shape := ⟨5, ![8, 4, 32, 4, 128]⟩
abbrev S8x4x32x512 : Shape := ⟨4, ![8, 4, 32, 512]⟩
abbrev S8x4x32x1 : Shape := ⟨4, ![8, 4, 32, 1]⟩
abbrev S8x4x32x1x128 : Shape := ⟨5, ![8, 4, 32, 1, 128]⟩

abbrev nBuf : Space → Nat
  | .hbm => 263
  | .vmem => 6
  | .smem => 0
  | _ => 0

abbrev hbmTy0_0 (i : Nat) : BufTy := match i % 128 with
  | 0 => ⟨S8x4096x2048, .bf16⟩
  | 1 => ⟨S8x4096x512, .bf16⟩
  | 2 => ⟨S8x4096x512, .bf16⟩
  | 3 => ⟨S8x32x128x16x128, .bf16⟩
  | 4 => ⟨S8x16x32x128x128, .bf16⟩
  | 5 => ⟨S8x16x32x128x128, .f32⟩
  | 6 => ⟨S8x16x32x128x128, .f32⟩
  | 7 => ⟨S_, .f32⟩
  | 8 => ⟨S8x16x32, .f32⟩
  | 9 => ⟨S8x16x32x1x1, .f32⟩
  | 10 => ⟨S_, .f32⟩
  | 11 => ⟨S8x16x32x1x1, .f32⟩
  | 12 => ⟨S8x16x32x1x1, .f32⟩
  | 13 => ⟨S252, .f32⟩
  | 14 => ⟨S_, .f32⟩
  | 15 => ⟨S252, .f32⟩
  | 16 => ⟨S252, .f32⟩
  | 17 => ⟨S_, .f32⟩
  | 18 => ⟨S252, .f32⟩
  | 19 => ⟨S252, .f32⟩
  | 20 => ⟨S8x16x32x1x1x1, .f32⟩
  | 21 => ⟨S1x1x1x1x1x252, .f32⟩
  | 22 => ⟨S8x16x32x1x1x252, .f32⟩
  | 23 => ⟨S8x16x32x1x1x252, .f32⟩
  | 24 => ⟨S8x16x32x1x1x252, .i1⟩
  | 25 => ⟨S_, .f32⟩
  | 26 => ⟨S_, .f32⟩
  | 27 => ⟨S8x16x32x1x1x252, .f32⟩
  | 28 => ⟨S8x16x32x1x1x252, .f32⟩
  | 29 => ⟨S8x16x32x1x1x252, .f32⟩
  | 30 => ⟨S_, .f32⟩
  | 31 => ⟨S8x16x32x1x1, .f32⟩
  | 32 => ⟨S_, .f32⟩
  | 33 => ⟨S8x16x32x1x1, .f32⟩
  | 34 => ⟨S8x16x32x1x1, .i1⟩
  | 35 => ⟨S_, .f32⟩
  | 36 => ⟨S_, .f32⟩
  | 37 => ⟨S8x16x32x1x1, .f32⟩
  | 38 => ⟨S8x16x32x1x1, .f32⟩
  | 39 => ⟨S_, .f32⟩
  | 40 => ⟨S8x16x32x1x1, .f32⟩
  | 41 => ⟨S8x16x32x1x1, .f32⟩
  | 42 => ⟨S8x16x32x128x128, .f32⟩
  | 43 => ⟨S8x16x32x128x128, .f32⟩
  | 44 => ⟨S_, .f32⟩
  | 45 => ⟨S_, .f32⟩
  | 46 => ⟨S_, .f32⟩
  | 47 => ⟨S8x16x32x128x128, .f32⟩
  | 48 => ⟨S8x16x32x128x128, .f32⟩
  | 49 => ⟨S_, .f32⟩
  | 50 => ⟨S8x16x32x128x128, .f32⟩
  | 51 => ⟨S8x16x32x128x128, .f32⟩
  | 52 => ⟨S8x32x128x4x128, .bf16⟩
  | 53 => ⟨S8x4x32x128x128, .bf16⟩
  | 54 => ⟨S8x4x32x128x128, .f32⟩
  | 55 => ⟨S8x4x32x128x128, .f32⟩
  | 56 => ⟨S_, .f32⟩
  | 57 => ⟨S8x4x32, .f32⟩
  | 58 => ⟨S8x4x32x1x1, .f32⟩
  | 59 => ⟨S_, .f32⟩
  | 60 => ⟨S8x4x32x1x1, .f32⟩
  | 61 => ⟨S8x4x32x1x1, .f32⟩
  | 62 => ⟨S252, .f32⟩
  | 63 => ⟨S_, .f32⟩
  | 64 => ⟨S252, .f32⟩
  | 65 => ⟨S252, .f32⟩
  | 66 => ⟨S_, .f32⟩
  | 67 => ⟨S252, .f32⟩
  | 68 => ⟨S252, .f32⟩
  | 69 => ⟨S8x4x32x1x1x1, .f32⟩
  | 70 => ⟨S1x1x1x1x1x252, .f32⟩
  | 71 => ⟨S8x4x32x1x1x252, .f32⟩
  | 72 => ⟨S8x4x32x1x1x252, .f32⟩
  | 73 => ⟨S8x4x32x1x1x252, .i1⟩
  | 74 => ⟨S_, .f32⟩
  | 75 => ⟨S_, .f32⟩
  | 76 => ⟨S8x4x32x1x1x252, .f32⟩
  | 77 => ⟨S8x4x32x1x1x252, .f32⟩
  | 78 => ⟨S8x4x32x1x1x252, .f32⟩
  | 79 => ⟨S_, .f32⟩
  | 80 => ⟨S8x4x32x1x1, .f32⟩
  | 81 => ⟨S_, .f32⟩
  | 82 => ⟨S8x4x32x1x1, .f32⟩
  | 83 => ⟨S8x4x32x1x1, .i1⟩
  | 84 => ⟨S_, .f32⟩
  | 85 => ⟨S_, .f32⟩
  | 86 => ⟨S8x4x32x1x1, .f32⟩
  | 87 => ⟨S8x4x32x1x1, .f32⟩
  | 88 => ⟨S_, .f32⟩
  | 89 => ⟨S8x4x32x1x1, .f32⟩
  | 90 => ⟨S8x4x32x1x1, .f32⟩
  | 91 => ⟨S8x4x32x128x128, .f32⟩
  | 92 => ⟨S8x4x32x128x128, .f32⟩
  | 93 => ⟨S_, .f32⟩
  | 94 => ⟨S_, .f32⟩
  | 95 => ⟨S_, .f32⟩
  | 96 => ⟨S8x4x32x128x128, .f32⟩
  | 97 => ⟨S8x4x32x128x128, .f32⟩
  | 98 => ⟨S_, .f32⟩
  | 99 => ⟨S8x4x32x128x128, .f32⟩
  | 100 => ⟨S8x4x32x128x128, .f32⟩
  | 101 => ⟨S8x32x128x4x128, .bf16⟩
  | 102 => ⟨S8x4x32x128x128, .bf16⟩
  | 103 => ⟨S8x4x32x128x128, .f32⟩
  | 104 => ⟨S8x4x32x128x128, .f32⟩
  | 105 => ⟨S_, .f32⟩
  | 106 => ⟨S8x4x32, .f32⟩
  | 107 => ⟨S8x4x32x1x1, .f32⟩
  | 108 => ⟨S_, .f32⟩
  | 109 => ⟨S8x4x32x1x1, .f32⟩
  | 110 => ⟨S8x4x32x1x1, .f32⟩
  | 111 => ⟨S252, .f32⟩
  | 112 => ⟨S_, .f32⟩
  | 113 => ⟨S252, .f32⟩
  | 114 => ⟨S252, .f32⟩
  | 115 => ⟨S_, .f32⟩
  | 116 => ⟨S252, .f32⟩
  | 117 => ⟨S252, .f32⟩
  | 118 => ⟨S8x4x32x1x1x1, .f32⟩
  | 119 => ⟨S1x1x1x1x1x252, .f32⟩
  | 120 => ⟨S8x4x32x1x1x252, .f32⟩
  | 121 => ⟨S8x4x32x1x1x252, .f32⟩
  | 122 => ⟨S8x4x32x1x1x252, .i1⟩
  | 123 => ⟨S_, .f32⟩
  | 124 => ⟨S_, .f32⟩
  | 125 => ⟨S8x4x32x1x1x252, .f32⟩
  | 126 => ⟨S8x4x32x1x1x252, .f32⟩
  | 127 => ⟨S8x4x32x1x1x252, .f32⟩
  | _ => ⟨S8x4096x2048, .bf16⟩

abbrev hbmTy0_1 (i : Nat) : BufTy := match i % 128 with
  | 0 => ⟨S_, .f32⟩
  | 1 => ⟨S8x4x32x1x1, .f32⟩
  | 2 => ⟨S_, .f32⟩
  | 3 => ⟨S8x4x32x1x1, .f32⟩
  | 4 => ⟨S8x4x32x1x1, .i1⟩
  | 5 => ⟨S_, .f32⟩
  | 6 => ⟨S_, .f32⟩
  | 7 => ⟨S8x4x32x1x1, .f32⟩
  | 8 => ⟨S8x4x32x1x1, .f32⟩
  | 9 => ⟨S_, .f32⟩
  | 10 => ⟨S8x4x32x1x1, .f32⟩
  | 11 => ⟨S8x4x32x1x1, .f32⟩
  | 12 => ⟨S8x4x32x128x128, .f32⟩
  | 13 => ⟨S8x4x32x128x128, .f32⟩
  | 14 => ⟨S_, .f32⟩
  | 15 => ⟨S_, .f32⟩
  | 16 => ⟨S_, .f32⟩
  | 17 => ⟨S8x4x32x128x128, .f32⟩
  | 18 => ⟨S8x4x32x128x128, .f32⟩
  | 19 => ⟨S_, .f32⟩
  | 20 => ⟨S8x4x32x128x128, .f32⟩
  | 21 => ⟨S8x4x32x128x128, .f32⟩
  | 22 => ⟨S8x16x32, .f32⟩
  | 23 => ⟨S8x4x32, .f32⟩
  | 24 => ⟨S8x4x32, .f32⟩
  | 25 => ⟨S8x4x4x4096x128, .f32⟩
  | 26 => ⟨S8x4x4096x128, .f32⟩
  | 27 => ⟨S8x4x4x32, .f32⟩
  | 28 => ⟨S8x4x4x4096x4096, .f32⟩
  | 29 => ⟨S_, .f32⟩
  | 30 => ⟨S8x4x4x32, .f32⟩
  | 31 => ⟨S8x4x4x32, .f32⟩
  | 32 => ⟨S8x4x4x32x128, .f32⟩
  | 33 => ⟨S8x4x4x4096, .f32⟩
  | 34 => ⟨S8x4x32x128, .f32⟩
  | 35 => ⟨S8x4x4096, .f32⟩
  | 36 => ⟨S8x4x4x4096x1, .f32⟩
  | 37 => ⟨S8x4x4x4096x4096, .f32⟩
  | 38 => ⟨S8x4x4x4096x4096, .f32⟩
  | 39 => ⟨S8x4x1x1x4096, .f32⟩
  | 40 => ⟨S8x4x4x4096x4096, .f32⟩
  | 41 => ⟨S8x4x4x4096x4096, .f32⟩
  | 42 => ⟨S4096, .i32⟩
  | 43 => ⟨S1x4096, .i32⟩
  | 44 => ⟨S4096x1, .i32⟩
  | 45 => ⟨S4096x4096, .i32⟩
  | 46 => ⟨S4096x4096, .i32⟩
  | 47 => ⟨S4096x4096, .i1⟩
  | 48 => ⟨S_, .f32⟩
  | 49 => ⟨S_, .f32⟩
  | 50 => ⟨S8x4x4x4096x4096, .i1⟩
  | 51 => ⟨S8x4x4x4096x4096, .f32⟩
  | 52 => ⟨S8x4x4x4096x4096, .f32⟩
  | 53 => ⟨S_, .f32⟩
  | 54 => ⟨S8x4x4x4096, .f32⟩
  | 55 => ⟨S8x4x4x4096x1, .f32⟩
  | 56 => ⟨S8x4x4x4096x4096, .f32⟩
  | 57 => ⟨S8x4x4x4096x4096, .f32⟩
  | 58 => ⟨S8x4x4x4096x4096, .f32⟩
  | 59 => ⟨S_, .f32⟩
  | 60 => ⟨S8x4x4x4096, .f32⟩
  | 61 => ⟨S8x4x4x4096x1, .f32⟩
  | 62 => ⟨S8x4x4x4096x32x128, .f32⟩
  | 63 => ⟨S8x4x4x4096x32x128, .f32⟩
  | 64 => ⟨S_, .f32⟩
  | 65 => ⟨S8x4x4x4096x32, .f32⟩
  | 66 => ⟨S8x4x4x4096x32x1, .f32⟩
  | 67 => ⟨S_, .f32⟩
  | 68 => ⟨S8x4x4x4096x32x1, .f32⟩
  | 69 => ⟨S8x4x4x4096x32x1, .f32⟩
  | 70 => ⟨S252, .f32⟩
  | 71 => ⟨S_, .f32⟩
  | 72 => ⟨S252, .f32⟩
  | 73 => ⟨S252, .f32⟩
  | 74 => ⟨S_, .f32⟩
  | 75 => ⟨S252, .f32⟩
  | 76 => ⟨S252, .f32⟩
  | 77 => ⟨S8x4x4x4096x32x1x1, .f32⟩
  | 78 => ⟨S1x1x1x1x1x1x252, .f32⟩
  | 79 => ⟨S8x4x4x4096x32x1x252, .f32⟩
  | 80 => ⟨S8x4x4x4096x32x1x252, .f32⟩
  | 81 => ⟨S8x4x4x4096x32x1x252, .i1⟩
  | 82 => ⟨S_, .f32⟩
  | 83 => ⟨S_, .f32⟩
  | 84 => ⟨S8x4x4x4096x32x1x252, .f32⟩
  | 85 => ⟨S8x4x4x4096x32x1x252, .f32⟩
  | 86 => ⟨S8x4x4x4096x32x1x252, .f32⟩
  | 87 => ⟨S_, .f32⟩
  | 88 => ⟨S8x4x4x4096x32x1, .f32⟩
  | 89 => ⟨S_, .f32⟩
  | 90 => ⟨S8x4x4x4096x32x1, .f32⟩
  | 91 => ⟨S8x4x4x4096x32x1, .i1⟩
  | 92 => ⟨S_, .f32⟩
  | 93 => ⟨S_, .f32⟩
  | 94 => ⟨S8x4x4x4096x32x1, .f32⟩
  | 95 => ⟨S8x4x4x4096x32x1, .f32⟩
  | 96 => ⟨S_, .f32⟩
  | 97 => ⟨S8x4x4x4096x32x1, .f32⟩
  | 98 => ⟨S8x4x4x4096x32x1, .f32⟩
  | 99 => ⟨S8x4x4x4096x32x128, .f32⟩
  | 100 => ⟨S8x4x4x4096x32x128, .f32⟩
  | 101 => ⟨S_, .f32⟩
  | 102 => ⟨S_, .f32⟩
  | 103 => ⟨S_, .f32⟩
  | 104 => ⟨S8x4x4x4096x32x128, .f32⟩
  | 105 => ⟨S8x4x4x4096x32x128, .f32⟩
  | 106 => ⟨S_, .f32⟩
  | 107 => ⟨S8x4x4x4096x32x128, .f32⟩
  | 108 => ⟨S8x4x4x4096x32x128, .f32⟩
  | 109 => ⟨S8x4x32x128x4x4096, .f32⟩
  | 110 => ⟨S8x4x4x4096x32x128, .f32⟩
  | 111 => ⟨S8x4x4x4096x32x128, .f32⟩
  | 112 => ⟨S8x4x4x4096x32x128, .f32⟩
  | 113 => ⟨S8x4x1x1x32x1, .f32⟩
  | 114 => ⟨S8x4x4x4096x32x128, .f32⟩
  | 115 => ⟨S8x4x4x4096x32x128, .f32⟩
  | 116 => ⟨S_, .f32⟩
  | 117 => ⟨S8x4x4x4096x128, .f32⟩
  | 118 => ⟨S8x4x4x4096x128, .f32⟩
  | 119 => ⟨S8x4x4x4096x128, .f32⟩
  | 120 => ⟨S8x4096x4x4x128, .f32⟩
  | 121 => ⟨S8x4096x2048, .f32⟩
  | 122 => ⟨S8x4096x2048, .bf16⟩
  | 123 => ⟨S8x4x32x4, .f32⟩
  | 124 => ⟨S8x4x32x4x128, .f32⟩
  | 125 => ⟨S8x4x32x512, .f32⟩
  | 126 => ⟨S8x4x32x1, .f32⟩
  | 127 => ⟨S8x4x32x1x128, .f32⟩
  | _ => ⟨S8x4096x2048, .bf16⟩

abbrev hbmTy0_2 (i : Nat) : BufTy := match i % 128 with
  | 0 => ⟨S8x4x32x128, .f32⟩
  | 1 => ⟨S8x4x32x1, .f32⟩
  | 2 => ⟨S8x4x32x1x128, .f32⟩
  | 3 => ⟨S8x4x32x128, .f32⟩
  | 4 => ⟨S8x16x32x128x128, .fp8e4m3⟩
  | 5 => ⟨S8x4x32x128x128, .fp8e4m3⟩
  | 6 => ⟨S8x4x32x128x128, .fp8e4m3⟩
  | _ => ⟨S8x4096x2048, .bf16⟩

abbrev hbmTy (i : Nat) : BufTy := match i / 128 with
  | 0 => hbmTy0_0 i
  | 1 => hbmTy0_1 i
  | 2 => hbmTy0_2 i
  | _ => ⟨S8x4096x2048, .bf16⟩

abbrev bufTy : (tb : Table) → Fin (tcTables nBuf tb) → BufTy
  | .hbm, ⟨i, _⟩ => hbmTy i
  | .local _ .vmem, ⟨0, _⟩ => ⟨S8x16x32x128x128, .f32⟩
  | .local _ .vmem, ⟨1, _⟩ => ⟨S8x4x32x128x128, .f32⟩
  | .local _ .vmem, ⟨2, _⟩ => ⟨S8x4x32x128x128, .f32⟩
  | .local _ .vmem, ⟨3, _⟩ => ⟨S8x16x32x128x128, .fp8e4m3⟩
  | .local _ .vmem, ⟨4, _⟩ => ⟨S8x4x32x128x128, .fp8e4m3⟩
  | .local _ .vmem, ⟨5, _⟩ => ⟨S8x4x32x128x128, .fp8e4m3⟩
  | _, _ => ⟨S8x4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_call0_v0 : Ref sig .tc := ⟨.hbm, 26, rfl⟩
abbrev main_call0_v1 : Ref sig .tc := ⟨.hbm, 27, rfl⟩
abbrev main_call0_v2 : Ref sig .tc := ⟨.hbm, 28, rfl⟩
abbrev main_v18 : Ref sig .tc := ⟨.hbm, 29, rfl⟩
abbrev main_cst_4 : Ref sig .tc := ⟨.hbm, 30, rfl⟩
abbrev main_v19 : Ref sig .tc := ⟨.hbm, 31, rfl⟩
abbrev main_cst_5 : Ref sig .tc := ⟨.hbm, 32, rfl⟩
abbrev main_v20 : Ref sig .tc := ⟨.hbm, 33, rfl⟩
abbrev main_v21 : Ref sig .tc := ⟨.hbm, 34, rfl⟩
abbrev main_cst_6 : Ref sig .tc := ⟨.hbm, 35, rfl⟩
abbrev main_call1_v0 : Ref sig .tc := ⟨.hbm, 36, rfl⟩
abbrev main_call1_v1 : Ref sig .tc := ⟨.hbm, 37, rfl⟩
abbrev main_v22 : Ref sig .tc := ⟨.hbm, 38, rfl⟩
abbrev main_cst_7 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_cst_8 : Ref sig .tc := ⟨.hbm, 44, rfl⟩
abbrev main_cst_9 : Ref sig .tc := ⟨.hbm, 45, rfl⟩
abbrev main_call2_v0 : Ref sig .tc := ⟨.hbm, 46, rfl⟩
abbrev main_call2_v1 : Ref sig .tc := ⟨.hbm, 47, rfl⟩
abbrev main_call2_v2 : Ref sig .tc := ⟨.hbm, 48, rfl⟩
abbrev main_call2_v3 : Ref sig .tc := ⟨.hbm, 49, rfl⟩
abbrev main_call2_v4 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_cst_10 : Ref sig .tc := ⟨.hbm, 56, rfl⟩
abbrev main_v32 : Ref sig .tc := ⟨.hbm, 57, rfl⟩
abbrev main_v33 : Ref sig .tc := ⟨.hbm, 58, rfl⟩
abbrev main_cst_11 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_cst_12 : Ref sig .tc := ⟨.hbm, 63, rfl⟩
abbrev main_v37 : Ref sig .tc := ⟨.hbm, 64, rfl⟩
abbrev main_v38 : Ref sig .tc := ⟨.hbm, 65, rfl⟩
abbrev main_cst_13 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_cst_14 : Ref sig .tc := ⟨.hbm, 74, rfl⟩
abbrev main_call3_v0 : Ref sig .tc := ⟨.hbm, 75, rfl⟩
abbrev main_call3_v1 : Ref sig .tc := ⟨.hbm, 76, rfl⟩
abbrev main_call3_v2 : Ref sig .tc := ⟨.hbm, 77, rfl⟩
abbrev main_v46 : Ref sig .tc := ⟨.hbm, 78, rfl⟩
abbrev main_cst_15 : Ref sig .tc := ⟨.hbm, 79, rfl⟩
abbrev main_v47 : Ref sig .tc := ⟨.hbm, 80, rfl⟩
abbrev main_cst_16 : Ref sig .tc := ⟨.hbm, 81, rfl⟩
abbrev main_v48 : Ref sig .tc := ⟨.hbm, 82, rfl⟩
abbrev main_v49 : Ref sig .tc := ⟨.hbm, 83, rfl⟩
abbrev main_cst_17 : Ref sig .tc := ⟨.hbm, 84, rfl⟩
abbrev main_call4_v0 : Ref sig .tc := ⟨.hbm, 85, rfl⟩
abbrev main_call4_v1 : Ref sig .tc := ⟨.hbm, 86, rfl⟩
abbrev main_v50 : Ref sig .tc := ⟨.hbm, 87, rfl⟩
abbrev main_cst_18 : Ref sig .tc := ⟨.hbm, 88, rfl⟩
abbrev main_v51 : Ref sig .tc := ⟨.hbm, 89, rfl⟩
abbrev main_v52 : Ref sig .tc := ⟨.hbm, 90, rfl⟩
abbrev main_v53 : Ref sig .tc := ⟨.hbm, 91, rfl⟩
abbrev main_v54 : Ref sig .tc := ⟨.hbm, 92, rfl⟩
abbrev main_cst_19 : Ref sig .tc := ⟨.hbm, 93, rfl⟩
abbrev main_cst_20 : Ref sig .tc := ⟨.hbm, 94, rfl⟩
abbrev main_call5_v0 : Ref sig .tc := ⟨.hbm, 95, rfl⟩
abbrev main_call5_v1 : Ref sig .tc := ⟨.hbm, 96, rfl⟩
abbrev main_call5_v2 : Ref sig .tc := ⟨.hbm, 97, rfl⟩
abbrev main_call5_v3 : Ref sig .tc := ⟨.hbm, 98, rfl⟩
abbrev main_call5_v4 : Ref sig .tc := ⟨.hbm, 99, rfl⟩
abbrev main_v55 : Ref sig .tc := ⟨.hbm, 100, rfl⟩
abbrev main_v56 : Ref sig .tc := ⟨.hbm, 101, rfl⟩
abbrev main_v57 : Ref sig .tc := ⟨.hbm, 102, rfl⟩
abbrev main_v58 : Ref sig .tc := ⟨.hbm, 103, rfl⟩
abbrev main_v59 : Ref sig .tc := ⟨.hbm, 104, rfl⟩
abbrev main_cst_21 : Ref sig .tc := ⟨.hbm, 105, rfl⟩
abbrev main_v60 : Ref sig .tc := ⟨.hbm, 106, rfl⟩
abbrev main_v61 : Ref sig .tc := ⟨.hbm, 107, rfl⟩
abbrev main_cst_22 : Ref sig .tc := ⟨.hbm, 108, rfl⟩
abbrev main_v62 : Ref sig .tc := ⟨.hbm, 109, rfl⟩
abbrev main_v63 : Ref sig .tc := ⟨.hbm, 110, rfl⟩
abbrev main_v64 : Ref sig .tc := ⟨.hbm, 111, rfl⟩
abbrev main_cst_23 : Ref sig .tc := ⟨.hbm, 112, rfl⟩
abbrev main_v65 : Ref sig .tc := ⟨.hbm, 113, rfl⟩
abbrev main_v66 : Ref sig .tc := ⟨.hbm, 114, rfl⟩
abbrev main_cst_24 : Ref sig .tc := ⟨.hbm, 115, rfl⟩
abbrev main_v67 : Ref sig .tc := ⟨.hbm, 116, rfl⟩
abbrev main_v68 : Ref sig .tc := ⟨.hbm, 117, rfl⟩
abbrev main_v69 : Ref sig .tc := ⟨.hbm, 118, rfl⟩
abbrev main_v70 : Ref sig .tc := ⟨.hbm, 119, rfl⟩
abbrev main_v71 : Ref sig .tc := ⟨.hbm, 120, rfl⟩
abbrev main_v72 : Ref sig .tc := ⟨.hbm, 121, rfl⟩
abbrev main_v73 : Ref sig .tc := ⟨.hbm, 122, rfl⟩
abbrev main_cst_25 : Ref sig .tc := ⟨.hbm, 123, rfl⟩
abbrev main_call6_v0 : Ref sig .tc := ⟨.hbm, 124, rfl⟩
abbrev main_call6_v1 : Ref sig .tc := ⟨.hbm, 125, rfl⟩
abbrev main_call6_v2 : Ref sig .tc := ⟨.hbm, 126, rfl⟩
abbrev main_v74 : Ref sig .tc := ⟨.hbm, 127, rfl⟩
abbrev main_cst_26 : Ref sig .tc := ⟨.hbm, 128, rfl⟩
abbrev main_v75 : Ref sig .tc := ⟨.hbm, 129, rfl⟩
abbrev main_cst_27 : Ref sig .tc := ⟨.hbm, 130, rfl⟩
abbrev main_v76 : Ref sig .tc := ⟨.hbm, 131, rfl⟩
abbrev main_v77 : Ref sig .tc := ⟨.hbm, 132, rfl⟩
abbrev main_cst_28 : Ref sig .tc := ⟨.hbm, 133, rfl⟩
abbrev main_call7_v0 : Ref sig .tc := ⟨.hbm, 134, rfl⟩
abbrev main_call7_v1 : Ref sig .tc := ⟨.hbm, 135, rfl⟩
abbrev main_v78 : Ref sig .tc := ⟨.hbm, 136, rfl⟩
abbrev main_cst_29 : Ref sig .tc := ⟨.hbm, 137, rfl⟩
abbrev main_v79 : Ref sig .tc := ⟨.hbm, 138, rfl⟩
abbrev main_v80 : Ref sig .tc := ⟨.hbm, 139, rfl⟩
abbrev main_v81 : Ref sig .tc := ⟨.hbm, 140, rfl⟩
abbrev main_v82 : Ref sig .tc := ⟨.hbm, 141, rfl⟩
abbrev main_cst_30 : Ref sig .tc := ⟨.hbm, 142, rfl⟩
abbrev main_cst_31 : Ref sig .tc := ⟨.hbm, 143, rfl⟩
abbrev main_call8_v0 : Ref sig .tc := ⟨.hbm, 144, rfl⟩
abbrev main_call8_v1 : Ref sig .tc := ⟨.hbm, 145, rfl⟩
abbrev main_call8_v2 : Ref sig .tc := ⟨.hbm, 146, rfl⟩
abbrev main_call8_v3 : Ref sig .tc := ⟨.hbm, 147, rfl⟩
abbrev main_call8_v4 : Ref sig .tc := ⟨.hbm, 148, rfl⟩
abbrev main_v83 : Ref sig .tc := ⟨.hbm, 149, rfl⟩
abbrev main_v84 : Ref sig .tc := ⟨.hbm, 150, rfl⟩
abbrev main_v85 : Ref sig .tc := ⟨.hbm, 151, rfl⟩
abbrev main_v86 : Ref sig .tc := ⟨.hbm, 152, rfl⟩
abbrev main_v87 : Ref sig .tc := ⟨.hbm, 153, rfl⟩
abbrev main_v88 : Ref sig .tc := ⟨.hbm, 154, rfl⟩
abbrev main_v89 : Ref sig .tc := ⟨.hbm, 155, rfl⟩
abbrev main_v90 : Ref sig .tc := ⟨.hbm, 156, rfl⟩
abbrev main_cst_32 : Ref sig .tc := ⟨.hbm, 157, rfl⟩
abbrev main_v91 : Ref sig .tc := ⟨.hbm, 158, rfl⟩
abbrev main_v92 : Ref sig .tc := ⟨.hbm, 159, rfl⟩
abbrev main_v93 : Ref sig .tc := ⟨.hbm, 160, rfl⟩
abbrev main_v94 : Ref sig .tc := ⟨.hbm, 161, rfl⟩
abbrev main_v95 : Ref sig .tc := ⟨.hbm, 162, rfl⟩
abbrev main_v96 : Ref sig .tc := ⟨.hbm, 163, rfl⟩
abbrev main_v97 : Ref sig .tc := ⟨.hbm, 164, rfl⟩
abbrev main_v98 : Ref sig .tc := ⟨.hbm, 165, rfl⟩
abbrev main_v99 : Ref sig .tc := ⟨.hbm, 166, rfl⟩
abbrev main_v100 : Ref sig .tc := ⟨.hbm, 167, rfl⟩
abbrev main_v101 : Ref sig .tc := ⟨.hbm, 168, rfl⟩
abbrev main_v102 : Ref sig .tc := ⟨.hbm, 169, rfl⟩
abbrev main_v103 : Ref sig .tc := ⟨.hbm, 170, rfl⟩
abbrev main_v104 : Ref sig .tc := ⟨.hbm, 171, rfl⟩
abbrev main_v105 : Ref sig .tc := ⟨.hbm, 172, rfl⟩
abbrev main_v106 : Ref sig .tc := ⟨.hbm, 173, rfl⟩
abbrev main_v107 : Ref sig .tc := ⟨.hbm, 174, rfl⟩
abbrev main_v108 : Ref sig .tc := ⟨.hbm, 175, rfl⟩
abbrev main_cst_33 : Ref sig .tc := ⟨.hbm, 176, rfl⟩
abbrev main_call9_v0 : Ref sig .tc := ⟨.hbm, 177, rfl⟩
abbrev main_call9_v1 : Ref sig .tc := ⟨.hbm, 178, rfl⟩
abbrev main_call9_v2 : Ref sig .tc := ⟨.hbm, 179, rfl⟩
abbrev main_v109 : Ref sig .tc := ⟨.hbm, 180, rfl⟩
abbrev main_cst_34 : Ref sig .tc := ⟨.hbm, 181, rfl⟩
abbrev main_v110 : Ref sig .tc := ⟨.hbm, 182, rfl⟩
abbrev main_v111 : Ref sig .tc := ⟨.hbm, 183, rfl⟩
abbrev main_v112 : Ref sig .tc := ⟨.hbm, 184, rfl⟩
abbrev main_v113 : Ref sig .tc := ⟨.hbm, 185, rfl⟩
abbrev main_v114 : Ref sig .tc := ⟨.hbm, 186, rfl⟩
abbrev main_cst_35 : Ref sig .tc := ⟨.hbm, 187, rfl⟩
abbrev main_v115 : Ref sig .tc := ⟨.hbm, 188, rfl⟩
abbrev main_v116 : Ref sig .tc := ⟨.hbm, 189, rfl⟩
abbrev main_v117 : Ref sig .tc := ⟨.hbm, 190, rfl⟩
abbrev main_v118 : Ref sig .tc := ⟨.hbm, 191, rfl⟩
abbrev main_cst_36 : Ref sig .tc := ⟨.hbm, 192, rfl⟩
abbrev main_v119 : Ref sig .tc := ⟨.hbm, 193, rfl⟩
abbrev main_v120 : Ref sig .tc := ⟨.hbm, 194, rfl⟩
abbrev main_cst_37 : Ref sig .tc := ⟨.hbm, 195, rfl⟩
abbrev main_v121 : Ref sig .tc := ⟨.hbm, 196, rfl⟩
abbrev main_v122 : Ref sig .tc := ⟨.hbm, 197, rfl⟩
abbrev main_v123 : Ref sig .tc := ⟨.hbm, 198, rfl⟩
abbrev main_cst_38 : Ref sig .tc := ⟨.hbm, 199, rfl⟩
abbrev main_v124 : Ref sig .tc := ⟨.hbm, 200, rfl⟩
abbrev main_v125 : Ref sig .tc := ⟨.hbm, 201, rfl⟩
abbrev main_cst_39 : Ref sig .tc := ⟨.hbm, 202, rfl⟩
abbrev main_v126 : Ref sig .tc := ⟨.hbm, 203, rfl⟩
abbrev main_v127 : Ref sig .tc := ⟨.hbm, 204, rfl⟩
abbrev main_v128 : Ref sig .tc := ⟨.hbm, 205, rfl⟩
abbrev main_v129 : Ref sig .tc := ⟨.hbm, 206, rfl⟩
abbrev main_v130 : Ref sig .tc := ⟨.hbm, 207, rfl⟩
abbrev main_v131 : Ref sig .tc := ⟨.hbm, 208, rfl⟩
abbrev main_v132 : Ref sig .tc := ⟨.hbm, 209, rfl⟩
abbrev main_cst_40 : Ref sig .tc := ⟨.hbm, 210, rfl⟩
abbrev main_call10_v0 : Ref sig .tc := ⟨.hbm, 211, rfl⟩
abbrev main_call10_v1 : Ref sig .tc := ⟨.hbm, 212, rfl⟩
abbrev main_call10_v2 : Ref sig .tc := ⟨.hbm, 213, rfl⟩
abbrev main_v133 : Ref sig .tc := ⟨.hbm, 214, rfl⟩
abbrev main_cst_41 : Ref sig .tc := ⟨.hbm, 215, rfl⟩
abbrev main_v134 : Ref sig .tc := ⟨.hbm, 216, rfl⟩
abbrev main_cst_42 : Ref sig .tc := ⟨.hbm, 217, rfl⟩
abbrev main_v135 : Ref sig .tc := ⟨.hbm, 218, rfl⟩
abbrev main_v136 : Ref sig .tc := ⟨.hbm, 219, rfl⟩
abbrev main_cst_43 : Ref sig .tc := ⟨.hbm, 220, rfl⟩
abbrev main_call11_v0 : Ref sig .tc := ⟨.hbm, 221, rfl⟩
abbrev main_call11_v1 : Ref sig .tc := ⟨.hbm, 222, rfl⟩
abbrev main_v137 : Ref sig .tc := ⟨.hbm, 223, rfl⟩
abbrev main_cst_44 : Ref sig .tc := ⟨.hbm, 224, rfl⟩
abbrev main_v138 : Ref sig .tc := ⟨.hbm, 225, rfl⟩
abbrev main_v139 : Ref sig .tc := ⟨.hbm, 226, rfl⟩
abbrev main_v140 : Ref sig .tc := ⟨.hbm, 227, rfl⟩
abbrev main_v141 : Ref sig .tc := ⟨.hbm, 228, rfl⟩
abbrev main_cst_45 : Ref sig .tc := ⟨.hbm, 229, rfl⟩
abbrev main_cst_46 : Ref sig .tc := ⟨.hbm, 230, rfl⟩
abbrev main_call12_v0 : Ref sig .tc := ⟨.hbm, 231, rfl⟩
abbrev main_call12_v1 : Ref sig .tc := ⟨.hbm, 232, rfl⟩
abbrev main_call12_v2 : Ref sig .tc := ⟨.hbm, 233, rfl⟩
abbrev main_call12_v3 : Ref sig .tc := ⟨.hbm, 234, rfl⟩
abbrev main_call12_v4 : Ref sig .tc := ⟨.hbm, 235, rfl⟩
abbrev main_v142 : Ref sig .tc := ⟨.hbm, 236, rfl⟩
abbrev main_v143 : Ref sig .tc := ⟨.hbm, 237, rfl⟩
abbrev main_v144 : Ref sig .tc := ⟨.hbm, 238, rfl⟩
abbrev main_v145 : Ref sig .tc := ⟨.hbm, 239, rfl⟩
abbrev main_v146 : Ref sig .tc := ⟨.hbm, 240, rfl⟩
abbrev main_v147 : Ref sig .tc := ⟨.hbm, 241, rfl⟩
abbrev main_v148 : Ref sig .tc := ⟨.hbm, 242, rfl⟩
abbrev main_v149 : Ref sig .tc := ⟨.hbm, 243, rfl⟩
abbrev main_cst_47 : Ref sig .tc := ⟨.hbm, 244, rfl⟩
abbrev main_v150 : Ref sig .tc := ⟨.hbm, 245, rfl⟩
abbrev main_v151 : Ref sig .tc := ⟨.hbm, 246, rfl⟩
abbrev main_v152 : Ref sig .tc := ⟨.hbm, 247, rfl⟩
abbrev main_v153 : Ref sig .tc := ⟨.hbm, 248, rfl⟩
abbrev main_v154 : Ref sig .tc := ⟨.hbm, 249, rfl⟩
abbrev main_v155 : Ref sig .tc := ⟨.hbm, 250, rfl⟩
abbrev main_v156 : Ref sig .tc := ⟨.hbm, 251, rfl⟩
abbrev main_v157 : Ref sig .tc := ⟨.hbm, 252, rfl⟩
abbrev main_v158 : Ref sig .tc := ⟨.hbm, 253, rfl⟩
abbrev main_v159 : Ref sig .tc := ⟨.hbm, 254, rfl⟩
abbrev main_v160 : Ref sig .tc := ⟨.hbm, 255, rfl⟩
abbrev main_v161 : Ref sig .tc := ⟨.hbm, 256, rfl⟩
abbrev main_v162 : Ref sig .tc := ⟨.hbm, 257, rfl⟩
abbrev main_v163 : Ref sig .tc := ⟨.hbm, 258, rfl⟩
abbrev main_v164 : Ref sig .tc := ⟨.hbm, 259, rfl⟩
abbrev main_v165_0 : Ref sig .tc := ⟨.hbm, 260, rfl⟩
abbrev main_v165_1 : Ref sig .tc := ⟨.hbm, 261, rfl⟩
abbrev main_v165_2 : Ref sig .tc := ⟨.hbm, 262, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S8x16x32x128x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x4x32x128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x4x32x128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x16x32x128x128 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8x4x32x128x128 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8x4x32x128x128 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.KernelFrame.lean ====
/-
  The FRAME of the kernel: it terminates from any memory, nothing faults, and its three argument arrays end unchanged with
  every counter at zero. The body is run once, symbolically, from any contents of its staging buffers and of its scratch;
  what it leaves in the outputs and in the scratch is not named. The launch is the library's, with the outputs forgotten.
-/
module

public import proofs.«01_k».proof.Proof.Gen.Kernel.Frame
public import proofs.«01_k».proof.Proof.Gen.Kernel.Skeleton
public import proofs.«01_k».proof.Proof.Gen.Kernel.Loops
public import Idealize.ShloMosaic.Lib.Pipeline.Frame
public import Idealize.ShloMosaic.Lib.Tactic

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The body's triple, for any continuation: from its inputs at contents `x`, `k`, `v` and its outputs and scratch at
    anything, the kernel runs to its return, handing back the inputs as they were and the rest at some contents. -/
theorem kernelRun (c : Dev nD) (i : grid0.Coords) (arg3 : Memref sig .tc .vmem S1x128x512 .bf16) (harg3 : arg3.IsWhole) (arg4 : Memref sig .tc .vmem S1x128x128 .bf16) (harg4 : arg4.IsWhole) (arg5 : Memref sig .tc .vmem S1x128x128 .bf16) (harg5 : arg5.IsWhole) (arg6 : Memref sig .tc .vmem S1x128x512 .bf16) (harg6 : arg6.IsWhole) (arg7 : Memref sig .tc .vmem S1x4x1x128x128 .fp8e4m3) (harg7 : arg7.IsWhole) (arg8 : Memref sig .tc .vmem S1x1x32x512 .f32) (harg8 : arg8.IsWhole) (arg9 : Memref sig .tc .vmem S1x1x1x128x128 .fp8e4m3) (harg9 : arg9.IsWhole) (arg10 : Memref sig .tc .vmem S1x1x32x128 .f32) (harg10 : arg10.IsWhole) (arg11 : Memref sig .tc .vmem S1x1x1x128x128 .fp8e4m3) (harg11 : arg11.IsWhole) (arg12 : Memref sig .tc .vmem S1x1x32x128 .f32) (harg12 : arg12.IsWhole) (arg13 : Memref sig .tc .vmem S512x128 .fp8e4m3) (harg13 : arg13.IsWhole) (arg14 : Memref sig .tc .vmem S32x128x128 .fp8e4m3) (harg14 : arg14.IsWhole) (arg15 : Memref sig .tc .vmem S32x128x128 .fp8e4m3) (harg15 : arg15.IsWhole) (arg16 : Memref sig .tc .vmem S32x128x512 .f32) (harg16 : arg16.IsWhole) (arg17 : Memref sig .tc .vmem S32x512 .f32) (harg17 : arg17.IsWhole) (arg18 : Memref sig .tc .vmem S32x512 .f32) (harg18 : arg18.IsWhole) (arg19 : Memref sig .tc .vmem S32x512 .f32) (harg19 : arg19.IsWhole) (arg20 : Memref sig .tc .vmem S32x512 .f32) (harg20 : arg20.IsWhole) (arg21 : Memref sig .tc .vmem S128x512 .f32) (harg21 : arg21.IsWhole)
    (x : S1x128x512.Idx → Elt F .bf16) (k v : S1x128x128.Idx → Elt F .bf16) (K : PUnit → sProp 𝕄) :
    iprop(owns (c : Thread nD τ) arg3 fullShare x ∗ owns (c : Thread nD τ) arg4 fullShare k ∗ owns (c : Thread nD τ) arg5 fullShare v ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d)
        ∗ (iprop(owns (c : Thread nD τ) arg3 fullShare x ∗ owns (c : Thread nD τ) arg4 fullShare k ∗ owns (c : Thread nD τ) arg5 fullShare v ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d)) -∗ K ⟨⟩))
      ⊢ wp frame (wpE (defs₀ (F := F)) Variants.none c none) Set.univ
          (cc0_fp8_causal_gqa i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K := by
  unfold owns
  iintro ⟨⟨%f3, %h3, H3⟩, ⟨%f4, %h4, H4⟩, ⟨%f5, %h5, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, Hk⟩
  by_cases hz : Scalar.cmpi .ne (Scalar.extui (Scalar.cmpi .eq (BitVec.ofNat 32 (i 2).val) 0#32)) 0#32 = 1#1
  all_goals
    sl_exec_parts
    sl_step
    iapply Hk
    isplitl [H3]
    · iexists _; isplitr; swap; · iexact H3
      ipureintro; exact h3
    isplitl [H4]
    · iexists _; isplitr; swap; · iexact H4
      ipureintro; exact h4
    isplitl [H5]
    · iexists _; isplitr; swap; · iexact H5
      ipureintro; exact h5
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    isplitl [H13]
    · iexists _, _; isplitr; swap; · iexact H13
      ipureintro; rfl
    isplitl [H14]
    · iexists _, _; isplitr; swap; · iexact H14
      ipureintro; rfl
    isplitl [H15]
    · iexists _, _; isplitr; swap; · iexact H15
      ipureintro; rfl
    isplitl [H16]
    · iexists _, _; isplitr; swap; · iexact H16
      ipureintro; rfl
    isplitl [H17]
    · iexists _, _; isplitr; swap; · iexact H17
      ipureintro; rfl
    isplitl [H18]
    · iexists _, _; isplitr; swap; · iexact H18
      ipureintro; rfl
    isplitl [H19]
    · iexists _, _; isplitr; swap; · iexact H19
      ipureintro; rfl
    isplitl [H20]
    · iexists _, _; isplitr; swap; · iexact H20
      ipureintro; rfl
    iexists _, _; isplitr; swap; · iexact H21
    ipureintro; rfl

/-! ## The proof data and the body obligation -/

/-- The outputs, forgotten: nothing here reads what the kernel leaves in them. -/
def forgets0 : Fin 10 → Bool := fun w => decide (3 ≤ w.val)

/-- The proof data on core `c`: every window's array as the region finds it; an input's buffer left at its block; the class
    invariant (the scratch at some contents); full shares; nothing owed. -/
def dats (_ : Fin 1) (c : Dev nD) : Dat τ (Elt F) Unit ℕ (UR sig nD τ) ℕ cfg0 c where
  A w := V m c (Pipeline.arrRef spec0 w)
  after w t := match w with
    | 0 => iblk m c 0 t
    | 1 => iblk m c 1 t
    | 2 => iblk m c 2 t
    | w => Pipeline.Dat.unnamed (cfg := cfg0) w t
  Φ _ := Pipeline.ΦA spec0 c
  q _ := fullShare
  owed _ := 0

theorem A_eq (c : Dev nD) (w : Fin cfg0.W) : (dats m 0 c).A w = V m c (Pipeline.arrRef spec0 w) := by dsimp only [dats]

/-- The class invariant, conjunct by conjunct. -/
theorem PhiA0_eq (c : Dev nD) :
    (Pipeline.ΦA (Val := Elt F) (U := UR sig nD τ) spec0 c : sProp 𝕄)
      = iprop(iprop((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d) ∗ (∃ d, owns (c : Thread nD τ) (Memref.whole cc0_scratch5) fullShare d) ∗ (∃ d, owns (c : Thread nD τ) (Memref.whole cc0_scratch6) fullShare d) ∗ (∃ d, owns (c : Thread nD τ) (Memref.whole cc0_scratch7) fullShare d) ∗ (∃ d, owns (c : Thread nD τ) (Memref.whole cc0_scratch8) fullShare d)) ∗ (∃ r, prngReg c r)) := by
  unfold Pipeline.ΦA; rw [scopedRest0_eq]; simp only [owns_whole]; try rfl

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare d) ∗ (∃ d, owns (c : Thread nD τ) (st0_4 t) fullShare d) ∗ (∃ d, owns (c : Thread nD τ) (st0_5 t) fullShare d) ∗ (∃ d, owns (c : Thread nD τ) (st0_6 t) fullShare d) ∗ (∃ d, owns (c : Thread nD τ) (st0_7 t) fullShare d) ∗ (∃ d, owns (c : Thread nD τ) (st0_8 t) fullShare d) ∗ (∃ d, owns (c : Thread nD τ) (st0_9 t) fullShare d))
/-- What the body returns at point `t`. -/
def bodyPost (c : Dev nD) (t : Fin cfg0.N) : sProp 𝕄 :=
  iprop((dats m 0 c).Φ t.succ ∗ (dats m 0 c).owesAt () t.succ
    ∗ owns (c : Thread nD τ) (st0_0 t) fullShare (iblk m c 0 t) ∗ owns (c : Thread nD τ) (st0_1 t) fullShare (iblk m c 1 t) ∗ owns (c : Thread nD τ) (st0_2 t) fullShare (iblk m c 2 t)
    ∗ (∃ d, owns (c : Thread nD τ) (st0_3 t) fullShare d) ∗ (∃ d, owns (c : Thread nD τ) (st0_4 t) fullShare d) ∗ (∃ d, owns (c : Thread nD τ) (st0_5 t) fullShare d) ∗ (∃ d, owns (c : Thread nD τ) (st0_6 t) fullShare d) ∗ (∃ d, owns (c : Thread nD τ) (st0_7 t) fullShare d) ∗ (∃ d, owns (c : Thread nD τ) (st0_8 t) fullShare d) ∗ (∃ d, owns (c : Thread nD τ) (st0_9 t) fullShare d))

/-- The body at the point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0_of m (dats m 0 c) (A_eq m c 0) (fun _ => rfl), before0_1_of m (dats m 0 c) (A_eq m c 1) (fun _ => rfl),
    before0_2_of m (dats m 0 c) (A_eq m c 2) (fun _ => rfl)]
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl, PhiA0_eq]
  iintro ⟨⟨⟨S0, S1, S2, S3, S4, S5, S6, S7, S8⟩, Hg⟩, HO, ⟨%d0, W0⟩, ⟨%d1, W1⟩, ⟨%d2, W2⟩, W3, W4, W5, W6, W7, W8, W9⟩
  iapply (kernelRun c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (iblk m c 0 t) (iblk m c 1 t) (iblk m c 2 t) _)
  isplitl [W0]; · iexact W0
  isplitl [W1]; · iexact W1
  isplitl [W2]; · iexact W2
  isplitl [W3]; · iexact W3
  isplitl [W4]; · iexact W4
  isplitl [W5]; · iexact W5
  isplitl [W6]; · iexact W6
  isplitl [W7]; · iexact W7
  isplitl [W8]; · iexact W8
  isplitl [W9]; · iexact W9
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  isplitl [S8]; · iexact S8
  iintro ⟨W0, W1, W2, W3, W4, W5, W6, W7, W8, W9, S0, S1, S2, S3, S4, S5, S6, S7, S8⟩
  isplitl [S0 S1 S2 S3 S4 S5 S6 S7 S8 Hg]
  · isplitr [Hg]
    · isplitl [S0]; iexact S0; isplitl [S1]; iexact S1; isplitl [S2]; iexact S2; isplitl [S3]; iexact S3; isplitl [S4]; iexact S4; isplitl [S5]; iexact S5; isplitl [S6]; iexact S6; isplitl [S7]; iexact S7; iexact S8
    · iexact Hg
  isplitl [HO]; · iexact HO
  isplitl [W0]; · iexact W0
  isplitl [W1]; · iexact W1
  isplitl [W2]; · iexact W2
  isplitl [W3]; · iexact W3
  isplitl [W4]; · iexact W4
  isplitl [W5]; · iexact W5
  isplitl [W6]; · iexact W6
  isplitl [W7]; · iexact W7
  isplitl [W8]; · iexact W8
  iexact W9

/-- The body table's row at the point is the body as `bodyAt0` spells it. -/
theorem defs₀_row (t : Fin cfg0.N) : defs₀ (F := F) .tc cfg0.body (cfg0.bodyArgs t (cfg0.slots t)) = bodyAt0 t := by
  unfold defs₀; rw [Defs.onTc_tc]

/-- The library's body obligation with the outputs forgotten: the triple restated. -/
theorem body_obligation (c : Dev nD) :
    BodyObligation (dats (F := F) m 0 c) (defs₀ (F := F)) Variants.none () Set.univ forgets0 := fun t => by
  rw [bigSep_W0, bigSep_W0, defs₀_row]
  exact triple_restated (sound_body m c t) rfl .rfl fun _ => .rfl

/-! ## The launch -/

-- the launch theorem's implicit arguments are found by unifying its conclusion with this statement, which unifies only
-- when unification may unfold plain definitions in a metavariable's type
set_option backward.isDefEq.respectTransparency.types false in
/-- Every weakly fair execution terminates, and every final state has the inputs' arrays as launched and every counter at
    zero; nothing is said of the forgotten outputs. -/
theorem run_main :
    θ_run defs (onTc (τ := τ) (main (F := F))) (s₀ m ρ)
      (fun r => Pipeline.RDat.FramePost (cfgs 0) (fun c => (dats m 0 c).toRForget forgets0) (V m) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The arguments end unchanged and every counter is zero. -/
theorem frame :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) :=
  (θ_run defs _ _).mono (fun r h => ⟨fun c => ⟨h.1.arr_in c 0 rfl, h.1.arr_in c 1 rfl, h.1.arr_in c 2 rfl⟩, h.2⟩) (run_main m ρ)

end Cert.Kernel.Hand

end
-- ==== Proof.KernelIdealFrame.lean ====
/-
  The windows of the launch of the kernel read over the extended reals: which of them are outputs, the scratch as the launch
  hands it over, and the body as the launch calls it.
-/
module

public import proofs.«01_k».proof.Proof.Gen.KernelIdeal.Frame
public import proofs.«01_k».proof.Proof.Gen.KernelIdeal.Skeleton
public import proofs.«01_k».proof.Proof.Gen.KernelIdeal.Loops
public import Idealize.ShloMosaic.Lib.Pipeline.Frame
public import Idealize.ShloMosaic.Lib.Tactic

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The output windows. -/
def forgets0 : Fin 10 → Bool := fun w => decide (3 ≤ w.val)

/-- The class invariant, conjunct by conjunct. -/
theorem PhiA0_eq (c : Dev nD) :
    (Pipeline.ΦA (Val := Elt F) (U := UR sig nD τ) spec0 c : sProp 𝕄)
      = iprop(iprop((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d) ∗ (∃ d, owns (c : Thread nD τ) (Memref.whole cc0_scratch5) fullShare d) ∗ (∃ d, owns (c : Thread nD τ) (Memref.whole cc0_scratch6) fullShare d) ∗ (∃ d, owns (c : Thread nD τ) (Memref.whole cc0_scratch7) fullShare d) ∗ (∃ d, owns (c : Thread nD τ) (Memref.whole cc0_scratch8) fullShare d)) ∗ (∃ r, prngReg c r)) := by
  unfold Pipeline.ΦA; rw [scopedRest0_eq]; simp only [owns_whole]; try rfl

/-- The body table's row at the point is the body as `bodyAt0` spells it. -/
theorem defs₀_row (t : Fin cfg0.N) : defs₀ (F := F) .tc cfg0.body (cfg0.bodyArgs t (cfg0.slots t)) = bodyAt0 t := by
  unfold defs₀; rw [Defs.onTc_tc]

end Cert.KernelIdeal.Hand

end
-- ==== Proof.Scale.lean ====
/-
  The power of two that a block is divided by, stated twice: by counting the powers of two that do not exceed the block's
  largest magnitude over 448 and building the float of the next exponent from its bits, and as the smallest power of two
  above it. The two agree at every extended real.
-/
module

public import Idealize.ShloMosaic.PureOps.Ideal
public import Idealize.ShloMosaic.Lib.Pointwise

@[expose] public section

noncomputable section

namespace Cert.Scale

open Idealize.ShloMosaic

/-! ## The powers -/

/-- `2 ^ (n - 126)`. -/
def T (n : ℕ) : EReal := (((2 : ℝ) ^ ((n : ℤ) - 126) : ℝ) : EReal)

theorem T_lt {a b : ℕ} (h : a < b) : T a < T b :=
  EReal.coe_lt_coe_iff.mpr (zpow_lt_zpow_right₀ (by norm_num) (by omega))
theorem T_le {a b : ℕ} (h : a ≤ b) : T a ≤ T b :=
  EReal.coe_le_coe_iff.mpr (zpow_le_zpow_right₀ (by norm_num) (by omega))

theorem ofBits_field : ∀ k : Fin 254, Ideal.ofBits .f32 (BitVec.ofNat 32 (k.val + 1) <<< 23) = T k.val := by
  intro k
  have hk := k.isLt
  have e1 : (BitVec.extractLsb' 31 1 (BitVec.ofNat 32 (k.val + 1) <<< 23) == 1#1) = false := by
    have h : ∀ k : Fin 254, (BitVec.extractLsb' 31 1 (BitVec.ofNat 32 (k.val + 1) <<< 23) == 1#1) = false := by decide +kernel
    exact h k
  have e2 : (BitVec.extractLsb' 23 8 (BitVec.ofNat 32 (k.val + 1) <<< 23)).toNat = k.val + 1 := by
    have h : ∀ k : Fin 254, (BitVec.extractLsb' 23 8 (BitVec.ofNat 32 (k.val + 1) <<< 23)).toNat = k.val + 1 := by decide +kernel
    exact h k
  have e3 : (BitVec.extractLsb' 0 23 (BitVec.ofNat 32 (k.val + 1) <<< 23)).toNat = 0 := by
    have h : ∀ k : Fin 254, (BitVec.extractLsb' 0 23 (BitVec.ofNat 32 (k.val + 1) <<< 23)).toNat = 0 := by decide +kernel
    exact h k
  show Ideal.ieee 8 23 _ = _
  unfold Ideal.ieee
  simp only [e1, e2, e3, Nat.reduceAdd]
  rw [if_neg (by omega), if_neg (by omega)]
  unfold T
  refine congrArg _ ?_
  rw [show ((k.val : ℤ) - 126) = (23 : ℤ) + (((k.val + 1 : ℕ) : ℤ) - (2 ^ (8 - 1) - 1) - (23 : ℕ)) by push_cast; omega, zpow_add₀ (by norm_num)]
  norm_num

/-! ## Counting -/

theorem exists_count (a : EReal) : ∃ N : ℕ, N ≤ 252 ∧ ∀ n : ℕ, n < 252 → (T n ≤ a ↔ n < N) := by
  classical
  by_cases h : ∃ n, n < 252 ∧ ¬ T n ≤ a
  · refine ⟨Nat.find h, le_of_lt (Nat.find_spec h).1, fun n hn => ⟨fun hT => ?_, fun hN => ?_⟩⟩
    · by_contra hc
      exact (Nat.find_spec h).2 ((T_le (not_lt.mp hc)).trans hT)
    · by_contra hc
      exact absurd (Nat.find_min' h ⟨hn, hc⟩) (not_le.mpr hN)
  · push Not at h
    exact ⟨252, le_rfl, fun n hn => ⟨fun _ => hn, fun _ => h n hn⟩⟩

/-- The number of the powers `2 ^ (-126) … 2 ^ 125` that do not exceed `a`, as a word. -/
def cnt (a : EReal) : BitVec 32 :=
  Finset.fold IntOp.addi 0#32 (fun x : Fin 252 => BitVec.setWidth 32 (BitVec.ofBool (decide (Ideal.ofBits .f32 (IntOp.shli .vector (IntOp.addi (BitVec.ofNat 32 x.val) 1#32) 23#32) ≤ a)))) Finset.univ

theorem fold_addi {ι : Type} (s : Finset ι) (p : ι → Prop) [DecidablePred p] :
    Finset.fold IntOp.addi 0#32 (fun x => BitVec.setWidth 32 (BitVec.ofBool (decide (p x)))) s = BitVec.ofNat 32 (s.filter p).card := by
  classical
  induction s using Finset.induction_on with
  | empty => rfl
  | insert x s hx ih =>
    rw [Finset.fold_insert hx, ih, Finset.filter_insert]
    by_cases h : p x
    · rw [if_pos h, Finset.card_insert_of_notMem (fun hc => hx (Finset.mem_filter.mp hc).1)]
      simp only [h, decide_true]
      show BitVec.add 1#32 _ = _
      rw [Nat.add_comm, BitVec.ofNat_add]; rfl
    · rw [if_neg h]
      simp only [h, decide_false]
      show BitVec.add 0#32 _ = _
      exact BitVec.zero_add _

theorem shli_eq (x : Fin 252) : IntOp.shli .vector (IntOp.addi (BitVec.ofNat 32 x.val) 1#32) 23#32 = BitVec.ofNat 32 (x.val + 1) <<< 23 := by
  have h : ∀ x : Fin 252, IntOp.shli .vector (IntOp.addi (BitVec.ofNat 32 x.val) 1#32) 23#32 = BitVec.ofNat 32 (x.val + 1) <<< 23 := by decide +kernel
  exact h x

theorem cnt_eq {a : EReal} {N : ℕ} (hN : N ≤ 252) (h : ∀ n : ℕ, n < 252 → (T n ≤ a ↔ n < N)) : cnt a = BitVec.ofNat 32 N := by
  unfold cnt
  rw [fold_addi]
  congr 1
  have e : (Finset.univ.filter fun x : Fin 252 => Ideal.ofBits .f32 (IntOp.shli .vector (IntOp.addi (BitVec.ofNat 32 x.val) 1#32) 23#32) ≤ a)
      = Finset.univ.filter fun x : Fin 252 => x.val < N := by
    refine Finset.filter_congr fun x _ => ?_
    rw [shli_eq, ofBits_field ⟨x.val, by omega⟩]
    exact h x.val x.isLt
  rw [e, Fin.card_filter_val_lt, Nat.min_eq_right hN]

/-! ## The scale -/

/-- The exponent of the scale, as a word. -/
def expo (a : EReal) : BitVec 32 := Scalar.select (IntOp.cmpi .eq (cnt a) 0#32) 0#32 (IntOp.subi (cnt a) 126#32)
/-- The scale and its reciprocal, from their bits. -/
def up (a : EReal) : EReal := Ideal.ofBits .f32 (IntOp.shli .vector (IntOp.addi (expo a) 127#32) 23#32)
def down (a : EReal) : EReal := Ideal.ofBits .f32 (IntOp.shli .vector (IntOp.addi (IntOp.subi 0#32 (expo a)) 127#32) 23#32)

/-- The scale that `N` powers not exceeding the number give. -/
def U (N : ℕ) : EReal := if N = 0 then 1 else T N

theorem up_eq {a : EReal} {N : ℕ} (hN : N ≤ 252) (h : ∀ n : ℕ, n < 252 → (T n ≤ a ↔ n < N)) : up a = U N := by
  unfold up expo
  rw [cnt_eq hN h]
  have hw : ∀ n : Fin 253, IntOp.shli .vector (IntOp.addi (Scalar.select (IntOp.cmpi .eq (BitVec.ofNat 32 n.val) 0#32) 0#32 (IntOp.subi (BitVec.ofNat 32 n.val) 126#32)) 127#32) 23#32
      = BitVec.ofNat 32 ((if n.val = 0 then 126 else n.val) + 1) <<< 23 := by decide +kernel
  rw [hw ⟨N, by omega⟩]
  unfold U
  by_cases h0 : N = 0
  · simp only [h0, if_true]
    rw [ofBits_field ⟨126, by norm_num⟩]
    unfold T; norm_num
  · simp only [h0, if_false]
    exact ofBits_field ⟨N, by omega⟩

theorem T_inv {a b : ℕ} (h : a + b = 252) : T b = (T a)⁻¹ := by
  unfold T
  rw [← EReal.coe_inv, ← zpow_neg]
  congr 2; omega

theorem down_eq {a : EReal} {N : ℕ} (hN : N ≤ 252) (h : ∀ n : ℕ, n < 252 → (T n ≤ a ↔ n < N)) : down a = (U N)⁻¹ := by
  unfold down expo
  rw [cnt_eq hN h]
  have hw : ∀ n : Fin 253, IntOp.shli .vector (IntOp.addi (IntOp.subi 0#32 (Scalar.select (IntOp.cmpi .eq (BitVec.ofNat 32 n.val) 0#32) 0#32 (IntOp.subi (BitVec.ofNat 32 n.val) 126#32))) 127#32) 23#32
      = BitVec.ofNat 32 ((if n.val = 0 then 126 else 252 - n.val) + 1) <<< 23 := by decide +kernel
  rw [hw ⟨N, by omega⟩]
  unfold U
  by_cases h0 : N = 0
  · simp only [h0, if_true]
    rw [ofBits_field ⟨126, by norm_num⟩]
    unfold T; norm_num
  · simp only [h0, if_false]
    rw [ofBits_field ⟨252 - N, by omega⟩]
    exact T_inv (by show N + (252 - N) = 252; omega)

/-- The smallest power of two above `a`, among `2 ^ (-125) … 2 ^ 126`; `1` below the normal range. -/
def above (a : EReal) : EReal :=
  if a < T 0 then 1 else Finset.fold min ⊤ (fun j : Fin 252 => if a < T (j.val + 1) then T (j.val + 1) else T 252) Finset.univ

theorem above_eq {a : EReal} {N : ℕ} (hN : N ≤ 252) (h : ∀ n : ℕ, n < 252 → (T n ≤ a ↔ n < N)) : above a = U N := by
  unfold above U
  by_cases h0 : N = 0
  · rw [if_pos h0, if_pos (not_le.mp fun hc => by have := (h 0 (by norm_num)).mp hc; omega)]
  · rw [if_neg h0, if_neg (not_lt.mpr ((h 0 (by norm_num)).mpr (by omega)))]
    refine le_antisymm ?_ ?_
    · rw [Finset.fold_min_le]
      right
      refine ⟨⟨N - 1, by omega⟩, Finset.mem_univ _, ?_⟩
      show (if a < T (N - 1 + 1) then T (N - 1 + 1) else T 252) ≤ T N
      rw [Nat.sub_add_cancel (by omega)]
      split_ifs with hc
      · exact le_rfl
      · by_cases h2 : N = 252
        · rw [h2]
        · exact absurd (not_le.mp fun hl => by have := (h N (by omega)).mp hl; omega) hc
    · rw [Finset.le_fold_min]
      refine ⟨le_top, fun j _ => ?_⟩
      split_ifs with hc
      · by_contra hl
        have hlt : j.val + 1 < N := by
          by_contra hn
          exact hl (T_le (by omega))
        exact absurd ((h (j.val + 1) (by omega)).mpr hlt) (not_le.mpr hc)
      · exact T_le hN

theorem up_eq_above (a : EReal) : up a = above a := by
  obtain ⟨N, hN, h⟩ := exists_count a
  rw [up_eq hN h, above_eq hN h]

theorem down_eq_above (a : EReal) : down a = (above a)⁻¹ := by
  obtain ⟨N, hN, h⟩ := exists_count a
  rw [down_eq hN h, above_eq hN h]

theorem U_real (N : ℕ) : ∃ r : ℝ, 0 < r ∧ U N = (r : EReal) := by
  unfold U
  split_ifs
  · exact ⟨1, one_pos, rfl⟩
  · exact ⟨_, zpow_pos (by norm_num) _, rfl⟩

theorem up_real (a : EReal) : ∃ r : ℝ, 0 < r ∧ up a = (r : EReal) ∧ down a = ((r⁻¹ : ℝ) : EReal) := by
  obtain ⟨N, hN, h⟩ := exists_count a
  obtain ⟨r, hr, e⟩ := U_real N
  exact ⟨r, hr, (up_eq hN h).trans e, by rw [down_eq hN h, e, ← EReal.coe_inv]⟩

/-- The reciprocal as the reference divides. -/
theorem div_above (a : EReal) : Ideal.div 1 (above a) = down a := by
  obtain ⟨r, hr, e, e'⟩ := up_real a
  rw [← up_eq_above, e, e']
  unfold Ideal.div
  rw [if_neg (by exact_mod_cast hr.ne'), one_mul, ← EReal.coe_inv]

end Cert.Scale

end
-- ==== Proof.Column.lean ====
/-
  One element of the output, stated twice over the codes' products: as the reference has it, over every key with the later ones
  masked; and as the kernel has it, over the blocks up to the query's own, with a scale taken from the largest score of a block.
-/
module

public import proofs.«01_k».proof.Proof.Scale

@[expose] public section

noncomputable section

namespace Cert.Column

open Idealize.ShloMosaic Cert.Scale

/-! ## Maxima -/

theorem fold_max_attained {ι : Type} [Fintype ι] [Nonempty ι] (f : ι → EReal) :
    ∃ i, Finset.fold max ⊥ f Finset.univ = f i ∧ ∀ j, f j ≤ f i := by
  obtain ⟨i, -, hi⟩ := Finset.exists_max_image Finset.univ f Finset.univ_nonempty
  refine ⟨i, le_antisymm ?_ ?_, fun j => hi j (Finset.mem_univ j)⟩
  · rw [Finset.fold_max_le]
    exact ⟨bot_le, fun j hj => hi j hj⟩
  · rw [Finset.le_fold_max]
    exact Or.inr ⟨i, Finset.mem_univ i, le_rfl⟩

theorem fold_max_map {ι : Type} [Fintype ι] [Nonempty ι] (f : ι → EReal) {g : EReal → EReal} (hg : Monotone g) :
    Finset.fold max ⊥ (fun i => g (f i)) Finset.univ = g (Finset.fold max ⊥ f Finset.univ) := by
  obtain ⟨i, h, hi⟩ := fold_max_attained f
  obtain ⟨j, h', hj⟩ := fold_max_attained fun i => g (f i)
  rw [h, h']
  exact le_antisymm (hg (hi j)) (hj i)

theorem fold_max_pair {ι κ : Type} [Fintype ι] [Fintype κ] (f : ι → κ → EReal) :
    Finset.fold max ⊥ (fun x : ι × κ => f x.1 x.2) Finset.univ = Finset.fold max ⊥ (fun i => Finset.fold max ⊥ (f i) Finset.univ) Finset.univ := by
  refine le_antisymm ?_ ?_
  · rw [Finset.fold_max_le]
    refine ⟨bot_le, fun x _ => ?_⟩
    rw [Finset.le_fold_max]
    refine Or.inr ⟨x.1, Finset.mem_univ _, ?_⟩
    rw [Finset.le_fold_max]
    exact Or.inr ⟨x.2, Finset.mem_univ _, le_rfl⟩
  · rw [Finset.fold_max_le]
    refine ⟨bot_le, fun i _ => ?_⟩
    rw [Finset.fold_max_le]
    refine ⟨bot_le, fun k _ => ?_⟩
    rw [Finset.le_fold_max]
    exact Or.inr ⟨(i, k), Finset.mem_univ _, le_rfl⟩

theorem fold_max_bot {ι : Type} [Fintype ι] : Finset.fold max ⊥ (fun _ : ι => (⊥ : EReal)) Finset.univ = ⊥ :=
  le_antisymm ((Finset.fold_max_le _).mpr ⟨le_rfl, fun _ _ => le_rfl⟩) bot_le

theorem exp_nonneg (x : EReal) : 0 ≤ Ideal.exp x := by
  induction x with
  | bot => exact le_rfl
  | top => exact le_top
  | coe r => exact EReal.coe_nonneg.mpr (Real.exp_pos r).le

theorem exp_mono : Monotone Ideal.exp := by
  intro x y h
  induction x with
  | bot => exact exp_nonneg y
  | top => rw [top_le_iff.mp h]
  | coe r =>
    induction y with
    | bot => exact absurd h (not_le.mpr (EReal.bot_lt_coe r))
    | top => exact le_top
    | coe s => exact EReal.coe_le_coe_iff.mpr (Real.exp_le_exp.mpr (EReal.coe_le_coe_iff.mp h))

theorem abs_of_nonneg {x : EReal} (h : 0 ≤ x) : max x (-x) = x :=
  max_eq_left ((EReal.neg_le_zero.mpr h).trans h)

theorem mul_mono {c : EReal} (h : 0 ≤ c) : Monotone fun x : EReal => x * c := fun _ _ hx => mul_le_mul_of_nonneg_right hx h

theorem bot_mul {c : EReal} (h : 0 < c) : ⊥ * c = ⊥ := EReal.bot_mul_of_pos h

/-! ## The two statements -/

section
variable (lo hi κ : EReal) (acc : Fin 32 → Fin 128 → EReal) (vcol : Fin 32 → Fin 128 → EReal) (ks vs : Fin 32 → EReal) (w : EReal) (q : Fin 32) (r : Fin 128)

/-- The reference's score of a key. -/
def sc (n : Fin 32) (t : Fin 128) : EReal := if 128 * n.val + t.val ≤ 128 * q.val + r.val then acc n t * w * ks n else ⊥
def mR : EReal := Finset.fold max ⊥ (fun x : Fin 32 × Fin 128 => sc acc ks w q r x.1 x.2) Finset.univ
def pR (n : Fin 32) (t : Fin 128) : EReal := Ideal.exp (sc acc ks w q r n t - mR acc ks w q r)
def lR : EReal := ∑ x : Fin 32 × Fin 128, pR acc ks w q r x.1 x.2
def aR (n : Fin 32) : EReal := Finset.fold max ⊥ (fun t => max (pR acc ks w q r n t) (-(pR acc ks w q r n t))) Finset.univ * κ
def codeR (n : Fin 32) (t : Fin 128) : EReal := min hi (max lo (pR acc ks w q r n t * Ideal.div 1 (above (aR κ acc ks w q r n))))
def yR : EReal := Ideal.div (∑ n, (∑ t, vcol n t * codeR lo hi κ acc ks w q r n t) * above (aR κ acc ks w q r n) * vs n) (lR acc ks w q r)

/-- The kernel's score of a key of a block up to the query's own. -/
def sK (n : Fin 32) (t : Fin 128) : EReal := if n.val < q.val then acc n t else if t.val ≤ r.val then acc n t else ⊥
def bK (n : Fin 32) : EReal := if n.val ≤ q.val then Finset.fold max ⊥ (sK acc q r n) Finset.univ else ⊥
def upTo (f : Fin 32 → EReal) (n : Fin 32) : EReal := if n.val ≤ q.val then f n else 1
def bmK (n : Fin 32) : EReal := bK acc q r n * w * upTo q ks n
def mK : EReal := Finset.fold max ⊥ (bmK acc ks w q r) Finset.univ
def aK (n : Fin 32) : EReal := Ideal.exp (bmK acc ks w q r n - mK acc ks w q r) * κ
def pK (n : Fin 32) (t : Fin 128) : EReal := Ideal.exp (sK acc q r n t * (w * upTo q ks n) - mK acc ks w q r)
def oK (n : Fin 32) : EReal :=
  (∑ t, vcol n t * min hi (max lo (pK acc ks w q r n t * down (aK κ acc ks w q r n)))) * (up (aK κ acc ks w q r n) * upTo q vs n)
/-- The sum of a function of the blocks up to the query's own. -/
def sumTo (f : Fin 32 → EReal) : EReal := ∑ n, if n.val ≤ q.val then f n else 0
/-- Key `8 a + g` of a block. -/
def key (a : Fin 16) (g : Fin 8) : Fin 128 := ⟨8 * a.val + g.val, by omega⟩
def lK : EReal := ∑ g : Fin 8, sumTo q fun n => ∑ a : Fin 16, pK acc ks w q r n (key a g)
def yK : EReal := Ideal.div (sumTo q (oK lo hi κ acc vcol ks vs w q r)) (lK acc ks w q r)

/-! ## They agree -/

variable (hlo : lo ≤ 0) (hhi : 0 ≤ hi) (hw : 0 < w) (hks : ∀ n, 0 < ks n)

include hw hks in
theorem sc_le (n : Fin 32) (hn : n.val ≤ q.val) (t : Fin 128) : sc acc ks w q r n t = sK acc q r n t * (w * ks n) := by
  unfold sc sK
  have ht := t.isLt
  have hr := r.isLt
  by_cases h : n.val < q.val
  · rw [if_pos (by omega), if_pos h, mul_assoc]
  · rw [if_neg h]
    by_cases h' : t.val ≤ r.val
    · rw [if_pos (by omega), if_pos h', mul_assoc]
    · rw [if_neg (by omega), if_neg h', bot_mul (EReal.mul_pos hw (hks n))]

theorem sc_gt (n : Fin 32) (hn : ¬ n.val ≤ q.val) (t : Fin 128) : sc acc ks w q r n t = ⊥ := by
  unfold sc
  have ht := t.isLt
  have hr := r.isLt
  rw [if_neg (by omega)]

include hw hks in
theorem bmK_eq (n : Fin 32) : bmK acc ks w q r n = Finset.fold max ⊥ (sc acc ks w q r n) Finset.univ := by
  unfold bmK bK upTo
  by_cases hn : n.val ≤ q.val
  · rw [if_pos hn, if_pos hn, mul_assoc, funext (sc_le acc ks w q r hw hks n hn)]
    exact (fold_max_map (sK acc q r n) (mul_mono (EReal.mul_pos hw (hks n)).le)).symm
  · rw [if_neg hn, if_neg hn, funext (sc_gt acc ks w q r n hn), fold_max_bot, mul_one, bot_mul hw]

include hw hks in
theorem mK_eq : mK acc ks w q r = mR acc ks w q r := by
  unfold mK mR
  rw [fold_max_pair, funext (bmK_eq acc ks w q r hw hks)]

include hw hks in
theorem pK_eq (n : Fin 32) (hn : n.val ≤ q.val) (t : Fin 128) : pK acc ks w q r n t = pR acc ks w q r n t := by
  unfold pK pR upTo
  rw [if_pos hn, mK_eq acc ks w q r hw hks, sc_le acc ks w q r hw hks n hn]

theorem pR_gt (n : Fin 32) (hn : ¬ n.val ≤ q.val) (t : Fin 128) : pR acc ks w q r n t = 0 := by
  unfold pR
  rw [sc_gt acc ks w q r n hn, sub_eq_add_neg, EReal.bot_add]
  rfl

include hw hks in
theorem aK_eq (n : Fin 32) : aK κ acc ks w q r n = aR κ acc ks w q r n := by
  unfold aK aR
  congr 1
  rw [bmK_eq acc ks w q r hw hks, mK_eq acc ks w q r hw hks]
  have e : (fun t => max (pR acc ks w q r n t) (-(pR acc ks w q r n t))) = fun t => Ideal.exp (sc acc ks w q r n t - mR acc ks w q r) :=
    funext fun t => abs_of_nonneg (exp_nonneg _)
  rw [e]
  exact (fold_max_map (sc acc ks w q r n) (g := fun x => Ideal.exp (x - mR acc ks w q r))
    (fun x y h => exp_mono (EReal.sub_le_sub h le_rfl))).symm

theorem sum_key (f : Fin 128 → EReal) : ∑ g : Fin 8, ∑ a : Fin 16, f (key a g) = ∑ t, f t := by
  rw [Finset.sum_comm, ← Fintype.sum_prod_type']
  refine (Fintype.sum_equiv (finProdFinEquiv (m := 16) (n := 8)) _ f fun x => congrArg f (Fin.ext ?_))
  show 8 * x.1.val + x.2.val = x.2.val + 8 * x.1.val
  omega

include hw hks in
theorem lK_eq : lK acc ks w q r = lR acc ks w q r := by
  unfold lK lR sumTo
  rw [Finset.sum_comm, Fintype.sum_prod_type']
  refine Finset.sum_congr rfl fun n _ => ?_
  by_cases hn : n.val ≤ q.val
  · simp only [if_pos hn]
    rw [sum_key (pK acc ks w q r n)]
    exact Finset.sum_congr rfl fun t _ => pK_eq acc ks w q r hw hks n hn t
  · simp only [if_neg hn]
    rw [Finset.sum_const_zero, Finset.sum_eq_zero fun t _ => pR_gt acc ks w q r n hn t]

include hlo hhi hw hks in
theorem yK_eq : yK lo hi κ acc vcol ks vs w q r = yR lo hi κ acc vcol ks vs w q r := by
  unfold yK yR
  rw [lK_eq acc ks w q r hw hks]
  congr 1
  unfold sumTo
  refine Finset.sum_congr rfl fun n _ => ?_
  by_cases hn : n.val ≤ q.val
  · rw [if_pos hn]
    unfold oK upTo codeR
    rw [if_pos hn, mul_assoc, up_eq_above, aK_eq κ acc ks w q r hw hks]
    congr 1
    refine Finset.sum_congr rfl fun t _ => ?_
    rw [pK_eq acc ks w q r hw hks n hn, div_above]
  · rw [if_neg hn]
    have e : ∀ t, codeR lo hi κ acc ks w q r n t = 0 := fun t => by
      unfold codeR
      rw [pR_gt acc ks w q r n hn, zero_mul, max_eq_right hlo, min_eq_right hhi]
    simp only [e, mul_zero, Finset.sum_const_zero, zero_mul]

end

end Cert.Column

end
-- ==== Proof.Spec.lean ====
/-
  The seven results as plain functions of the three arguments: the quantised blocks of 128 by 128 elements and their scales, and
  causal attention over the quantised blocks with quantised probabilities.
-/
module

public import proofs.«01_k».proof.Proof.Column

@[expose] public section

noncomputable section

namespace Cert.Spec

open Idealize.ShloMosaic

abbrev LO : EReal := Ideal.ofBits .f32 0xC3E00000#32
abbrev HI : EReal := Ideal.ofBits .f32 0x43E00000#32
abbrev KA : EReal := Ideal.ofBits .f32 0x3B124925#32
abbrev SM : EReal := Ideal.ofBits .f32 0x3DB504F3#32

abbrev AQ := (⟨3, ![8, 4096, 2048]⟩ : Shape).Idx → EReal
abbrev AK := (⟨3, ![8, 4096, 512]⟩ : Shape).Idx → EReal
abbrev Blk := Fin 128 → Fin 128 → EReal

/-- The block of head `H` and of the 128 positions from `128 n` on. -/
def blkQ (A : AQ) (b : Fin 8) (H : Fin 16) (n : Fin 32) : Blk := fun r d => A (ix3 b ⟨n.val * 128 + r.val, by omega⟩ ⟨H.val * 128 + d.val, by omega⟩)
def blkK (A : AK) (b : Fin 8) (h : Fin 4) (n : Fin 32) : Blk := fun r d => A (ix3 b ⟨n.val * 128 + r.val, by omega⟩ ⟨h.val * 128 + d.val, by omega⟩)

/-- The largest magnitude, the scale and the codes of a block. -/
def amaxF (X : Blk) : EReal :=
  Finset.fold max (Ideal.ofBits .f32 0xFF800000#32) (fun x : Fin 128 × Fin 128 => FloatOps.absf (F := Ideal) (φ := .f32) (X x.1 x.2)) Finset.univ
def sclF (X : Blk) : EReal := Cert.Scale.above (amaxF X * KA)
def codF (X : Blk) (r d : Fin 128) : EReal := min HI (max LO (X r d * Ideal.div 1 (sclF X)))

/-- Query head `g` of four of a key head. -/
def head (h g : Fin 4) : Fin 16 := ⟨h.val * 4 + g.val, by omega⟩

variable (A0 : AQ) (A1 A2 : AK)

def accF (b : Fin 8) (h g : Fin 4) (q : Fin 32) (r : Fin 128) (n : Fin 32) (t : Fin 128) : EReal :=
  ∑ e : Fin 128, codF (blkK A1 b h n) t e * codF (blkQ A0 b (head h g) q) r e

/-- The attention output at position `128 q + r`, head `g` of key head `h`, lane `d`. -/
def yAt (b : Fin 8) (h g : Fin 4) (q : Fin 32) (r d : Fin 128) : EReal :=
  Cert.Column.yR LO HI KA (accF A0 A1 b h g q r) (fun n t => codF (blkK A2 b h n) t d) (fun n => sclF (blkK A1 b h n)) (fun n => sclF (blkK A2 b h n))
    (sclF (blkQ A0 b (head h g) q) * SM) q r

def Y : (⟨3, ![8, 4096, 2048]⟩ : Shape).Idx → EReal := fun y =>
  have h1 : (y 1).val < 4096 := (y 1).isLt
  have h2 : (y 2).val < 2048 := (y 2).isLt
  yAt A0 A1 A2 (y 0) ⟨(y 2).val / 512, by omega⟩ ⟨(y 2).val / 128 % 4, by omega⟩ ⟨(y 1).val / 128, by omega⟩ ⟨(y 1).val % 128, by omega⟩ ⟨(y 2).val % 128, by omega⟩
def QC : (⟨5, ![8, 16, 32, 128, 128]⟩ : Shape).Idx → EReal := fun y => codF (blkQ A0 (y 0) (y 1) (y 2)) (y 3) (y 4)
def QS : (⟨4, ![8, 4, 32, 512]⟩ : Shape).Idx → EReal := fun y =>
  have h3 : (y 3).val < 512 := (y 3).isLt
  sclF (blkQ A0 (y 0) (head (y 1) ⟨(y 3).val / 128, by omega⟩) (y 2))
def KC : (⟨5, ![8, 4, 32, 128, 128]⟩ : Shape).Idx → EReal := fun y => codF (blkK A1 (y 0) (y 1) (y 2)) (y 3) (y 4)
def KS : (⟨4, ![8, 4, 32, 128]⟩ : Shape).Idx → EReal := fun y => sclF (blkK A1 (y 0) (y 1) (y 2))

theorem LO_le : LO ≤ 0 := by
  simp [LO, Ideal.ofBits, Ideal.ieee, -EReal.coe_mul]
theorem HI_ge : 0 ≤ HI := by
  simp [HI, Ideal.ofBits, Ideal.ieee, -EReal.coe_mul]
theorem SM_real : ∃ x : ℝ, 0 < x ∧ SM = (x : EReal) := by
  refine ⟨_, ?_, by simp only [SM, Ideal.ofBits, Ideal.ieee]; rfl⟩
  rw [if_neg (by decide)]
  positivity

theorem sclF_real (X : Blk) : ∃ x : ℝ, 0 < x ∧ sclF X = (x : EReal) := by
  obtain ⟨x, hx, e, -⟩ := Cert.Scale.up_real (amaxF X * KA)
  exact ⟨x, hx, by unfold sclF; rw [← Cert.Scale.up_eq_above, e]⟩
theorem sclF_pos (X : Blk) : 0 < sclF X := by
  obtain ⟨x, hx, e⟩ := sclF_real X
  rw [e]; exact_mod_cast hx
theorem fac_pos (X : Blk) : 0 < sclF X * SM := by
  obtain ⟨x, hx, e⟩ := sclF_real X
  obtain ⟨s, hs, e'⟩ := SM_real
  rw [e, e', ← EReal.coe_mul]
  exact_mod_cast mul_pos hx hs

end Cert.Spec

end
-- ==== Proof.Codes.lean ====
/-
  The quantiser of the kernel, written six times in its body in differently cut pieces: all six are one function of the block
  that is quantised.
-/
module

public import proofs.«01_k».proof.Proof.Gen.KernelIdeal.Skeleton
public import Idealize.ShloMosaic.Lib.Pointwise

@[expose] public section

set_option maxRecDepth 16384

noncomputable section

namespace Cert.KernelIdeal.Hand

open Cert.KernelIdeal Cert.KernelIdeal.Gen
open Idealize.ShloMosaic

/-- The block of 128 lanes that a lane of 512 lies in. -/
def tileOf (l : Fin 512) : Fin 4 := ⟨l.val / 128, by omega⟩

/-- The codes of a block. -/
def codes (B : Vec Ideal S1x128x128 .bf16) : FVec Ideal S128x128 .fp8e4m3 := k0_pay9 (k0_pay8 B)
/-- The scale of a block, in a vector of one element. -/
def scl (B : Vec Ideal S1x128x128 .bf16) : FVec Ideal S1x1 .f32 := k0_pay39 (k0_pay37 B) (Scalar.ofBits .f32 0x3B124925#32)

section
variable (B : Vec Ideal S1x128x128 .bf16)

theorem pay16_eq : k0_pay16 (k0_pay13 B) (k0_pay14 B) = codes B := rfl
theorem pay24_eq : k0_pay24 (k0_pay20 B) (k0_pay21 B) = codes B := rfl
theorem pay31_eq : k0_pay31 (k0_pay28 B) (k0_pay30 B) = codes B := rfl
theorem pay40_eq : k0_pay40 (k0_pay36 B) (k0_pay37 B) (Scalar.ofBits .f32 0x3B124925#32) = codes B := rfl
theorem pay47_eq : truncf .fp8e4m3 (k0_pay47 (k0_pay44 B) (k0_pay46 B) 127#32) bitsLt_fp8e4m3_f32 = codes B := rfl

theorem pay10_at (r c : Fin 128) (a b d : Fin 1) : k0_pay10 (k0_pay8 B) (ix5 a b d r c) = codes B (ix2 r c) := by
  pointwise! [k0_pay10, codes]
theorem pay11_at (r c : Fin 128) : k0_pay11 (k0_pay8 B) (ix2 r c) = codes B (ix2 r c) := by
  pointwise! [k0_pay11, codes]
theorem pay41_at (r c : Fin 128) (a b d : Fin 1) : k0_pay41 (k0_pay36 B) (k0_pay37 B) (Scalar.ofBits .f32 0x3B124925#32) (ix5 a b d r c) = codes B (ix2 r c) := by
  pointwise! [k0_pay41, pay40_eq]
theorem pay42_at (r c : Fin 128) (a : Fin 1) : k0_pay42 (codes B) (ix3 a r c) = codes B (ix2 r c) := by
  pointwise! [k0_pay42]
theorem pay49_at (r c : Fin 128) (a : Fin 1) : k0_pay49 (k0_pay44 B) (k0_pay46 B) 127#32 (ix3 a r c) = codes B (ix2 c r) := by
  rw [← pay47_eq]
  pointwise! [k0_pay49]
theorem pay43_at (c : Fin 128) (a b d : Fin 1) : k0_pay43 (scl B) (ix4 a b d c) = scl B (ix2 0 0) := by
  pointwise! [k0_pay43]
theorem pay17_at (r c : Fin 128) (a b d : Fin 1) : k0_pay17 (k0_pay13 B) (k0_pay14 B) (ix5 a b d r c) = codes B (ix2 r c) := by
  rw [← pay16_eq]
  pointwise! [k0_pay17]
theorem pay18_at (r c : Fin 128) : k0_pay18 (k0_pay13 B) (k0_pay14 B) (ix2 r c) = codes B (ix2 r c) := by
  rw [← pay16_eq]
  pointwise! [k0_pay18]
theorem pay25_at (r c : Fin 128) (a b d : Fin 1) : k0_pay25 (k0_pay24 (k0_pay20 B) (k0_pay21 B)) (ix5 a b d r c) = codes B (ix2 r c) := by
  rw [pay24_eq]
  pointwise! [k0_pay25]
theorem pay26_at (r c : Fin 128) : k0_pay26 (k0_pay24 (k0_pay20 B) (k0_pay21 B)) (ix2 r c) = codes B (ix2 r c) := by
  rw [pay24_eq]
  pointwise! [k0_pay26]
theorem pay32_at (r c : Fin 128) (a b d : Fin 1) : k0_pay32 (k0_pay28 B) (k0_pay30 B) (ix5 a b d r c) = codes B (ix2 r c) := by
  rw [← pay31_eq]
  pointwise! [k0_pay32]
theorem pay33_at (r c : Fin 128) : k0_pay33 (k0_pay28 B) (k0_pay30 B) (ix2 r c) = codes B (ix2 r c) := by
  rw [← pay31_eq]
  pointwise! [k0_pay33]
theorem pay48_at (r c : Fin 128) (a b d : Fin 1) : k0_pay48 (k0_pay44 B) (k0_pay46 B) 127#32 (ix5 a b d r c) = codes B (ix2 r c) := by
  rw [← pay47_eq]
  pointwise! [k0_pay48]
end

/-- The power of two of an exponent. -/
def pow2S (e : IVec S1x1 32) : FVec Ideal S1x1 .f32 :=
  bitcastToFloat .f32 (shli (addi e (broadcast S1x1 127#32)) (broadcast S1x1 23#32))

theorem scl_eq (B : Vec Ideal S1x128x128 .bf16) : scl B = pow2S (k0_pay7 B) := rfl
theorem pay45_eq (B : Vec Ideal S1x128x128 .bf16) : k0_pay45 B = k0_pay7 B := rfl
theorem pay15_eq (B : Vec Ideal S1x128x128 .bf16) : k0_pay15 (k0_pay14 B) = k0_pay7 B := rfl
theorem pay22_eq (B : Vec Ideal S1x128x128 .bf16) : k0_pay22 (k0_pay21 B) = k0_pay7 B := rfl
theorem pay29_eq (B : Vec Ideal S1x128x128 .bf16) : k0_pay29 B = k0_pay7 B := rfl

theorem pay50_at (B : Vec Ideal S1x128x128 .bf16) (c : Fin 128) (a b d : Fin 1) : k0_pay50 (k0_pay45 B) (ix4 a b d c) = scl B (ix2 0 0) := by
  rw [scl_eq, pay45_eq]
  generalize k0_pay7 B = e
  pointwise! [k0_pay50, pow2S]

/-- The scales of four blocks, each over its 128 lanes. -/
def sclRow (B : Fin 4 → Vec Ideal S1x128x128 .bf16) : FVec Ideal S1x512 .f32 := fun y => scl (B (tileOf (y 1))) (ix2 0 0)

theorem pay12_at (e : IVec S1x1 32) (c : Fin 128) : k0_pay12 (F := Ideal) e (ix2 0 c) = pow2S e (ix2 0 0) := by
  pointwise! [k0_pay12, pow2S]
theorem pay19_at (B : Vec Ideal S1x128x128 .bf16) (c : Fin 128) : k0_pay19 (F := Ideal) (k0_pay14 B) (ix2 0 c) = pow2S (k0_pay7 B) (ix2 0 0) := by
  rw [← pay15_eq]
  generalize k0_pay14 B = w
  pointwise! [k0_pay19, pow2S]
theorem pay27_at (B : Vec Ideal S1x128x128 .bf16) (c : Fin 128) : k0_pay27 (F := Ideal) (k0_pay23 (k0_pay21 B)) (ix2 0 c) = pow2S (k0_pay7 B) (ix2 0 0) := by
  rw [← pay22_eq]
  generalize k0_pay21 B = w
  pointwise! [k0_pay27, k0_pay23, pow2S]
theorem pay34_at (a b c : FVec Ideal S1x128 .f32) (e : IVec S1x1 32) (l : Fin 512) : k0_pay34 a b c e (ix2 0 l) =
    if h0 : l.val < 128 then a (ix2 0 ⟨l.val, h0⟩) else if h1 : l.val - 128 < 128 then b (ix2 0 ⟨l.val - 128, h1⟩)
      else if h2 : l.val - 128 - 128 < 128 then c (ix2 0 ⟨l.val - 128 - 128, h2⟩) else pow2S e (ix2 0 0) := by
  pointwise! [k0_pay34, pow2S]

theorem pay34_eq (B : Fin 4 → Vec Ideal S1x128x128 .bf16) :
    k0_pay34 (k0_pay12 (k0_pay7 (B 0))) (k0_pay19 (k0_pay14 (B 1))) (k0_pay27 (k0_pay23 (k0_pay21 (B 2)))) (k0_pay29 (B 3)) = sclRow B := by
  funext y
  obtain ⟨a, l, rfl⟩ : ∃ a l, y = ix2 a l := ⟨y 0, y 1, eq_ix2 y⟩
  have ha : a = 0 := Subsingleton.elim _ _
  subst ha
  have hl : l.val < 512 := l.isLt
  rw [pay34_at]
  show _ = scl (B (tileOf l)) (ix2 0 0)
  rw [scl_eq]
  by_cases h0 : l.val < 128
  · have : tileOf l = 0 := Fin.ext (show l.val / 128 = 0 by omega)
    rw [dif_pos h0, this, pay12_at]
  rw [dif_neg h0]
  by_cases h1 : l.val - 128 < 128
  · have : tileOf l = 1 := Fin.ext (show l.val / 128 = 1 by omega)
    rw [dif_pos h1, this, pay19_at]
  rw [dif_neg h1]
  by_cases h2 : l.val - 128 - 128 < 128
  · have : tileOf l = 2 := Fin.ext (show l.val / 128 = 2 by omega)
    rw [dif_pos h2, this, pay27_at]
  · have : tileOf l = 3 := Fin.ext (show l.val / 128 = 3 by omega)
    rw [dif_neg h2, this, pay29_eq]

theorem pay35_at (a b c : FVec Ideal S1x128 .f32) (e : IVec S1x1 32) (l : Fin 512) (p q r : Fin 1) :
    k0_pay35 a b c e (ix4 p q r l) = k0_pay34 a b c e (ix2 0 l) := by
  pointwise! [k0_pay35]

/-! ## What the stores of the quantised blocks leave -/

/-- The block of query head `g` of four in a `[1, 128, 512]` block. -/
def qPart (x : Vec Ideal S1x128x512 .bf16) (g : Fin 4) : Vec Ideal S1x128x128 .bf16 :=
  fun y => x (ix3 0 (y 1) ⟨128 * g.val + (y 2).val, by have : (y 2).val < 128 := (y 2).isLt; omega⟩)
/-- The codes of the four heads, as a window. -/
def qCodes (x : Vec Ideal S1x128x512 .bf16) : Vec Ideal S1x4x1x128x128 .fp8e4m3 := fun y => codes (qPart x (y 1)) (ix2 (y 3) (y 4))
/-- The codes of the four heads, one under the other. -/
def qStack (x : Vec Ideal S1x128x512 .bf16) : Vec Ideal S512x128 .fp8e4m3 :=
  fun y => codes (qPart x (tileOf (y 0))) (ix2 ⟨(y 0).val % 128, Nat.mod_lt _ (by decide)⟩ (y 1))
/-- The scales of the four heads. -/
def qScales (x : Vec Ideal S1x128x512 .bf16) : FVec Ideal S1x512 .f32 := sclRow (qPart x)

section Reads
variable {sig' : RefSig} {κ : Kind} {sp : Space}

theorem readAt_qPart (v : View sig' κ sp S1x128x512 .bf16) (f : v.ty.Contents (Elt Ideal)) (g : Fin 4) {off : Fin 3 → ℕ}
    (inb : ∀ a, off a + S1x128x128.size a ≤ S1x128x512.size a) (h : off = ![0, 0, 128 * g.val]) :
    v.readAt (Elt Ideal) (Rect.unit (s := S1x128x512) off S1x128x128.size inb).toLoadRect f = qPart (v.read (Elt Ideal) f) g := by
  subst h
  funext y
  refine congrArg (v.read (Elt Ideal) f) (funext fun a => Fin.ext ?_)
  have h0 : (y 0).val < 1 := (y 0).isLt
  fin_cases a
  · show 0 + 1 * (y 0).val = 0; omega
  · show 0 + 1 * (y 1).val = (y 1).val; omega
  · show 128 * g.val + 1 * (y 2).val = 128 * g.val + (y 2).val; omega

end Reads

end Cert.KernelIdeal.Hand
-- ==== Proof.Rows.lean ====
/-
  What the kernel's loads and stores of one row block do to the contents of a buffer: a load at row `n` reads that row,
  a store at row `n` replaces it and leaves the rest. Also the numbers of trips of the kernel's counted loops and the
  places that their trips address.
-/
module

public import proofs.«01_k».proof.Proof.Gen.KernelIdeal.Skeleton
public import Idealize.ShloMosaic.Lib.Pointwise
public import Idealize.ShloMosaic.Lib.VecWindow
public import Idealize.ShloMosaic.Lib.LoopRemainder

@[expose] public section

set_option maxRecDepth 16384

noncomputable section

namespace Cert.KernelIdeal.Hand

open Cert.KernelIdeal Cert.KernelIdeal.Gen
open Idealize.ShloMosaic

/-! ## Rows -/

section Rows
variable {α : Type} {n0 n1 n2 n3 : ℕ}

/-- Row `n` of a rank-3 array, as a block of one row. -/
def row3 (X : (⟨3, ![n0, n1, n2]⟩ : Shape).Idx → α) (n : Fin n0) : (⟨3, ![1, n1, n2]⟩ : Shape).Idx → α := fun y => X (ix3 n (y 1) (y 2))
/-- A rank-3 array with row `n` replaced. -/
def setRow3 (X : (⟨3, ![n0, n1, n2]⟩ : Shape).Idx → α) (n : ℕ) (w : (⟨3, ![1, n1, n2]⟩ : Shape).Idx → α) :
    (⟨3, ![n0, n1, n2]⟩ : Shape).Idx → α := fun y => if (y 0).val = n then w (ix3 0 (y 1) (y 2)) else X y
/-- Row `n` of a rank-2 array, as a block of one row. -/
def row2 (X : (⟨2, ![n0, n1]⟩ : Shape).Idx → α) (n : Fin n0) : (⟨2, ![1, n1]⟩ : Shape).Idx → α := fun y => X (ix2 n (y 1))
/-- A rank-2 array with row `n` replaced. -/
def setRow2 (X : (⟨2, ![n0, n1]⟩ : Shape).Idx → α) (n : ℕ) (w : (⟨2, ![1, n1]⟩ : Shape).Idx → α) :
    (⟨2, ![n0, n1]⟩ : Shape).Idx → α := fun y => if (y 0).val = n then w (ix2 0 (y 1)) else X y
/-- A `[1, 1, n2, n3]` array with row `n` of its third axis replaced. -/
def setRow4 (X : (⟨4, ![1, 1, n2, n3]⟩ : Shape).Idx → α) (n : ℕ) (w : (⟨4, ![1, 1, 1, n3]⟩ : Shape).Idx → α) :
    (⟨4, ![1, 1, n2, n3]⟩ : Shape).Idx → α := fun y => if (y 2).val = n then w (ix4 0 0 0 (y 3)) else X y

end Rows

section ReadWrite
variable {Val : EltTy → Type} {sig' : RefSig} {κ : Kind} {sp : Space} {e : EltTy} {n0 n1 n2 n3 : ℕ}

theorem readAt_row3 (v : View sig' κ sp ⟨3, ![n0, n1, n2]⟩ e) (f : v.ty.Contents Val) {off : Fin 3 → ℕ} (n : Fin n0)
    (inb : ∀ a, off a + (⟨3, ![1, n1, n2]⟩ : Shape).size a ≤ (⟨3, ![n0, n1, n2]⟩ : Shape).size a) (h : off = ![n.val, 0, 0]) :
    v.readAt Val (Rect.unit (s := ⟨3, ![n0, n1, n2]⟩) off (⟨3, ![1, n1, n2]⟩ : Shape).size inb).toLoadRect f = row3 (v.read Val f) n := by
  subst h
  funext y
  refine congrArg (v.read Val f) (funext fun a => Fin.ext ?_)
  have h0 := (y 0).isLt
  fin_cases a
  · show n.val + 1 * (y 0).val = n.val
    have : (y 0).val < 1 := h0
    omega
  · show 0 + 1 * (y 1).val = (y 1).val; omega
  · show 0 + 1 * (y 2).val = (y 2).val; omega

theorem readAt_row2 (v : View sig' κ sp ⟨2, ![n0, n1]⟩ e) (f : v.ty.Contents Val) {off : Fin 2 → ℕ} (n : Fin n0)
    (inb : ∀ a, off a + (⟨2, ![1, n1]⟩ : Shape).size a ≤ (⟨2, ![n0, n1]⟩ : Shape).size a) (h : off = ![n.val, 0]) :
    v.readAt Val (Rect.unit (s := ⟨2, ![n0, n1]⟩) off (⟨2, ![1, n1]⟩ : Shape).size inb).toLoadRect f = row2 (v.read Val f) n := by
  subst h
  funext y
  refine congrArg (v.read Val f) (funext fun a => Fin.ext ?_)
  have h0 := (y 0).isLt
  fin_cases a
  · show n.val + 1 * (y 0).val = n.val
    have : (y 0).val < 1 := h0
    omega
  · show 0 + 1 * (y 1).val = (y 1).val; omega

theorem read_writes_row3 (v : View sig' κ sp ⟨3, ![n0, n1, n2]⟩ e) (f : v.ty.Contents Val) {off : Fin 3 → ℕ} (n : ℕ)
    (inb : ∀ a, off a + (⟨3, ![1, n1, n2]⟩ : Shape).size a ≤ (⟨3, ![n0, n1, n2]⟩ : Shape).size a) (h : off = ![n, 0, 0])
    (w : (⟨3, ![1, n1, n2]⟩ : Shape).Idx → Val e) (L : List (View.Piece Val ⟨3, ![n0, n1, n2]⟩ e)) :
    v.read Val (v.writes Val f (⟨Rect.unit (s := ⟨3, ![n0, n1, n2]⟩) off (⟨3, ![1, n1, n2]⟩ : Shape).size inb, w⟩ :: L))
      = setRow3 (v.read Val (v.writes Val f L)) n w := by
  subst h
  funext y
  unfold setRow3
  split_ifs with hy
  · refine View.read_writes_cons_hit_of_coords (Val := Val) v f (Rect.unit (s := ⟨3, ![n0, n1, n2]⟩) ![n, 0, 0] (⟨3, ![1, n1, n2]⟩ : Shape).size inb) w L (ix3 0 (y 1) (y 2)) y fun a => ?_
    fin_cases a
    · show (y 0).val = n + 1 * 0; omega
    · show (y 1).val = 0 + 1 * (y 1).val; omega
    · show (y 2).val = 0 + 1 * (y 2).val; omega
  · refine View.read_writes_cons_miss_of_axis (Val := Val) v f ⟨(Rect.unit (s := ⟨3, ![n0, n1, n2]⟩) ![n, 0, 0] (⟨3, ![1, n1, n2]⟩ : Shape).size inb), w⟩ L y 0 n 1 rfl rfl rfl ?_
    omega

theorem read_writes_row2 (v : View sig' κ sp ⟨2, ![n0, n1]⟩ e) (f : v.ty.Contents Val) {off : Fin 2 → ℕ} (n : ℕ)
    (inb : ∀ a, off a + (⟨2, ![1, n1]⟩ : Shape).size a ≤ (⟨2, ![n0, n1]⟩ : Shape).size a) (h : off = ![n, 0])
    (w : (⟨2, ![1, n1]⟩ : Shape).Idx → Val e) (L : List (View.Piece Val ⟨2, ![n0, n1]⟩ e)) :
    v.read Val (v.writes Val f (⟨Rect.unit (s := ⟨2, ![n0, n1]⟩) off (⟨2, ![1, n1]⟩ : Shape).size inb, w⟩ :: L))
      = setRow2 (v.read Val (v.writes Val f L)) n w := by
  subst h
  funext y
  unfold setRow2
  split_ifs with hy
  · refine View.read_writes_cons_hit_of_coords (Val := Val) v f (Rect.unit (s := ⟨2, ![n0, n1]⟩) ![n, 0] (⟨2, ![1, n1]⟩ : Shape).size inb) w L (ix2 0 (y 1)) y fun a => ?_
    fin_cases a
    · show (y 0).val = n + 1 * 0; omega
    · show (y 1).val = 0 + 1 * (y 1).val; omega
  · refine View.read_writes_cons_miss_of_axis (Val := Val) v f ⟨(Rect.unit (s := ⟨2, ![n0, n1]⟩) ![n, 0] (⟨2, ![1, n1]⟩ : Shape).size inb), w⟩ L y 0 n 1 rfl rfl rfl ?_
    omega

theorem read_writes_row4 (v : View sig' κ sp ⟨4, ![1, 1, n2, n3]⟩ e) (f : v.ty.Contents Val) {off : Fin 4 → ℕ} (n : ℕ)
    (inb : ∀ a, off a + (⟨4, ![1, 1, 1, n3]⟩ : Shape).size a ≤ (⟨4, ![1, 1, n2, n3]⟩ : Shape).size a) (h : off = ![0, 0, n, 0])
    (w : (⟨4, ![1, 1, 1, n3]⟩ : Shape).Idx → Val e) (L : List (View.Piece Val ⟨4, ![1, 1, n2, n3]⟩ e)) :
    v.read Val (v.writes Val f (⟨Rect.unit (s := ⟨4, ![1, 1, n2, n3]⟩) off (⟨4, ![1, 1, 1, n3]⟩ : Shape).size inb, w⟩ :: L))
      = setRow4 (v.read Val (v.writes Val f L)) n w := by
  subst h
  funext y
  unfold setRow4
  have h0 : (y 0).val < 1 := (y 0).isLt
  have h1 : (y 1).val < 1 := (y 1).isLt
  split_ifs with hy
  · refine View.read_writes_cons_hit_of_coords (Val := Val) v f (Rect.unit (s := ⟨4, ![1, 1, n2, n3]⟩) ![0, 0, n, 0] (⟨4, ![1, 1, 1, n3]⟩ : Shape).size inb) w L (ix4 0 0 0 (y 3)) y fun a => ?_
    fin_cases a
    · show (y 0).val = 0 + 1 * 0; omega
    · show (y 1).val = 0 + 1 * 0; omega
    · show (y 2).val = n + 1 * 0; omega
    · show (y 3).val = 0 + 1 * (y 3).val; omega
  · refine View.read_writes_cons_miss_of_axis (Val := Val) v f ⟨(Rect.unit (s := ⟨4, ![1, 1, n2, n3]⟩) ![0, 0, n, 0] (⟨4, ![1, 1, 1, n3]⟩ : Shape).size inb), w⟩ L y 2 n 1 rfl rfl rfl ?_
    omega

/-- A store of the whole view replaces what it reads. -/
theorem read_writes_whole {s : Shape} (v : View sig' κ sp s e) (f : v.ty.Contents Val) {off : Fin s.rank → ℕ}
    (inb : ∀ a, off a + s.size a ≤ s.size a) (w : s.Idx → Val e) (L : List (View.Piece Val s e)) :
    v.read Val (v.writes Val f (⟨Rect.unit (s := s) off s.size inb, w⟩ :: L)) = w := by
  funext y
  refine View.read_writes_cons_hit_of_coords (Val := Val) v f (Rect.unit (s := s) off s.size inb) w L y y fun a => ?_
  show (y a).val = off a + 1 * (y a).val
  have := inb a
  omega

end ReadWrite

/-! ## Trips and offsets -/

/-- The query block of a grid point, as a row of the scratch. -/
abbrev qi (i : grid0.Coords) : Fin 32 := i 2

theorem word_toNat (i : grid0.Coords) : (Scalar.indexCast (BitVec.ofNat 32 (i 2).val) : Index).toNat = (i 2).val := by
  have : (i 2).val < 32 := (i 2).isLt
  show (BitVec.ofNat 32 (i 2).val).toNat = _
  simp only [BitVec.toNat_ofNat]; omega

theorem off1_eq (i : grid0.Coords) : k0_off1 i = ![0, 0, (i 2).val, 0] := by unfold k0_off1; simp only [word_toNat]
theorem off2_eq (i : grid0.Coords) : k0_off2 i = ![(i 2).val, 0, 0] := by unfold k0_off2; simp only [word_toNat]
theorem off3_eq (i : grid0.Coords) : k0_off3 i = ![0, 0, (i 2).val, 0] := by unfold k0_off3; simp only [word_toNat]
theorem off10_eq (i : grid0.Coords) : k0_off10 i = ![(i 2).val, 0, 0] := by unfold k0_off10; simp only [word_toNat]
theorem off11_eq (i : grid0.Coords) : k0_off11 i = ![(i 2).val, 0] := by unfold k0_off11; simp only [word_toNat]

theorem trips1 (i : grid0.Coords) : (k0_t1_loop i).trips = (i 2).val := by
  have h : ∀ n : Fin 32, Scf.trips 0#32 (Scalar.addi 0#32 (Scalar.muli (Scalar.divsi (Scalar.subi (BitVec.ofNat 32 n.val) 0#32) 1#32) 1#32)) 1#32 = n.val := by
    decide +kernel
  exact h (i 2)
theorem trips3 (i : grid0.Coords) : (k0_t3_loop i).trips = (i 2).val + 1 := by
  have h : ∀ n : Fin 32, Scf.trips 0#32 (Scalar.addi 0#32 (Scalar.muli (Scalar.divsi (Scalar.subi (Scalar.addi (BitVec.ofNat 32 n.val) 1#32) 0#32) 1#32) 1#32)) 1#32 = n.val + 1 := by
    decide +kernel
  exact h (i 2)

theorem iv_toNat (k : ℕ) (hk : k < 64) : (Scalar.indexCast (Scf.iv 0#32 1#32 k) : Index).toNat = k := by
  have h : ∀ n : Fin 64, (Scalar.indexCast (Scf.iv 0#32 1#32 n.val) : Index).toNat = n.val := by decide +kernel
  exact h ⟨k, hk⟩

theorem t1_lt (i : grid0.Coords) (k : Fin (k0_t1_loop i).trips) : k.val < (i 2).val := lt_of_lt_of_eq k.isLt (trips1 i)
theorem t3_lt (i : grid0.Coords) (k : Fin (k0_t3_loop i).trips) : k.val < (i 2).val + 1 := lt_of_lt_of_eq k.isLt (trips3 i)
theorem i2_lt (i : grid0.Coords) : (i 2).val < 32 := (i 2).isLt

/-- A trip's row of the scratch. -/
def k1 (i : grid0.Coords) (k : Fin (k0_t1_loop i).trips) : Fin 32 := ⟨k.val, by have := t1_lt i k; have := i2_lt i; omega⟩
def k3 (i : grid0.Coords) (k : Fin (k0_t3_loop i).trips) : Fin 32 := ⟨k.val, by have := t3_lt i k; have := i2_lt i; omega⟩

theorem off4_eq (i : grid0.Coords) (k : Fin (k0_t1_loop i).trips) : k0_off4 i k = ![(k1 i k).val, 0, 0] := by
  unfold k0_off4; simp only [iv_toNat k.val (by have := t1_lt i k; have := i2_lt i; omega)]; rfl
theorem off5_eq (i : grid0.Coords) (k : Fin (k0_t1_loop i).trips) : k0_off5 i k = ![(k1 i k).val, 0, 0] := by
  unfold k0_off5; simp only [iv_toNat k.val (by have := t1_lt i k; have := i2_lt i; omega)]; rfl
theorem off6_eq (i : grid0.Coords) (k : Fin (k0_t1_loop i).trips) : k0_off6 i k = ![(k1 i k).val, 0] := by
  unfold k0_off6; simp only [iv_toNat k.val (by have := t1_lt i k; have := i2_lt i; omega)]; rfl
theorem off12_eq (i : grid0.Coords) (k : Fin (k0_t3_loop i).trips) : k0_off12 i k = ![(k3 i k).val, 0, 0] := by
  unfold k0_off12; simp only [iv_toNat k.val (by have := t3_lt i k; have := i2_lt i; omega)]; rfl
theorem off13_eq (i : grid0.Coords) (k : Fin (k0_t3_loop i).trips) : k0_off13 i k = ![(k3 i k).val, 0] := by
  unfold k0_off13; simp only [iv_toNat k.val (by have := t3_lt i k; have := i2_lt i; omega)]; rfl
theorem off14_eq (i : grid0.Coords) (k : Fin (k0_t3_loop i).trips) : k0_off14 i k = ![(k3 i k).val, 0, 0] := by
  unfold k0_off14; simp only [iv_toNat k.val (by have := t3_lt i k; have := i2_lt i; omega)]; rfl

end Cert.KernelIdeal.Hand
-- ==== Proof.Scores.lean ====
/-
  The score stage of the kernel at one grid point: the scores of the query block against every key block up to its own, row by
  row of the scratch, with the causal mask in the last one, and the maximum of every row over the key positions.
-/
module

public import proofs.«01_k».proof.Proof.Gen.KernelIdeal.Frame
public import proofs.«01_k».proof.Proof.Gen.KernelIdeal.Skeleton
public import proofs.«01_k».proof.Proof.Gen.KernelIdeal.Loops
public import proofs.«01_k».proof.Proof.Rows
public import Idealize.ShloMosaic.Lib.Tactic

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The scores against key block `n`: masked on the diagonal block `q`. -/
def scoreRow (q8 : Vec F S512x128 .fp8e4m3) (k8 : Vec F S32x128x128 .fp8e4m3) (q : ℕ) (n : Fin 32) : Vec F S1x128x512 .f32 :=
  if n.val < q then k0_pay53 q8 (row3 k8 n) else k0_pay59 q8 (row3 k8 n)

/-- The row maxima after `k` trips of the loop over the key blocks. -/
def maxTo (q8 : Vec F S512x128 .fp8e4m3) (k8 : Vec F S32x128x128 .fp8e4m3) (fill : FVec F S32x512 .f32) (k : ℕ) : FVec F S32x512 .f32 :=
  fun y => if (y 0).val < k then k0_pay54 q8 (row3 k8 (y 0)) (ix2 0 (y 1)) else fill y

/-- The row maxima at the end. -/
def maxRows (q8 : Vec F S512x128 .fp8e4m3) (k8 : Vec F S32x128x128 .fp8e4m3) (fill : FVec F S32x512 .f32) (q : Fin 32) : FVec F S32x512 .f32 :=
  setRow2 (maxTo q8 k8 fill q.val) q.val (k0_pay60 q8 (row3 k8 q))

theorem row3_setRow3_self {α : Type} {n0 n1 n2 : ℕ} (X : (⟨3, ![n0, n1, n2]⟩ : Shape).Idx → α) (n : Fin n0)
    (w : (⟨3, ![1, n1, n2]⟩ : Shape).Idx → α) : row3 (setRow3 X n.val w) n = w := by
  funext y
  unfold row3 setRow3
  rw [if_pos (by rfl)]
  refine congrArg w (funext fun a => Fin.ext ?_)
  have h0 : (y 0).val < 1 := (y 0).isLt
  fin_cases a
  · show 0 = (y 0).val; omega
  · rfl
  · rfl

theorem row3_setRow3_of_ne {α : Type} {n0 n1 n2 : ℕ} (X : (⟨3, ![n0, n1, n2]⟩ : Shape).Idx → α) (n : Fin n0) (k : ℕ) (h : n.val ≠ k)
    (w : (⟨3, ![1, n1, n2]⟩ : Shape).Idx → α) : row3 (setRow3 X k w) n = row3 X n := by
  funext y
  unfold row3 setRow3
  rw [if_neg (by exact h)]

theorem score_step {X : Vec F S32x128x512 .f32} {G : Fin 32 → Vec F S1x128x512 .f32} (k : ℕ) (k' : Fin 32) (hk : k'.val = k)
    (h : ∀ n : Fin 32, n.val < k → row3 X n = G n) (n : Fin 32) (hn : n.val < k + 1) : row3 (setRow3 X k'.val (G k')) n = G n := by
  by_cases e : n = k'
  · subst e; exact row3_setRow3_self X n _
  · have e' : n.val ≠ k'.val := fun h => e (Fin.ext h)
    rw [row3_setRow3_of_ne X n _ e']
    exact h n (by omega)

theorem scoreRow_last {q8 : Vec F S512x128 .fp8e4m3} {k8 : Vec F S32x128x128 .fp8e4m3} {X : Vec F S32x128x512 .f32} (q : Fin 32)
    (h : ∀ n : Fin 32, n.val < q.val → row3 X n = k0_pay53 q8 (row3 k8 n)) (n : Fin 32) (hn : n.val ≤ q.val) :
    row3 (setRow3 X q.val (k0_pay59 q8 (row3 k8 q))) n = scoreRow q8 k8 q.val n := by
  unfold scoreRow
  by_cases e : n = q
  · subst e; rw [if_neg (lt_irrefl _)]; exact row3_setRow3_self X n _
  · have e' : n.val ≠ q.val := fun h => e (Fin.ext h)
    rw [row3_setRow3_of_ne X n _ e', if_pos (by omega)]
    exact h n (by omega)

theorem maxTo_zero (q8 : Vec F S512x128 .fp8e4m3) (k8 : Vec F S32x128x128 .fp8e4m3) (fill : FVec F S32x512 .f32) : maxTo q8 k8 fill 0 = fill :=
  funext fun y => if_neg (Nat.not_lt_zero _)

theorem maxTo_succ (q8 : Vec F S512x128 .fp8e4m3) (k8 : Vec F S32x128x128 .fp8e4m3) (fill : FVec F S32x512 .f32) (k : ℕ) (k' : Fin 32) (hk : k'.val = k) :
    setRow2 (maxTo q8 k8 fill k) k'.val (k0_pay54 q8 (row3 k8 k')) = maxTo q8 k8 fill (k + 1) := by
  funext y
  unfold setRow2 maxTo
  by_cases e : (y 0).val = k'.val
  · have e' : y 0 = k' := Fin.ext e
    rw [if_pos e, if_pos (by omega), e']
  · rw [if_neg e]
    by_cases h : (y 0).val < k
    · rw [if_pos h, if_pos (by omega)]
    · rw [if_neg h, if_neg (by omega)]

/-- The loop over the key blocks before the diagonal: after `k` trips the scores and the maxima of the first `k` rows. -/
@[sl_loop, instance_reducible] def scoreLoop (𝒱 : Variants) (c : Dev nD) (bd : Option 𝒱.V) (E : Set ℕ) (i : grid0.Coords) (arg3 : Memref sig .tc .vmem S1x128x512 .bf16) (harg3 : arg3.IsWhole) (arg4 : Memref sig .tc .vmem S1x128x128 .bf16) (harg4 : arg4.IsWhole) (arg5 : Memref sig .tc .vmem S1x128x128 .bf16) (harg5 : arg5.IsWhole) (arg6 : Memref sig .tc .vmem S1x128x512 .bf16) (harg6 : arg6.IsWhole) (arg7 : Memref sig .tc .vmem S1x4x1x128x128 .fp8e4m3) (harg7 : arg7.IsWhole) (arg8 : Memref sig .tc .vmem S1x1x32x512 .f32) (harg8 : arg8.IsWhole) (arg9 : Memref sig .tc .vmem S1x1x1x128x128 .fp8e4m3) (harg9 : arg9.IsWhole) (arg10 : Memref sig .tc .vmem S1x1x32x128 .f32) (harg10 : arg10.IsWhole) (arg11 : Memref sig .tc .vmem S1x1x1x128x128 .fp8e4m3) (harg11 : arg11.IsWhole) (arg12 : Memref sig .tc .vmem S1x1x32x128 .f32) (harg12 : arg12.IsWhole) (arg13 : Memref sig .tc .vmem S512x128 .fp8e4m3) (harg13 : arg13.IsWhole) (arg14 : Memref sig .tc .vmem S32x128x128 .fp8e4m3) (harg14 : arg14.IsWhole) (arg15 : Memref sig .tc .vmem S32x128x128 .fp8e4m3) (harg15 : arg15.IsWhole) (arg16 : Memref sig .tc .vmem S32x128x512 .f32) (harg16 : arg16.IsWhole) (arg17 : Memref sig .tc .vmem S32x512 .f32) (harg17 : arg17.IsWhole) (arg18 : Memref sig .tc .vmem S32x512 .f32) (harg18 : arg18.IsWhole) (arg19 : Memref sig .tc .vmem S32x512 .f32) (harg19 : arg19.IsWhole) (arg20 : Memref sig .tc .vmem S32x512 .f32) (harg20 : arg20.IsWhole) (arg21 : Memref sig .tc .vmem S128x512 .f32) (harg21 : arg21.IsWhole) (arg2 : BitVec 32) (v350 : Vec F S512x128 .fp8e4m3) (v354 : FVec F S32x512 .f32) (f14 : BufTy.Contents (Elt F) arg14.view.ty) (init : BitVec 32) :
    LoopInvTy_k0_t1 (F := F) Unit ℕ (UR sig nD τ) ℕ 𝒱 c bd E i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg2 v350 v354 init where
  inv k acc := iprop((arg14.view.loc (c : Thread nD τ) ↦[arg14.view.set]{fullShare} f14)
    ∗ (∃ g, ⌜∀ n : Fin 32, n.val < k → row3 (arg16.view.read (Elt F) g) n = k0_pay53 v350 (row3 (arg14.view.read (Elt F) f14) n)⌝ ∗ (arg16.view.loc (c : Thread nD τ) ↦[arg16.view.set]{fullShare} g))
    ∗ (∃ g, ⌜arg17.view.read (Elt F) g = maxTo v350 (arg14.view.read (Elt F) f14) v354 k⌝ ∗ (arg17.view.loc (c : Thread nD τ) ↦[arg17.view.set]{fullShare} g)))
  step k acc := by
    iintro ⟨H14, ⟨%g16, %h16, H16⟩, ⟨%g17, %h17, H17⟩⟩
    unfold k0_t1_body
    sl_exec
    sl_step
    isplitl [H14]; · iexact H14
    isplitl [H16]
    · iexists _; isplitr; swap; · iexact H16
      ipureintro
      intro n hn
      rw [read_writes_row3 arg16.view g16 _ _ (off5_eq i k), readAt_row3 arg14.view f14 (k1 i k) _ (off4_eq i k), View.writes_nil]
      exact score_step k.val (k1 i k) rfl h16 n hn
    iexists _; isplitr; swap; · iexact H17
    ipureintro
    rw [read_writes_row2 arg17.view g17 _ _ (off6_eq i k), readAt_row3 arg14.view f14 (k1 i k) _ (off4_eq i k), View.writes_nil, h17]
    exact maxTo_succ _ _ _ k.val (k1 i k) rfl

theorem part10_spec (c : Dev nD) (i : grid0.Coords) (arg3 : Memref sig .tc .vmem S1x128x512 .bf16) (harg3 : arg3.IsWhole) (arg4 : Memref sig .tc .vmem S1x128x128 .bf16) (harg4 : arg4.IsWhole) (arg5 : Memref sig .tc .vmem S1x128x128 .bf16) (harg5 : arg5.IsWhole) (arg6 : Memref sig .tc .vmem S1x128x512 .bf16) (harg6 : arg6.IsWhole) (arg7 : Memref sig .tc .vmem S1x4x1x128x128 .fp8e4m3) (harg7 : arg7.IsWhole) (arg8 : Memref sig .tc .vmem S1x1x32x512 .f32) (harg8 : arg8.IsWhole) (arg9 : Memref sig .tc .vmem S1x1x1x128x128 .fp8e4m3) (harg9 : arg9.IsWhole) (arg10 : Memref sig .tc .vmem S1x1x32x128 .f32) (harg10 : arg10.IsWhole) (arg11 : Memref sig .tc .vmem S1x1x1x128x128 .fp8e4m3) (harg11 : arg11.IsWhole) (arg12 : Memref sig .tc .vmem S1x1x32x128 .f32) (harg12 : arg12.IsWhole) (arg13 : Memref sig .tc .vmem S512x128 .fp8e4m3) (harg13 : arg13.IsWhole) (arg14 : Memref sig .tc .vmem S32x128x128 .fp8e4m3) (harg14 : arg14.IsWhole) (arg15 : Memref sig .tc .vmem S32x128x128 .fp8e4m3) (harg15 : arg15.IsWhole) (arg16 : Memref sig .tc .vmem S32x128x512 .f32) (harg16 : arg16.IsWhole) (arg17 : Memref sig .tc .vmem S32x512 .f32) (harg17 : arg17.IsWhole) (arg18 : Memref sig .tc .vmem S32x512 .f32) (harg18 : arg18.IsWhole) (arg19 : Memref sig .tc .vmem S32x512 .f32) (harg19 : arg19.IsWhole) (arg20 : Memref sig .tc .vmem S32x512 .f32) (harg20 : arg20.IsWhole) (arg21 : Memref sig .tc .vmem S128x512 .f32) (harg21 : arg21.IsWhole) (v350 : Vec F S512x128 .fp8e4m3) (v354 : FVec F S32x512 .f32) (arg2 : BitVec 32)
    (f10 : BufTy.Contents (Elt F) arg10.view.ty) (f12 : BufTy.Contents (Elt F) arg12.view.ty) (f14 : BufTy.Contents (Elt F) arg14.view.ty) (f16 : BufTy.Contents (Elt F) arg16.view.ty) (f17 : BufTy.Contents (Elt F) arg17.view.ty) :
    (iprop((arg10.view.loc (c : Thread nD τ) ↦[arg10.view.set]{fullShare} f10) ∗ (arg12.view.loc (c : Thread nD τ) ↦[arg12.view.set]{fullShare} f12) ∗ (arg14.view.loc (c : Thread nD τ) ↦[arg14.view.set]{fullShare} f14) ∗ (arg16.view.loc (c : Thread nD τ) ↦[arg16.view.set]{fullShare} f16) ∗ (arg17.view.loc (c : Thread nD τ) ↦[arg17.view.set]{fullShare} f17)) : sProp 𝕄)
    ⊢ wp frame (wpE (defs₀ (F := F)) Variants.none c none) Set.univ (k0_part10 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg2 v350 v354)
      (fun r => iprop(⌜r.1 = k0_pay61 (arg10.view.read (Elt F) f10)⌝ ∗ ⌜r.2.1 = k0_pay62 (arg12.view.read (Elt F) f12)⌝ ∗ ⌜r.2.2 = Scalar.ofBits .f32 0x3DB504F3#32⌝
        ∗ (arg10.view.loc (c : Thread nD τ) ↦[arg10.view.set]{fullShare} f10) ∗ (arg12.view.loc (c : Thread nD τ) ↦[arg12.view.set]{fullShare} f12) ∗ (arg14.view.loc (c : Thread nD τ) ↦[arg14.view.set]{fullShare} f14)
        ∗ (∃ g, ⌜∀ n : Fin 32, n.val ≤ (i 2).val → row3 (arg16.view.read (Elt F) g) n = scoreRow v350 (arg14.view.read (Elt F) f14) (i 2).val n⌝ ∗ (arg16.view.loc (c : Thread nD τ) ↦[arg16.view.set]{fullShare} g))
        ∗ (∃ g, ⌜arg17.view.read (Elt F) g = maxRows v350 (arg14.view.read (Elt F) f14) v354 (i 2)⌝ ∗ (arg17.view.loc (c : Thread nD τ) ↦[arg17.view.set]{fullShare} g)))) := by
  iintro ⟨H10, H12, H14, H16, H17⟩
  rw [k0_part10_eq_skeleton]; unfold k0_part10_skel
  set_option sl_exec.maxSteps 1 in sl_exec
  ihave HX : iprop(∃ g, ⌜arg17.view.read (Elt F) g = maxTo v350 (arg14.view.read (Elt F) f14) v354 0⌝ ∗ (arg17.view.loc (c : Thread nD τ) ↦[arg17.view.set]{fullShare} g)) $$ [H17]
  · iexists _; isplitr; swap; · iexact H17
    ipureintro
    rw [read_writes_whole]
    exact (maxTo_zero _ _ _).symm
  icases HX with ⟨%g17, %h17, H17⟩
  have h16 : ∀ n : Fin 32, n.val < 0 → row3 (arg16.view.read (Elt F) f16) n = k0_pay53 v350 (row3 (arg14.view.read (Elt F) f14) n) := fun n hn => absurd hn (Nat.not_lt_zero _)
  sl_exec
  sl_step
  isplitr; · ipureintro; exact congrArg k0_pay61 (View.readAt_full arg10.view f10 _)
  isplitr; · ipureintro; exact congrArg k0_pay62 (View.readAt_full arg12.view f12 _)
  isplitr; · ipureintro; rfl
  isplitl [H10]; · iexact H10
  isplitl [H12]; · iexact H12
  isplitl [H14]; · iexact H14
  isplitl [H16]
  · iexists _; isplitr; swap; · iexact H16
    ipureintro
    intro n hn
    rw [read_writes_row3 arg16.view gL0 _ _ (off10_eq i), readAt_row3 arg14.view f14 (i 2) _ (off2_eq i), View.writes_nil]
    exact scoreRow_last (i 2) (fun n hn => hL1 n (lt_of_lt_of_eq hn (trips1 i).symm)) n hn
  iexists _; isplitr; swap; · iexact H17
  ipureintro
  rw [read_writes_row2 arg17.view gL1 _ _ (off11_eq i), readAt_row3 arg14.view f14 (i 2) _ (off2_eq i), View.writes_nil, hL3]
  exact congrArg (fun k => setRow2 (maxTo v350 (arg14.view.read (Elt F) f14) v354 k) (i 2).val (k0_pay60 v350 (row3 (arg14.view.read (Elt F) f14) (i 2)))) (trips1 i)

end Cert.KernelIdeal.Hand
-- ==== Proof.Attend.lean ====
/-
  The attention stage of the kernel at one grid point: the running maximum and the scales of the probabilities, then the loop
  over the key blocks that adds up the probabilities and the quantised products with the values, then the quotient.
-/
module

public import proofs.«01_k».proof.Proof.Gen.KernelIdeal.Frame
public import proofs.«01_k».proof.Proof.Gen.KernelIdeal.Skeleton
public import proofs.«01_k».proof.Proof.Gen.KernelIdeal.Loops
public import proofs.«01_k».proof.Proof.Rows
public import Idealize.ShloMosaic.Lib.Tactic

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

attribute [local irreducible] k0_pay65 k0_pay66 k0_pay68 in
theorem part11_spec (c : Dev nD) (i : grid0.Coords) (arg3 : Memref sig .tc .vmem S1x128x512 .bf16) (harg3 : arg3.IsWhole) (arg4 : Memref sig .tc .vmem S1x128x128 .bf16) (harg4 : arg4.IsWhole) (arg5 : Memref sig .tc .vmem S1x128x128 .bf16) (harg5 : arg5.IsWhole) (arg6 : Memref sig .tc .vmem S1x128x512 .bf16) (harg6 : arg6.IsWhole) (arg7 : Memref sig .tc .vmem S1x4x1x128x128 .fp8e4m3) (harg7 : arg7.IsWhole) (arg8 : Memref sig .tc .vmem S1x1x32x512 .f32) (harg8 : arg8.IsWhole) (arg9 : Memref sig .tc .vmem S1x1x1x128x128 .fp8e4m3) (harg9 : arg9.IsWhole) (arg10 : Memref sig .tc .vmem S1x1x32x128 .f32) (harg10 : arg10.IsWhole) (arg11 : Memref sig .tc .vmem S1x1x1x128x128 .fp8e4m3) (harg11 : arg11.IsWhole) (arg12 : Memref sig .tc .vmem S1x1x32x128 .f32) (harg12 : arg12.IsWhole) (arg13 : Memref sig .tc .vmem S512x128 .fp8e4m3) (harg13 : arg13.IsWhole) (arg14 : Memref sig .tc .vmem S32x128x128 .fp8e4m3) (harg14 : arg14.IsWhole) (arg15 : Memref sig .tc .vmem S32x128x128 .fp8e4m3) (harg15 : arg15.IsWhole) (arg16 : Memref sig .tc .vmem S32x128x512 .f32) (harg16 : arg16.IsWhole) (arg17 : Memref sig .tc .vmem S32x512 .f32) (harg17 : arg17.IsWhole) (arg18 : Memref sig .tc .vmem S32x512 .f32) (harg18 : arg18.IsWhole) (arg19 : Memref sig .tc .vmem S32x512 .f32) (harg19 : arg19.IsWhole) (arg20 : Memref sig .tc .vmem S32x512 .f32) (harg20 : arg20.IsWhole) (arg21 : Memref sig .tc .vmem S128x512 .f32) (harg21 : arg21.IsWhole) (v223 : FVec F S1x512 .f32) (v385 : FVec F S32x512 .f32) (cst_175 : F .f32)
    (f17 : BufTy.Contents (Elt F) arg17.view.ty) (f18 : BufTy.Contents (Elt F) arg18.view.ty) :
    (iprop((arg17.view.loc (c : Thread nD τ) ↦[arg17.view.set]{fullShare} f17) ∗ (arg18.view.loc (c : Thread nD τ) ↦[arg18.view.set]{fullShare} f18)) : sProp 𝕄)
    ⊢ wp frame (wpE (defs₀ (F := F)) Variants.none c none) Set.univ (k0_part11 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v223 v385 cst_175)
      (fun r => iprop(⌜r.1 = k0_pay65 v223 v385 cst_175 (arg17.view.read (Elt F) f17)⌝ ∗ ⌜r.2.1 = k0_pay66 v223 v385 cst_175 (arg17.view.read (Elt F) f17)⌝ ∗ ⌜r.2.2 = k0_pay68 v223 v385 cst_175 (arg17.view.read (Elt F) f17)⌝
        ∗ (arg17.view.loc (c : Thread nD τ) ↦[arg17.view.set]{fullShare} f17)
        ∗ (∃ g, ⌜arg18.view.read (Elt F) g = k0_pay67 v223 v385 cst_175⌝ ∗ (arg18.view.loc (c : Thread nD τ) ↦[arg18.view.set]{fullShare} g)))) := by
  iintro ⟨H17, H18⟩
  rw [k0_part11_eq_skeleton]; unfold k0_part11_skel
  sl_exec
  rw [View.readAt_full]
  sl_step
  isplitr; · ipureintro; exact Eq.refl (k0_pay65 v223 v385 cst_175 (arg17.view.read (Elt F) f17))
  isplitr; · ipureintro; exact Eq.refl (k0_pay66 v223 v385 cst_175 (arg17.view.read (Elt F) f17))
  isplitr; · ipureintro; exact Eq.refl (k0_pay68 v223 v385 cst_175 (arg17.view.read (Elt F) f17))
  isplitl [H17]; · iexact H17
  iexists _; isplitr; swap; · iexact H18
  ipureintro
  rw [read_writes_whole]

/-- The accumulated products and the partial sums of the probabilities after `k` key blocks. -/
def attend (m : FVec F S1x512 .f32) (s : Vec F S32x128x512 .f32) (c : Vec F S32x512 .f32) (inv : Vec F S32x512 .f32) (vt : Vec F S32x128x128 .fp8e4m3)
    (pvs : Vec F S32x512 .f32) : ℕ → FVec F S128x512 .f32 × FVec F S8x512 .f32
  | 0 => (k0_pay71, k0_pay72)
  | k + 1 => if h : k < 32 then
      (k0_pay75 m (row3 s ⟨k, h⟩) (row2 c ⟨k, h⟩) (row2 inv ⟨k, h⟩) (row3 vt ⟨k, h⟩) (attend m s c inv vt pvs k).1 (row2 pvs ⟨k, h⟩),
        k0_pay74 m (attend m s c inv vt pvs k).2 (row3 s ⟨k, h⟩) (row2 c ⟨k, h⟩))
    else attend m s c inv vt pvs k

theorem attend_succ (m : FVec F S1x512 .f32) (s : Vec F S32x128x512 .f32) (c : Vec F S32x512 .f32) (inv : Vec F S32x512 .f32) (vt : Vec F S32x128x128 .fp8e4m3)
    (pvs : Vec F S32x512 .f32) (k : ℕ) (n : Fin 32) (h : n.val = k) : attend m s c inv vt pvs (k + 1)
      = (k0_pay75 m (row3 s n) (row2 c n) (row2 inv n) (row3 vt n) (attend m s c inv vt pvs k).1 (row2 pvs n),
        k0_pay74 m (attend m s c inv vt pvs k).2 (row3 s n) (row2 c n)) := by
  subst h; exact dif_pos n.isLt

/-- The loop over the key blocks. -/
@[sl_loop, instance_reducible] def attendLoop (𝒱 : Variants) (c : Dev nD) (bd : Option 𝒱.V) (E : Set ℕ) (i : grid0.Coords) (arg3 : Memref sig .tc .vmem S1x128x512 .bf16) (harg3 : arg3.IsWhole) (arg4 : Memref sig .tc .vmem S1x128x128 .bf16) (harg4 : arg4.IsWhole) (arg5 : Memref sig .tc .vmem S1x128x128 .bf16) (harg5 : arg5.IsWhole) (arg6 : Memref sig .tc .vmem S1x128x512 .bf16) (harg6 : arg6.IsWhole) (arg7 : Memref sig .tc .vmem S1x4x1x128x128 .fp8e4m3) (harg7 : arg7.IsWhole) (arg8 : Memref sig .tc .vmem S1x1x32x512 .f32) (harg8 : arg8.IsWhole) (arg9 : Memref sig .tc .vmem S1x1x1x128x128 .fp8e4m3) (harg9 : arg9.IsWhole) (arg10 : Memref sig .tc .vmem S1x1x32x128 .f32) (harg10 : arg10.IsWhole) (arg11 : Memref sig .tc .vmem S1x1x1x128x128 .fp8e4m3) (harg11 : arg11.IsWhole) (arg12 : Memref sig .tc .vmem S1x1x32x128 .f32) (harg12 : arg12.IsWhole) (arg13 : Memref sig .tc .vmem S512x128 .fp8e4m3) (harg13 : arg13.IsWhole) (arg14 : Memref sig .tc .vmem S32x128x128 .fp8e4m3) (harg14 : arg14.IsWhole) (arg15 : Memref sig .tc .vmem S32x128x128 .fp8e4m3) (harg15 : arg15.IsWhole) (arg16 : Memref sig .tc .vmem S32x128x512 .f32) (harg16 : arg16.IsWhole) (arg17 : Memref sig .tc .vmem S32x512 .f32) (harg17 : arg17.IsWhole) (arg18 : Memref sig .tc .vmem S32x512 .f32) (harg18 : arg18.IsWhole) (arg19 : Memref sig .tc .vmem S32x512 .f32) (harg19 : arg19.IsWhole) (arg20 : Memref sig .tc .vmem S32x512 .f32) (harg20 : arg20.IsWhole) (arg21 : Memref sig .tc .vmem S128x512 .f32) (harg21 : arg21.IsWhole) (arg2 : BitVec 32) (v388 : FVec F S32x512 .f32) (v396 : FVec F S1x512 .f32) (v418 : IVec S32x512 32) (v430 : FVec F S32x512 .f32)
    (f15 : BufTy.Contents (Elt F) arg15.view.ty) (f16 : BufTy.Contents (Elt F) arg16.view.ty) (f18 : BufTy.Contents (Elt F) arg18.view.ty) (f19 : BufTy.Contents (Elt F) arg19.view.ty) (f20 : BufTy.Contents (Elt F) arg20.view.ty) (init : FVec F S8x512 .f32) :
    LoopInvTy_k0_t3 (F := F) Unit ℕ (UR sig nD τ) ℕ 𝒱 c bd E i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg2 v388 v396 v418 v430 init where
  inv k acc := iprop((arg15.view.loc (c : Thread nD τ) ↦[arg15.view.set]{fullShare} f15) ∗ (arg16.view.loc (c : Thread nD τ) ↦[arg16.view.set]{fullShare} f16) ∗ (arg18.view.loc (c : Thread nD τ) ↦[arg18.view.set]{fullShare} f18) ∗ (arg19.view.loc (c : Thread nD τ) ↦[arg19.view.set]{fullShare} f19) ∗ (arg20.view.loc (c : Thread nD τ) ↦[arg20.view.set]{fullShare} f20)
    ∗ (∃ g, ⌜arg21.view.read (Elt F) g = (attend v396 (arg16.view.read (Elt F) f16) (arg18.view.read (Elt F) f18) (arg19.view.read (Elt F) f19) (arg15.view.read (Elt F) f15) (arg20.view.read (Elt F) f20) k).1⌝ ∗ (arg21.view.loc (c : Thread nD τ) ↦[arg21.view.set]{fullShare} g))
    ∗ ⌜acc = (attend v396 (arg16.view.read (Elt F) f16) (arg18.view.read (Elt F) f18) (arg19.view.read (Elt F) f19) (arg15.view.read (Elt F) f15) (arg20.view.read (Elt F) f20) k).2⌝)
  step k acc := by
    iintro ⟨H15, H16, H18, H19, H20, ⟨%g21, %h21, H21⟩, %hacc⟩
    unfold k0_t3_body
    sl_exec
    sl_step
    isplitl [H15]; · iexact H15
    isplitl [H16]; · iexact H16
    isplitl [H18]; · iexact H18
    isplitl [H19]; · iexact H19
    isplitl [H20]; · iexact H20
    rw [attend_succ _ _ _ _ _ _ k.val (k3 i k) rfl]
    isplitl [H21]
    · iexists _; isplitr; swap; · iexact H21
      ipureintro
      rw [read_writes_whole, readAt_row3 arg16.view f16 (k3 i k) _ (off12_eq i k), readAt_row3 arg15.view f15 (k3 i k) _ (off14_eq i k),
        readAt_row2 arg18.view f18 (k3 i k) _ (off13_eq i k), readAt_row2 arg19.view f19 (k3 i k) _ (off13_eq i k), readAt_row2 arg20.view f20 (k3 i k) _ (off13_eq i k),
        View.readAt_full, h21]
    ipureintro
    rw [readAt_row3 arg16.view f16 (k3 i k) _ (off12_eq i k), readAt_row2 arg18.view f18 (k3 i k) _ (off13_eq i k), hacc]

theorem part12_spec (c : Dev nD) (i : grid0.Coords) (arg3 : Memref sig .tc .vmem S1x128x512 .bf16) (harg3 : arg3.IsWhole) (arg4 : Memref sig .tc .vmem S1x128x128 .bf16) (harg4 : arg4.IsWhole) (arg5 : Memref sig .tc .vmem S1x128x128 .bf16) (harg5 : arg5.IsWhole) (arg6 : Memref sig .tc .vmem S1x128x512 .bf16) (harg6 : arg6.IsWhole) (arg7 : Memref sig .tc .vmem S1x4x1x128x128 .fp8e4m3) (harg7 : arg7.IsWhole) (arg8 : Memref sig .tc .vmem S1x1x32x512 .f32) (harg8 : arg8.IsWhole) (arg9 : Memref sig .tc .vmem S1x1x1x128x128 .fp8e4m3) (harg9 : arg9.IsWhole) (arg10 : Memref sig .tc .vmem S1x1x32x128 .f32) (harg10 : arg10.IsWhole) (arg11 : Memref sig .tc .vmem S1x1x1x128x128 .fp8e4m3) (harg11 : arg11.IsWhole) (arg12 : Memref sig .tc .vmem S1x1x32x128 .f32) (harg12 : arg12.IsWhole) (arg13 : Memref sig .tc .vmem S512x128 .fp8e4m3) (harg13 : arg13.IsWhole) (arg14 : Memref sig .tc .vmem S32x128x128 .fp8e4m3) (harg14 : arg14.IsWhole) (arg15 : Memref sig .tc .vmem S32x128x128 .fp8e4m3) (harg15 : arg15.IsWhole) (arg16 : Memref sig .tc .vmem S32x128x512 .f32) (harg16 : arg16.IsWhole) (arg17 : Memref sig .tc .vmem S32x512 .f32) (harg17 : arg17.IsWhole) (arg18 : Memref sig .tc .vmem S32x512 .f32) (harg18 : arg18.IsWhole) (arg19 : Memref sig .tc .vmem S32x512 .f32) (harg19 : arg19.IsWhole) (arg20 : Memref sig .tc .vmem S32x512 .f32) (harg20 : arg20.IsWhole) (arg21 : Memref sig .tc .vmem S128x512 .f32) (harg21 : arg21.IsWhole) (arg2 : BitVec 32) (v388 : FVec F S32x512 .f32) (v396 : FVec F S1x512 .f32) (v418 : IVec S32x512 32) (v430 : FVec F S32x512 .f32)
    (f6 : BufTy.Contents (Elt F) arg6.view.ty) (f15 : BufTy.Contents (Elt F) arg15.view.ty) (f16 : BufTy.Contents (Elt F) arg16.view.ty) (f18 : BufTy.Contents (Elt F) arg18.view.ty) (f19 : BufTy.Contents (Elt F) arg19.view.ty) (f20 : BufTy.Contents (Elt F) arg20.view.ty) (f21 : BufTy.Contents (Elt F) arg21.view.ty) :
    (iprop((arg6.view.loc (c : Thread nD τ) ↦[arg6.view.set]{fullShare} f6) ∗ (arg15.view.loc (c : Thread nD τ) ↦[arg15.view.set]{fullShare} f15) ∗ (arg16.view.loc (c : Thread nD τ) ↦[arg16.view.set]{fullShare} f16) ∗ (arg18.view.loc (c : Thread nD τ) ↦[arg18.view.set]{fullShare} f18) ∗ (arg19.view.loc (c : Thread nD τ) ↦[arg19.view.set]{fullShare} f19) ∗ (arg20.view.loc (c : Thread nD τ) ↦[arg20.view.set]{fullShare} f20) ∗ (arg21.view.loc (c : Thread nD τ) ↦[arg21.view.set]{fullShare} f21)) : sProp 𝕄)
    ⊢ wp frame (wpE (defs₀ (F := F)) Variants.none c none) Set.univ (k0_part12 i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg2 v388 v396 v418 v430)
      (fun r => iprop((arg15.view.loc (c : Thread nD τ) ↦[arg15.view.set]{fullShare} f15) ∗ (arg16.view.loc (c : Thread nD τ) ↦[arg16.view.set]{fullShare} f16) ∗ (arg18.view.loc (c : Thread nD τ) ↦[arg18.view.set]{fullShare} f18) ∗ (∃ g, (arg19.view.loc (c : Thread nD τ) ↦[arg19.view.set]{fullShare} g)) ∗ (∃ g, (arg20.view.loc (c : Thread nD τ) ↦[arg20.view.set]{fullShare} g)) ∗ (∃ g, (arg21.view.loc (c : Thread nD τ) ↦[arg21.view.set]{fullShare} g))
        ∗ (∃ o l, ⌜(o, l) = attend v396 (arg16.view.read (Elt F) f16) (arg18.view.read (Elt F) f18) (k0_pay69 v430) (arg15.view.read (Elt F) f15) (k0_pay70 v388 v418) ((i 2).val + 1)⌝
            ∗ ⌜r.1 = k0_pay79 l o⌝ ∗ ⌜r.2 = k0_pay81 l o⌝
            ∗ (arg6.view.loc (c : Thread nD τ) ↦[arg6.view.set]{fullShare} arg6.view.writes (Elt F) f6 [⟨Rect.unit (s := S1x128x512) ![0, 0, 0] S1x128x128.size inb_S1x128x512_S1x128x128_0_0_0, k0_pay80 l o⟩])))) := by
  iintro ⟨H6, H15, H16, H18, H19, H20, H21⟩
  rw [k0_part12_eq_skeleton]; unfold k0_part12_skel
  set_option sl_exec.maxSteps 6 in sl_exec
  ihave HX : iprop(∃ g, ⌜arg19.view.read (Elt F) g = k0_pay69 v430⌝ ∗ (arg19.view.loc (c : Thread nD τ) ↦[arg19.view.set]{fullShare} g)) $$ [H19]
  · iexists _; isplitr; swap; · iexact H19
    ipureintro; rw [read_writes_whole]
  icases HX with ⟨%g19, %h19, H19⟩
  ihave HX : iprop(∃ g, ⌜arg20.view.read (Elt F) g = k0_pay70 v388 v418⌝ ∗ (arg20.view.loc (c : Thread nD τ) ↦[arg20.view.set]{fullShare} g)) $$ [H20]
  · iexists _; isplitr; swap; · iexact H20
    ipureintro; rw [read_writes_whole]
  icases HX with ⟨%g20, %h20, H20⟩
  ihave HX : iprop(∃ g, ⌜arg21.view.read (Elt F) g = (attend v396 (arg16.view.read (Elt F) f16) (arg18.view.read (Elt F) f18) (arg19.view.read (Elt F) g19) (arg15.view.read (Elt F) f15) (arg20.view.read (Elt F) g20) 0).1⌝ ∗ (arg21.view.loc (c : Thread nD τ) ↦[arg21.view.set]{fullShare} g)) $$ [H21]
  · iexists _; isplitr; swap; · iexact H21
    ipureintro; rw [read_writes_whole]; rfl
  icases HX with ⟨%g21, %h21, H21⟩
  have hacc : k0_pay72 = (attend v396 (arg16.view.read (Elt F) f16) (arg18.view.read (Elt F) f18) (arg19.view.read (Elt F) g19) (arg15.view.read (Elt F) f15) (arg20.view.read (Elt F) g20) 0).2 := rfl
  sl_exec
  rw [h19, h20] at hL5
  have eo : arg21.view.read (Elt F) gL0 = (attend v396 (arg16.view.read (Elt F) f16) (arg18.view.read (Elt F) f18) (k0_pay69 v430) (arg15.view.read (Elt F) f15) (k0_pay70 v388 v418) ((i 2).val + 1)).1 := hL5.trans (congrArg (fun k => (attend v396 (arg16.view.read (Elt F) f16) (arg18.view.read (Elt F) f18) (k0_pay69 v430) (arg15.view.read (Elt F) f15) (k0_pay70 v388 v418) k).1) (trips3 i))
  have el : (attend v396 (arg16.view.read (Elt F) f16) (arg18.view.read (Elt F) f18) (arg19.view.read (Elt F) g19) (arg15.view.read (Elt F) f15) (arg20.view.read (Elt F) g20) (Scf.trips (k0_t3_loop i).lb (k0_t3_loop i).ub (k0_t3_loop i).st)).2 = (attend v396 (arg16.view.read (Elt F) f16) (arg18.view.read (Elt F) f18) (k0_pay69 v430) (arg15.view.read (Elt F) f15) (k0_pay70 v388 v418) ((i 2).val + 1)).2 := by
    rw [h19, h20]; exact congrArg (fun k => (attend v396 (arg16.view.read (Elt F) f16) (arg18.view.read (Elt F) f18) (k0_pay69 v430) (arg15.view.read (Elt F) f15) (k0_pay70 v388 v418) k).2) (trips3 i)
  rw [View.readAt_full, eo, el]
  sl_step
  isplitl [H15]; · iexact H15
  isplitl [H16]; · iexact H16
  isplitl [H18]; · iexact H18
  isplitl [H19]; · iexists _; iexact H19
  isplitl [H20]; · iexists _; iexact H20
  isplitl [H21]; · iexists _; iexact H21
  iexists (attend v396 (arg16.view.read (Elt F) f16) (arg18.view.read (Elt F) f18) (k0_pay69 v430) (arg15.view.read (Elt F) f15) (k0_pay70 v388 v418) ((i 2).val + 1)).1, (attend v396 (arg16.view.read (Elt F) f16) (arg18.view.read (Elt F) f18) (k0_pay69 v430) (arg15.view.read (Elt F) f15) (k0_pay70 v388 v418) ((i 2).val + 1)).2
  isplitr; · ipureintro; rfl
  isplitr; · ipureintro; rfl
  isplitr; · ipureintro; rfl
  iexact H6

end Cert.KernelIdeal.Hand
-- ==== Proof.Stores.lean ====
/-
  What a window or a scratch buffer reads after the stores of one grid point that fill it in several pieces.
-/
module

public import proofs.«01_k».proof.Proof.Codes
public import proofs.«01_k».proof.Proof.Scores
public import proofs.«01_k».proof.Proof.Attend

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

section
variable {sig' : RefSig} {κ : Kind} {sp : Space}

theorem read_qCodes (v : View sig' κ sp S1x4x1x128x128 .fp8e4m3) (f : v.ty.Contents (Elt Ideal)) (B : Fin 4 → Vec Ideal S1x128x128 .bf16)
    {L : List (View.Piece (Elt Ideal) S1x4x1x128x128 .fp8e4m3)}
    (hL : L = [⟨Rect.unit ![0, 3, 0, 0, 0] S1x1x1x128x128.size inb_S1x4x1x128x128_S1x1x1x128x128_0_3_0_0_0, k0_pay32 (k0_pay28 (B 3)) (k0_pay30 (B 3))⟩,
      ⟨Rect.unit ![0, 2, 0, 0, 0] S1x1x1x128x128.size inb_S1x4x1x128x128_S1x1x1x128x128_0_2_0_0_0, k0_pay25 (k0_pay24 (k0_pay20 (B 2)) (k0_pay21 (B 2)))⟩,
      ⟨Rect.unit ![0, 1, 0, 0, 0] S1x1x1x128x128.size inb_S1x4x1x128x128_S1x1x1x128x128_0_1_0_0_0, k0_pay17 (k0_pay13 (B 1)) (k0_pay14 (B 1))⟩,
      ⟨Rect.unit ![0, 0, 0, 0, 0] S1x1x1x128x128.size inb_S1x4x1x128x128_S1x1x1x128x128_0_0_0_0_0, k0_pay10 (k0_pay8 (B 0))⟩]) :
    v.read (Elt Ideal) (v.writes (Elt Ideal) f L) = fun y => codes (B (y 1)) (ix2 (y 3) (y 4)) := by
  funext y
  refine View.read_writes_apply_of_pieces (Val := Elt Ideal) v f (fun y : S1x4x1x128x128.Idx => codes (B (y 1)) (ix2 (y 3) (y 4))) L (fun p hp x => ?_) y ?_
  · subst hL
    have key : ∀ (g : Fin 4) (r l : Fin 128) (z : S1x4x1x128x128.Idx) (h1 : (z 1).val = g.val + 1 * 0) (h3 : (z 3).val = 0 + 1 * r.val)
        (h4 : (z 4).val = 0 + 1 * l.val), codes (B g) (ix2 r l) = codes (B (z 1)) (ix2 (z 3) (z 4)) := by
      intro g r l z h1 h3 h4
      have e1 : z 1 = g := Fin.ext (by omega)
      have e3 : z 3 = r := Fin.ext (by omega)
      have e4 : z 4 = l := Fin.ext (by omega)
      rw [e1, e3, e4]
    simp only [List.mem_cons, List.not_mem_nil, or_false] at hp
    rcases hp with rfl | rfl | rfl | rfl
    all_goals
      obtain ⟨a, b, c, r, l, rfl⟩ : ∃ a b c r l, x = (ix5 a b c r l : S1x1x1x128x128.Idx) := ⟨x 0, x 1, x 2, x 3, x 4, eq_ix5 x⟩
      have hb : b = 0 := Subsingleton.elim _ _
      subst hb
    · exact (pay32_at (B 3) r l a 0 c).trans (key 3 r l _ rfl rfl rfl)
    · exact (pay25_at (B 2) r l a 0 c).trans (key 2 r l _ rfl rfl rfl)
    · exact (pay17_at (B 1) r l a 0 c).trans (key 1 r l _ rfl rfl rfl)
    · exact (pay10_at (B 0) r l a 0 c).trans (key 0 r l _ rfl rfl rfl)
  · subst hL
    exact View.cover_of_tiled (s := S1x4x1x128x128) _ ![1, 1, 1, 128, 128] (by rfl) y

theorem read_qStack (v : View sig' κ sp S512x128 .fp8e4m3) (f : v.ty.Contents (Elt Ideal)) (B : Fin 4 → Vec Ideal S1x128x128 .bf16)
    {L : List (View.Piece (Elt Ideal) S512x128 .fp8e4m3)}
    (hL : L = [⟨Rect.unit ![384, 0] S128x128.size inb_S512x128_S128x128_384_0, k0_pay33 (k0_pay28 (B 3)) (k0_pay30 (B 3))⟩,
      ⟨Rect.unit ![256, 0] S128x128.size inb_S512x128_S128x128_256_0, k0_pay26 (k0_pay24 (k0_pay20 (B 2)) (k0_pay21 (B 2)))⟩,
      ⟨Rect.unit ![128, 0] S128x128.size inb_S512x128_S128x128_128_0, k0_pay18 (k0_pay13 (B 1)) (k0_pay14 (B 1))⟩,
      ⟨Rect.unit ![0, 0] S128x128.size inb_S512x128_S128x128_0_0, k0_pay11 (k0_pay8 (B 0))⟩]) :
    v.read (Elt Ideal) (v.writes (Elt Ideal) f L) = fun y => codes (B (tileOf (y 0))) (ix2 ⟨(y 0).val % 128, Nat.mod_lt _ (by decide)⟩ (y 1)) := by
  funext y
  refine View.read_writes_apply_of_pieces (Val := Elt Ideal) v f (fun y : S512x128.Idx => codes (B (tileOf (y 0))) (ix2 ⟨(y 0).val % 128, Nat.mod_lt _ (by decide)⟩ (y 1))) L (fun p hp x => ?_) y ?_
  · subst hL
    have key : ∀ (g : Fin 4) (o : Nat) (r l : Fin 128) (h : o = 128 * g.val) (z : S512x128.Idx) (h0 : (z 0).val = o + 1 * r.val) (h1 : (z 1).val = 0 + 1 * l.val),
        codes (B g) (ix2 r l) = codes (B (tileOf (z 0))) (ix2 ⟨(z 0).val % 128, Nat.mod_lt _ (by decide)⟩ (z 1)) := by
      intro g o r l h z h0 h1
      have hr := r.isLt
      have e0 : tileOf (z 0) = g := Fin.ext (show (z 0).val / 128 = g.val by omega)
      have e1 : (⟨(z 0).val % 128, Nat.mod_lt _ (by decide)⟩ : Fin 128) = r := Fin.ext (show (z 0).val % 128 = r.val by omega)
      have e2 : z 1 = l := Fin.ext (by omega)
      rw [e0, e1, e2]
    simp only [List.mem_cons, List.not_mem_nil, or_false] at hp
    rcases hp with rfl | rfl | rfl | rfl
    all_goals
      obtain ⟨r, l, rfl⟩ : ∃ r l, x = (ix2 r l : S128x128.Idx) := ⟨x 0, x 1, eq_ix2 x⟩
    · exact (pay33_at (B 3) r l).trans (key 3 384 r l rfl _ rfl rfl)
    · exact (pay26_at (B 2) r l).trans (key 2 256 r l rfl _ rfl rfl)
    · exact (pay18_at (B 1) r l).trans (key 1 128 r l rfl _ rfl rfl)
    · exact (pay11_at (B 0) r l).trans (key 0 0 r l rfl _ rfl rfl)
  · subst hL
    exact View.cover_of_tiled (s := S512x128) _ ![128, 128] (by rfl) y

/-- The result block: the transposed quarters of the output block. -/
def yWin (O : FVec Ideal S128x512 .f32) : Vec Ideal S1x128x512 .bf16 :=
  fun y => O (ix2 ⟨(y 2).val % 128, Nat.mod_lt _ (by decide)⟩ ⟨128 * ((y 2).val / 128) + (y 1).val, by
    have h1 : (y 1).val < 128 := (y 1).isLt
    have h2 : (y 2).val < 512 := (y 2).isLt
    omega⟩)

theorem pay80_at (l : FVec Ideal S8x512 .f32) (o : FVec Ideal S128x512 .f32) (a : Fin 1) (r d : Fin 128) :
    k0_pay80 l o (ix3 a r d) = k0_pay79 l o (ix2 d ⟨r.val, by omega⟩) := by
  pointwise! [k0_pay80]
theorem pay1_at (l : FVec Ideal S8x512 .f32) (o : FVec Ideal S128x512 .f32) (a : Fin 1) (r d : Fin 128) :
    k0_pay1 (k0_pay81 l o) (ix3 a r d) = k0_pay79 l o (ix2 d ⟨128 + r.val, by omega⟩) := by
  pointwise! [k0_pay1, k0_pay81]
theorem pay2_at (O : FVec Ideal S128x512 .f32) (a : Fin 1) (r d : Fin 128) :
    k0_pay2 O (ix3 a r d) = O (ix2 d ⟨256 + r.val, by omega⟩) := by
  pointwise! [k0_pay2]
theorem pay3_at (O : FVec Ideal S128x512 .f32) (a : Fin 1) (r d : Fin 128) :
    k0_pay3 O (ix3 a r d) = O (ix2 d ⟨384 + r.val, by omega⟩) := by
  pointwise! [k0_pay3]

theorem read_yWin (v : View sig' κ sp S1x128x512 .bf16) (f : v.ty.Contents (Elt Ideal)) (l : FVec Ideal S8x512 .f32) (o : FVec Ideal S128x512 .f32)
    {L : List (View.Piece (Elt Ideal) S1x128x512 .bf16)}
    (hL : L = [⟨Rect.unit ![0, 0, 384] S1x128x128.size inb_S1x128x512_S1x128x128_0_0_384, k0_pay3 (k0_pay79 l o)⟩,
      ⟨Rect.unit ![0, 0, 256] S1x128x128.size inb_S1x128x512_S1x128x128_0_0_256, k0_pay2 (k0_pay79 l o)⟩,
      ⟨Rect.unit ![0, 0, 128] S1x128x128.size inb_S1x128x512_S1x128x128_0_0_128, k0_pay1 (k0_pay81 l o)⟩,
      ⟨Rect.unit ![0, 0, 0] S1x128x128.size inb_S1x128x512_S1x128x128_0_0_0, k0_pay80 l o⟩]) :
    v.read (Elt Ideal) (v.writes (Elt Ideal) f L) = yWin (k0_pay79 l o) := by
  funext y
  refine View.read_writes_apply_of_pieces (Val := Elt Ideal) v f (yWin (k0_pay79 l o)) L (fun p hp x => ?_) y ?_
  · subst hL
    have key : ∀ (n : Nat) (g : Fin 4) (r d : Fin 128) (hn : n = 128 * g.val) (hb : n + r.val < 512) (z : S1x128x512.Idx) (h1 : (z 1).val = 0 + 1 * r.val) (h2 : (z 2).val = n + 1 * d.val),
        k0_pay79 l o (ix2 d ⟨n + r.val, hb⟩) = yWin (k0_pay79 l o) z := by
      intro n g r d hn hb z h1 h2
      have hd := d.isLt
      refine congrArg (k0_pay79 l o) ?_
      refine congrArg₂ ix2 (Fin.ext (show d.val = (z 2).val % 128 by omega)) (Fin.ext (show n + r.val = 128 * ((z 2).val / 128) + (z 1).val by omega))
    simp only [List.mem_cons, List.not_mem_nil, or_false] at hp
    rcases hp with rfl | rfl | rfl | rfl
    all_goals
      obtain ⟨a, r, d, rfl⟩ : ∃ a r d, x = (ix3 a r d : S1x128x128.Idx) := ⟨x 0, x 1, x 2, eq_ix3 x⟩
    · exact (pay3_at _ a r d).trans (key 384 3 r d rfl _ _ rfl rfl)
    · exact (pay2_at _ a r d).trans (key 256 2 r d rfl _ _ rfl rfl)
    · exact (pay1_at l o a r d).trans (key 128 1 r d rfl _ _ rfl rfl)
    · refine (pay80_at l o a r d).trans (Eq.trans ?_ (key 0 0 r d rfl (by omega) _ rfl rfl))
      exact congrArg (k0_pay79 l o) (congrArg (ix2 d) (Fin.ext (show r.val = 0 + r.val by omega)))
  · subst hL
    exact View.cover_of_tiled (s := S1x128x512) _ ![1, 128, 128] (by rfl) y

/-- The four head blocks, as the kernel loads them. -/
def qLoads (v : View sig' κ sp S1x128x512 .bf16) (f : v.ty.Contents (Elt Ideal)) : Fin 4 → Vec Ideal S1x128x128 .bf16 :=
  ![v.readAt (Elt Ideal) (Rect.unit (s := S1x128x512) ![0, 0, 0] S1x128x128.size inb_S1x128x512_S1x128x128_0_0_0).toLoadRect f,
    v.readAt (Elt Ideal) (Rect.unit (s := S1x128x512) ![0, 0, 128] S1x128x128.size inb_S1x128x512_S1x128x128_0_0_128).toLoadRect f,
    v.readAt (Elt Ideal) (Rect.unit (s := S1x128x512) ![0, 0, 256] S1x128x128.size inb_S1x128x512_S1x128x128_0_0_256).toLoadRect f,
    v.readAt (Elt Ideal) (Rect.unit (s := S1x128x512) ![0, 0, 384] S1x128x128.size inb_S1x128x512_S1x128x128_0_0_384).toLoadRect f]

theorem qLoads_eq (v : View sig' κ sp S1x128x512 .bf16) (f : v.ty.Contents (Elt Ideal)) : qLoads v f = qPart (v.read (Elt Ideal) f) := by
  funext g
  fin_cases g
  · exact readAt_qPart v f 0 _ rfl
  · exact readAt_qPart v f 1 _ rfl
  · exact readAt_qPart v f 2 _ rfl
  · exact readAt_qPart v f 3 _ rfl
end

/-! ## The attention of one grid point, from the buffers it reads -/

/-- The scores against every key block up to the own one. -/
def scoresOf (q8 : Vec Ideal S512x128 .fp8e4m3) (k8 : Vec Ideal S32x128x128 .fp8e4m3) (q : ℕ) : Vec Ideal S32x128x512 .f32 :=
  fun y => scoreRow q8 k8 q (y 0) (ix3 0 (y 1) (y 2))

theorem row3_scoresOf (q8 : Vec Ideal S512x128 .fp8e4m3) (k8 : Vec Ideal S32x128x128 .fp8e4m3) (q : ℕ) (n : Fin 32) :
    row3 (scoresOf q8 k8 q) n = scoreRow q8 k8 q n := by
  funext y
  refine congrArg (scoreRow q8 k8 q n) ?_
  conv_rhs => rw [eq_ix3 y]
  exact congrArg (fun a => ix3 a (y 1) (y 2)) (Subsingleton.elim (α := Fin 1) _ _)

theorem attend_congr {m : FVec Ideal S1x512 .f32} {s s' : Vec Ideal S32x128x512 .f32} {c inv pvs : Vec Ideal S32x512 .f32} {vt : Vec Ideal S32x128x128 .fp8e4m3} (k : ℕ)
    (h : ∀ n : Fin 32, n.val < k → row3 s n = row3 s' n) : attend m s c inv vt pvs k = attend m s' c inv vt pvs k := by
  induction k with
  | zero => rfl
  | succ k ih =>
    have ih' := ih fun n hn => h n (by omega)
    by_cases hk : k < 32
    · rw [attend_succ _ _ _ _ _ _ k ⟨k, hk⟩ rfl, attend_succ _ _ _ _ _ _ k ⟨k, hk⟩ rfl, ih', h ⟨k, hk⟩ (Nat.lt_succ_self k)]
    · unfold attend
      rw [dif_neg hk, dif_neg hk]
      exact ih'

/-- The constant that the scores are multiplied by. -/
abbrev smC : Ideal .f32 := Scalar.ofBits .f32 0x3DB504F3#32

/-- The output block of one grid point. -/
def attOut (qs : FVec Ideal S1x512 .f32) (ks vs : Vec Ideal S1x1x32x128 .f32) (q8 : Vec Ideal S512x128 .fp8e4m3) (k8 vt8 : Vec Ideal S32x128x128 .fp8e4m3)
    (q : Fin 32) : FVec Ideal S128x512 .f32 :=
  k0_pay79
    (attend (k0_pay65 qs (k0_pay61 ks) smC (maxRows q8 k8 k0_pay51 q)) (scoresOf q8 k8 q.val) (k0_pay67 qs (k0_pay61 ks) smC)
      (k0_pay69 (k0_pay68 qs (k0_pay61 ks) smC (maxRows q8 k8 k0_pay51 q))) vt8 (k0_pay70 (k0_pay62 vs) (k0_pay66 qs (k0_pay61 ks) smC (maxRows q8 k8 k0_pay51 q))) (q.val + 1)).2
    (attend (k0_pay65 qs (k0_pay61 ks) smC (maxRows q8 k8 k0_pay51 q)) (scoresOf q8 k8 q.val) (k0_pay67 qs (k0_pay61 ks) smC)
      (k0_pay69 (k0_pay68 qs (k0_pay61 ks) smC (maxRows q8 k8 k0_pay51 q))) vt8 (k0_pay70 (k0_pay62 vs) (k0_pay66 qs (k0_pay61 ks) smC (maxRows q8 k8 k0_pay51 q))) (q.val + 1)).1

attribute [local irreducible] k0_pay65 k0_pay66 k0_pay67 k0_pay68 in
theorem attOut_of {qs : FVec Ideal S1x512 .f32} {ks vs : Vec Ideal S1x1x32x128 .f32} {q8 : Vec Ideal S512x128 .fp8e4m3} {k8 vt8 : Vec Ideal S32x128x128 .fp8e4m3}
    {q : Fin 32} {v385 v388 : FVec Ideal S32x512 .f32} {cst : Ideal .f32} {s16 : Vec Ideal S32x128x512 .f32} {s17 s18 : Vec Ideal S32x512 .f32}
    {v396 : FVec Ideal S1x512 .f32} {v418 : IVec S32x512 32} {v430 : FVec Ideal S32x512 .f32} {o : FVec Ideal S128x512 .f32} {l : FVec Ideal S8x512 .f32}
    (h385 : v385 = k0_pay61 ks) (h388 : v388 = k0_pay62 vs) (hc : cst = smC) (h16 : ∀ n : Fin 32, n.val ≤ q.val → row3 s16 n = scoreRow q8 k8 q.val n)
    (h17 : s17 = maxRows q8 k8 k0_pay51 q) (h396 : v396 = k0_pay65 qs v385 cst s17) (h418 : v418 = k0_pay66 qs v385 cst s17)
    (h430 : v430 = k0_pay68 qs v385 cst s17) (h18 : s18 = k0_pay67 qs v385 cst)
    (h : (o, l) = attend v396 s16 s18 (k0_pay69 v430) vt8 (k0_pay70 v388 v418) (q.val + 1)) : k0_pay79 l o = attOut qs ks vs q8 k8 vt8 q := by
  subst h385 h388 hc h17 h396 h418 h430 h18
  rw [attend_congr (s' := scoresOf q8 k8 q.val) (q.val + 1) fun n hn => (h16 n (by omega)).trans (row3_scoresOf q8 k8 q.val n).symm] at h
  unfold attOut
  rw [← h]

/-- The window of a key or value block's scales: all ones at the first query block, then a row more at every point. -/
def scaleWin (q : Fin 32) (X : Vec Ideal S1x1x32x128 .f32) (B : Vec Ideal S1x128x128 .bf16) : Vec Ideal S1x1x32x128 .f32 :=
  setRow4 (if q.val = 0 then k0_pay4 (F := Ideal) else X) q.val (fun _ => scl B (ix2 0 0))
/-- The window of the query scales. -/
def qScaleWin (q : Fin 32) (X : Vec Ideal S1x1x32x512 .f32) (x : Vec Ideal S1x128x512 .bf16) : Vec Ideal S1x1x32x512 .f32 :=
  setRow4 X q.val (fun y => qScales x (ix2 0 (y 3)))
/-- The scratch of key codes. -/
def kRows (q : Fin 32) (X : Vec Ideal S32x128x128 .fp8e4m3) (B : Vec Ideal S1x128x128 .bf16) : Vec Ideal S32x128x128 .fp8e4m3 :=
  setRow3 X q.val (fun y => codes B (ix2 (y 1) (y 2)))
/-- The scratch of value codes, every block transposed. -/
def vRows (q : Fin 32) (X : Vec Ideal S32x128x128 .fp8e4m3) (B : Vec Ideal S1x128x128 .bf16) : Vec Ideal S32x128x128 .fp8e4m3 :=
  setRow3 X q.val (fun y => codes B (ix2 (y 2) (y 1)))

/-! ## The reads, from what a run of the body leaves -/

section
variable {sig' : RefSig} {κ : Kind} {sp : Space} (v3 : View sig' κ sp S1x128x512 .bf16) (f3 : v3.ty.Contents (Elt Ideal))
  (v4 : View sig' κ sp S1x128x128 .bf16) (f4 : v4.ty.Contents (Elt Ideal)) (i : grid0.Coords)

theorem left_qCodes (v : View sig' κ sp S1x4x1x128x128 .fp8e4m3) (f : v.ty.Contents (Elt Ideal))
    {L : List (View.Piece (Elt Ideal) S1x4x1x128x128 .fp8e4m3)}
    (hL : L = [⟨Rect.unit ![0, 3, 0, 0, 0] S1x1x1x128x128.size inb_S1x4x1x128x128_S1x1x1x128x128_0_3_0_0_0, k0_pay32 (k0_pay28 (qLoads v3 f3 3)) (k0_pay30 (qLoads v3 f3 3))⟩,
      ⟨Rect.unit ![0, 2, 0, 0, 0] S1x1x1x128x128.size inb_S1x4x1x128x128_S1x1x1x128x128_0_2_0_0_0, k0_pay25 (k0_pay24 (k0_pay20 (qLoads v3 f3 2)) (k0_pay21 (qLoads v3 f3 2)))⟩,
      ⟨Rect.unit ![0, 1, 0, 0, 0] S1x1x1x128x128.size inb_S1x4x1x128x128_S1x1x1x128x128_0_1_0_0_0, k0_pay17 (k0_pay13 (qLoads v3 f3 1)) (k0_pay14 (qLoads v3 f3 1))⟩,
      ⟨Rect.unit ![0, 0, 0, 0, 0] S1x1x1x128x128.size inb_S1x4x1x128x128_S1x1x1x128x128_0_0_0_0_0, k0_pay10 (k0_pay8 (qLoads v3 f3 0))⟩]) :
    v.read (Elt Ideal) (v.writes (Elt Ideal) f L) = qCodes (v3.read (Elt Ideal) f3) := by
  rw [read_qCodes v f (qLoads v3 f3) hL, qLoads_eq]
  rfl

theorem left_qStack (v : View sig' κ sp S512x128 .fp8e4m3) (f : v.ty.Contents (Elt Ideal))
    {L : List (View.Piece (Elt Ideal) S512x128 .fp8e4m3)}
    (hL : L = [⟨Rect.unit ![384, 0] S128x128.size inb_S512x128_S128x128_384_0, k0_pay33 (k0_pay28 (qLoads v3 f3 3)) (k0_pay30 (qLoads v3 f3 3))⟩,
      ⟨Rect.unit ![256, 0] S128x128.size inb_S512x128_S128x128_256_0, k0_pay26 (k0_pay24 (k0_pay20 (qLoads v3 f3 2)) (k0_pay21 (qLoads v3 f3 2)))⟩,
      ⟨Rect.unit ![128, 0] S128x128.size inb_S512x128_S128x128_128_0, k0_pay18 (k0_pay13 (qLoads v3 f3 1)) (k0_pay14 (qLoads v3 f3 1))⟩,
      ⟨Rect.unit ![0, 0] S128x128.size inb_S512x128_S128x128_0_0, k0_pay11 (k0_pay8 (qLoads v3 f3 0))⟩]) :
    v.read (Elt Ideal) (v.writes (Elt Ideal) f L) = qStack (v3.read (Elt Ideal) f3) := by
  rw [read_qStack v f (qLoads v3 f3) hL, qLoads_eq]
  rfl

theorem left_qScales : k0_pay34 (k0_pay12 (k0_pay7 (qLoads v3 f3 0))) (k0_pay19 (k0_pay14 (qLoads v3 f3 1))) (k0_pay27 (k0_pay23 (k0_pay21 (qLoads v3 f3 2))))
    (k0_pay29 (qLoads v3 f3 3)) = qScales (v3.read (Elt Ideal) f3) := by
  rw [pay34_eq, qLoads_eq]; rfl

theorem left_qScaleWin (v : View sig' κ sp S1x1x32x512 .f32) (f : v.ty.Contents (Elt Ideal)) {w : FVec Ideal S1x1x1x512 .f32}
    (hw : w = k0_pay35 (k0_pay12 (k0_pay7 (qLoads v3 f3 0))) (k0_pay19 (k0_pay14 (qLoads v3 f3 1))) (k0_pay27 (k0_pay23 (k0_pay21 (qLoads v3 f3 2))))
      (k0_pay29 (qLoads v3 f3 3))) (inb : ∀ a, k0_off1 i a + S1x1x1x512.size a ≤ S1x1x32x512.size a) :
    v.read (Elt Ideal) (v.writes (Elt Ideal) f [⟨Rect.unit (s := S1x1x32x512) (k0_off1 i) S1x1x1x512.size inb, w⟩])
      = qScaleWin (i 2) (v.read (Elt Ideal) f) (v3.read (Elt Ideal) f3) := by
  rw [read_writes_row4 v f _ _ (off1_eq i), View.writes_nil]
  refine congrArg (setRow4 (v.read (Elt Ideal) f) (i 2).val) (funext fun y => ?_)
  rw [hw, ← left_qScales v3 f3]
  exact (congrArg (k0_pay35 _ _ _ _) (eq_ix4 y)).trans (pay35_at _ _ _ _ _ _ _ _)

theorem left_codes (v : View sig' κ sp S1x1x1x128x128 .fp8e4m3) (f : v.ty.Contents (Elt Ideal)) (B : Vec Ideal S1x128x128 .bf16)
    {w : FVec Ideal S1x1x1x128x128 .fp8e4m3} (hw : ∀ a b c r l, w (ix5 a b c r l) = codes B (ix2 r l)) {off : Fin 5 → ℕ}
    (inb : ∀ a, off a + S1x1x1x128x128.size a ≤ S1x1x1x128x128.size a) :
    v.read (Elt Ideal) (v.writes (Elt Ideal) f [⟨Rect.unit (s := S1x1x1x128x128) off S1x1x1x128x128.size inb, w⟩]) = fun y => codes B (ix2 (y 3) (y 4)) := by
  rw [read_writes_whole]
  funext y
  exact (congrArg w (eq_ix5 y)).trans (hw _ _ _ _ _)

theorem left_scaleWin (v : View sig' κ sp S1x1x32x128 .f32) (f : v.ty.Contents (Elt Ideal)) (B : Vec Ideal S1x128x128 .bf16)
    {w : FVec Ideal S1x1x1x128 .f32} (hw : ∀ a b c l, w (ix4 a b c l) = scl B (ix2 0 0)) {off : Fin 4 → ℕ}
    (inb : ∀ a, off a + S1x1x1x128.size a ≤ S1x1x32x128.size a) (h : off = ![0, 0, (i 2).val, 0]) (L : List (View.Piece (Elt Ideal) S1x1x32x128 .f32))
    {X : Vec Ideal S1x1x32x128 .f32} (hX : v.read (Elt Ideal) (v.writes (Elt Ideal) f L) = if (i 2).val = 0 then k0_pay4 (F := Ideal) else X) :
    v.read (Elt Ideal) (v.writes (Elt Ideal) f (⟨Rect.unit (s := S1x1x32x128) off S1x1x1x128.size inb, w⟩ :: L)) = scaleWin (i 2) X B := by
  rw [read_writes_row4 v f _ _ h, hX]
  refine congrArg (setRow4 _ (i 2).val) (funext fun y => ?_)
  exact (congrArg w (eq_ix4 y)).trans (hw _ _ _ _)

theorem left_kRows (v : View sig' κ sp S32x128x128 .fp8e4m3) (f : v.ty.Contents (Elt Ideal)) (B : Vec Ideal S1x128x128 .bf16)
    {w : FVec Ideal S1x128x128 .fp8e4m3} (hw : ∀ a r l, w (ix3 a r l) = codes B (ix2 r l)) {off : Fin 3 → ℕ}
    (inb : ∀ a, off a + S1x128x128.size a ≤ S32x128x128.size a) (h : off = ![(i 2).val, 0, 0]) :
    v.read (Elt Ideal) (v.writes (Elt Ideal) f [⟨Rect.unit (s := S32x128x128) off S1x128x128.size inb, w⟩]) = kRows (i 2) (v.read (Elt Ideal) f) B := by
  rw [read_writes_row3 v f _ _ h, View.writes_nil]
  refine congrArg (setRow3 _ (i 2).val) (funext fun y => ?_)
  exact (congrArg w (eq_ix3 y)).trans (hw _ _ _)

theorem left_vRows (v : View sig' κ sp S32x128x128 .fp8e4m3) (f : v.ty.Contents (Elt Ideal)) (B : Vec Ideal S1x128x128 .bf16)
    {w : FVec Ideal S1x128x128 .fp8e4m3} (hw : ∀ a r l, w (ix3 a r l) = codes B (ix2 l r)) {off : Fin 3 → ℕ}
    (inb : ∀ a, off a + S1x128x128.size a ≤ S32x128x128.size a) (h : off = ![(i 2).val, 0, 0]) :
    v.read (Elt Ideal) (v.writes (Elt Ideal) f [⟨Rect.unit (s := S32x128x128) off S1x128x128.size inb, w⟩]) = vRows (i 2) (v.read (Elt Ideal) f) B := by
  rw [read_writes_row3 v f _ _ h, View.writes_nil]
  refine congrArg (setRow3 _ (i 2).val) (funext fun y => ?_)
  exact (congrArg w (eq_ix3 y)).trans (hw _ _ _)
end

/-- The first-query-block test of the body. -/
theorem first_iff (i : grid0.Coords) : Scalar.cmpi .ne (Scalar.extui (Scalar.cmpi .eq (BitVec.ofNat 32 (i 2).val) 0#32)) 0#32 = 1#1 ↔ (i 2).val = 0 := by
  have h : ∀ q : Fin 32, Scalar.cmpi .ne (Scalar.extui (Scalar.cmpi .eq (BitVec.ofNat 32 q.val) 0#32)) 0#32 = 1#1 ↔ q.val = 0 := by decide +kernel
  exact h (i 2)

end Cert.KernelIdeal.Hand
-- ==== Proof.Run.lean ====
/-
  One run of the kernel's body: what it leaves in every buffer, from any contents of its outputs and of its scratch.
-/
module

public import proofs.«01_k».proof.Proof.Stores

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UR sig nD τ) ℕ

theorem bodyRun (c : Dev nD) (i : grid0.Coords) (arg3 : Memref sig .tc .vmem S1x128x512 .bf16) (harg3 : arg3.IsWhole) (arg4 : Memref sig .tc .vmem S1x128x128 .bf16) (harg4 : arg4.IsWhole) (arg5 : Memref sig .tc .vmem S1x128x128 .bf16) (harg5 : arg5.IsWhole) (arg6 : Memref sig .tc .vmem S1x128x512 .bf16) (harg6 : arg6.IsWhole) (arg7 : Memref sig .tc .vmem S1x4x1x128x128 .fp8e4m3) (harg7 : arg7.IsWhole) (arg8 : Memref sig .tc .vmem S1x1x32x512 .f32) (harg8 : arg8.IsWhole) (arg9 : Memref sig .tc .vmem S1x1x1x128x128 .fp8e4m3) (harg9 : arg9.IsWhole) (arg10 : Memref sig .tc .vmem S1x1x32x128 .f32) (harg10 : arg10.IsWhole) (arg11 : Memref sig .tc .vmem S1x1x1x128x128 .fp8e4m3) (harg11 : arg11.IsWhole) (arg12 : Memref sig .tc .vmem S1x1x32x128 .f32) (harg12 : arg12.IsWhole) (arg13 : Memref sig .tc .vmem S512x128 .fp8e4m3) (harg13 : arg13.IsWhole) (arg14 : Memref sig .tc .vmem S32x128x128 .fp8e4m3) (harg14 : arg14.IsWhole) (arg15 : Memref sig .tc .vmem S32x128x128 .fp8e4m3) (harg15 : arg15.IsWhole) (arg16 : Memref sig .tc .vmem S32x128x512 .f32) (harg16 : arg16.IsWhole) (arg17 : Memref sig .tc .vmem S32x512 .f32) (harg17 : arg17.IsWhole) (arg18 : Memref sig .tc .vmem S32x512 .f32) (harg18 : arg18.IsWhole) (arg19 : Memref sig .tc .vmem S32x512 .f32) (harg19 : arg19.IsWhole) (arg20 : Memref sig .tc .vmem S32x512 .f32) (harg20 : arg20.IsWhole) (arg21 : Memref sig .tc .vmem S128x512 .f32) (harg21 : arg21.IsWhole)
    (f3 : BufTy.Contents (Elt Ideal) arg3.view.ty) (f4 : BufTy.Contents (Elt Ideal) arg4.view.ty) (f5 : BufTy.Contents (Elt Ideal) arg5.view.ty) (f6 : BufTy.Contents (Elt Ideal) arg6.view.ty) (f7 : BufTy.Contents (Elt Ideal) arg7.view.ty) (f8 : BufTy.Contents (Elt Ideal) arg8.view.ty) (f9 : BufTy.Contents (Elt Ideal) arg9.view.ty) (f10 : BufTy.Contents (Elt Ideal) arg10.view.ty) (f11 : BufTy.Contents (Elt Ideal) arg11.view.ty) (f12 : BufTy.Contents (Elt Ideal) arg12.view.ty) (f13 : BufTy.Contents (Elt Ideal) arg13.view.ty) (f14 : BufTy.Contents (Elt Ideal) arg14.view.ty) (f15 : BufTy.Contents (Elt Ideal) arg15.view.ty) (f16 : BufTy.Contents (Elt Ideal) arg16.view.ty) (f17 : BufTy.Contents (Elt Ideal) arg17.view.ty) (f18 : BufTy.Contents (Elt Ideal) arg18.view.ty) (f19 : BufTy.Contents (Elt Ideal) arg19.view.ty) (f20 : BufTy.Contents (Elt Ideal) arg20.view.ty) (f21 : BufTy.Contents (Elt Ideal) arg21.view.ty) (K : PUnit → sProp 𝕄) :
    iprop((arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14) ∗ (arg15.view.loc (c : Thread nD τ) ↦[arg15.view.set]{fullShare} f15) ∗ (arg16.view.loc (c : Thread nD τ) ↦[arg16.view.set]{fullShare} f16) ∗ (arg17.view.loc (c : Thread nD τ) ↦[arg17.view.set]{fullShare} f17) ∗ (arg18.view.loc (c : Thread nD τ) ↦[arg18.view.set]{fullShare} f18) ∗ (arg19.view.loc (c : Thread nD τ) ↦[arg19.view.set]{fullShare} f19) ∗ (arg20.view.loc (c : Thread nD τ) ↦[arg20.view.set]{fullShare} f20) ∗ (arg21.view.loc (c : Thread nD τ) ↦[arg21.view.set]{fullShare} f21) ∗
      ((owns (c : Thread nD τ) arg3 fullShare (arg3.view.read (Elt Ideal) f3) ∗ owns (c : Thread nD τ) arg4 fullShare (arg4.view.read (Elt Ideal) f4) ∗ owns (c : Thread nD τ) arg5 fullShare (arg5.view.read (Elt Ideal) f5)
        ∗ owns (c : Thread nD τ) arg6 fullShare (yWin (attOut (qScales (arg3.view.read (Elt Ideal) f3)) (scaleWin (i 2) (arg10.view.read (Elt Ideal) f10) (arg4.view.read (Elt Ideal) f4))
            (scaleWin (i 2) (arg12.view.read (Elt Ideal) f12) (arg5.view.read (Elt Ideal) f5)) (qStack (arg3.view.read (Elt Ideal) f3)) (kRows (i 2) (arg14.view.read (Elt Ideal) f14) (arg4.view.read (Elt Ideal) f4))
            (vRows (i 2) (arg15.view.read (Elt Ideal) f15) (arg5.view.read (Elt Ideal) f5)) (i 2)))
        ∗ owns (c : Thread nD τ) arg7 fullShare (qCodes (arg3.view.read (Elt Ideal) f3))
        ∗ owns (c : Thread nD τ) arg8 fullShare (qScaleWin (i 2) (arg8.view.read (Elt Ideal) f8) (arg3.view.read (Elt Ideal) f3))
        ∗ owns (c : Thread nD τ) arg9 fullShare (fun y => codes (arg4.view.read (Elt Ideal) f4) (ix2 (y 3) (y 4)))
        ∗ owns (c : Thread nD τ) arg10 fullShare (scaleWin (i 2) (arg10.view.read (Elt Ideal) f10) (arg4.view.read (Elt Ideal) f4))
        ∗ owns (c : Thread nD τ) arg11 fullShare (fun y => codes (arg5.view.read (Elt Ideal) f5) (ix2 (y 3) (y 4)))
        ∗ owns (c : Thread nD τ) arg12 fullShare (scaleWin (i 2) (arg12.view.read (Elt Ideal) f12) (arg5.view.read (Elt Ideal) f5))
        ∗ (∃ g, (arg13.view.loc (c : Thread nD τ) ↦[arg13.view.set]{fullShare} g))
        ∗ (∃ g, ⌜arg14.view.read (Elt Ideal) g = kRows (i 2) (arg14.view.read (Elt Ideal) f14) (arg4.view.read (Elt Ideal) f4)⌝ ∗ (arg14.view.loc (c : Thread nD τ) ↦[arg14.view.set]{fullShare} g))
        ∗ (∃ g, ⌜arg15.view.read (Elt Ideal) g = vRows (i 2) (arg15.view.read (Elt Ideal) f15) (arg5.view.read (Elt Ideal) f5)⌝ ∗ (arg15.view.loc (c : Thread nD τ) ↦[arg15.view.set]{fullShare} g))
        ∗ (∃ g, (arg16.view.loc (c : Thread nD τ) ↦[arg16.view.set]{fullShare} g)) ∗ (∃ g, (arg17.view.loc (c : Thread nD τ) ↦[arg17.view.set]{fullShare} g)) ∗ (∃ g, (arg18.view.loc (c : Thread nD τ) ↦[arg18.view.set]{fullShare} g)) ∗ (∃ g, (arg19.view.loc (c : Thread nD τ) ↦[arg19.view.set]{fullShare} g)) ∗ (∃ g, (arg20.view.loc (c : Thread nD τ) ↦[arg20.view.set]{fullShare} g)) ∗ (∃ g, (arg21.view.loc (c : Thread nD τ) ↦[arg21.view.set]{fullShare} g))) -∗ K ⟨⟩))
      ⊢ wp frame (wpE (defs₀ (F := Ideal)) Variants.none c none) Set.univ (cc0_fp8_causal_gqa i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K := by
  iintro ⟨H3, H4, H5, H6, H7, H8, H9, H10, H11, H12, H13, H14, H15, H16, H17, H18, H19, H20, H21, Hk⟩
  have h10 := fun v350 v354 arg2 f10 f12 f14 f16 f17 => part10_spec (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v350 v354 arg2 f10 f12 f14 f16 f17
  have h11 := fun v223 v385 cst f17 f18 => part11_spec (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v223 v385 cst f17 f18
  have h12 := fun arg2 v388 v396 v418 v430 f6 f15 f16 f18 f19 f20 f21 => part12_spec (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg2 v388 v396 v418 v430 f6 f15 f16 f18 f19 f20 f21
  have e3 : arg3.view.readAt (Elt Ideal) (Rect.unit (s := S1x128x512) ![0, 0, 0] S1x128x128.size inb_S1x128x512_S1x128x128_0_0_0).toLoadRect f3 = qLoads arg3.view f3 0 := rfl
  have e4 := View.readAt_full arg4.view f4 inb_S1x128x128_S1x128x128_0_0_0
  have e5 := View.readAt_full arg5.view f5 inb_S1x128x128_S1x128x128_0_0_0
  by_cases hz : Scalar.cmpi .ne (Scalar.extui (Scalar.cmpi .eq (BitVec.ofNat 32 (i 2).val) 0#32)) 0#32 = 1#1
  · have hq := (first_iff i).mp hz
    set_option sl_exec.resultNames true in sl_exec_parts
    clear h10 h11 h12
    sl_step
    have hX : ∀ (v : View sig .tc .vmem S1x1x32x128 .f32) (f : v.ty.Contents (Elt Ideal)), v.read (Elt Ideal) (v.writes (Elt Ideal) f [⟨Rect.unit (s := S1x1x32x128) ![0, 0, 0, 0] S1x1x32x128.size inb_S1x1x32x128_S1x1x32x128_0_0_0_0, k0_pay4 (F := Ideal)⟩]) = if (i 2).val = 0 then k0_pay4 (F := Ideal) else v.read (Elt Ideal) f :=
      fun v f => by rw [if_pos hq, read_writes_whole]
    have r10 := left_scaleWin i arg10.view f10 (arg4.view.read (Elt Ideal) f4) (fun a b c l => pay43_at (arg4.view.read (Elt Ideal) f4) l a b c) (k0_off3_inb i) (off3_eq i) [⟨Rect.unit (s := S1x1x32x128) ![0, 0, 0, 0] S1x1x32x128.size inb_S1x1x32x128_S1x1x32x128_0_0_0_0, k0_pay4 (F := Ideal)⟩] (hX arg10.view f10)
    have r12 := left_scaleWin i arg12.view f12 (arg5.view.read (Elt Ideal) f5) (fun a b c l => pay50_at (arg5.view.read (Elt Ideal) f5) l a b c) (k0_off3_inb i) (off3_eq i) [⟨Rect.unit (s := S1x1x32x128) ![0, 0, 0, 0] S1x1x32x128.size inb_S1x1x32x128_S1x1x32x128_0_0_0_0, k0_pay4 (F := Ideal)⟩] (hX arg12.view f12)
    have r14 := left_kRows i arg14.view f14 (arg4.view.read (Elt Ideal) f4) (fun a r l => pay42_at (arg4.view.read (Elt Ideal) f4) r l a) (k0_off2_inb i) (off2_eq i)
    have r15 := left_vRows i arg15.view f15 (arg5.view.read (Elt Ideal) f5) (fun a r l => pay49_at (arg5.view.read (Elt Ideal) f5) r l a) (k0_off2_inb i) (off2_eq i)
    have s10 : arg10.view.read (Elt Ideal) (arg10.view.writes (Elt Ideal) f10 (bodyRun.sl.H10_2 i arg4 f4)) = scaleWin (i 2) (arg10.view.read (Elt Ideal) f10) (arg4.view.read (Elt Ideal) f4) := by
      delta bodyRun.sl.H10_2 bodyRun.sl.v273 bodyRun.sl.H10_1 bodyRun.sl.v236
      try rw [e4]
      clear * - r10
      exact r10
    have s12 : arg12.view.read (Elt Ideal) (arg12.view.writes (Elt Ideal) f12 (⟨Rect.unit (k0_off3 i) S1x1x1x128.size (k0_off3_inb i), k0_pay50 (F := Ideal) (bodyRun.sl.v315 arg5 f5)⟩ :: bodyRun.sl.H12_1)) = scaleWin (i 2) (arg12.view.read (Elt Ideal) f12) (arg5.view.read (Elt Ideal) f5) := by
      delta bodyRun.sl.v315 bodyRun.sl.H12_1
      try rw [e5]
      exact r12
    have s14 : arg14.view.read (Elt Ideal) (arg14.view.writes (Elt Ideal) f14 (bodyRun.sl.H14_1 i arg4 f4)) = kRows (i 2) (arg14.view.read (Elt Ideal) f14) (arg4.view.read (Elt Ideal) f4) := by
      delta bodyRun.sl.H14_1 bodyRun.sl.v274 bodyRun.sl.v230 bodyRun.sl.v236
      try rw [e4]
      clear * - r14
      exact r14
    have s15 : arg15.view.read (Elt Ideal) (arg15.view.writes (Elt Ideal) f15 [⟨Rect.unit (k0_off2 i) S1x128x128.size (k0_off2_inb i), k0_pay49 (F := Ideal) (bodyRun.sl.v290 arg5 f5) (bodyRun.sl.v317 arg5 f5) 127#32⟩]) = vRows (i 2) (arg15.view.read (Elt Ideal) f15) (arg5.view.read (Elt Ideal) f5) := by
      delta bodyRun.sl.v290 bodyRun.sl.v317
      try rw [e5]
      clear * - r15
      exact r15
    have hv350 : bodyRun.sl.v350 arg3 arg13 f3 = qStack (arg3.view.read (Elt Ideal) f3) := by
      delta bodyRun.sl.v350 View.readCov
      rw [View.readAt_full]
      clear * - e4 e5
      exact left_qStack arg3.view f3 arg13.view _ rfl
    have hv223 : bodyRun.sl.v223 arg3 f3 = qScales (arg3.view.read (Elt Ideal) f3) := by
      clear * - e4 e5
      exact left_qScales arg3.view f3
    rw [s10] at hk0_part10_0
    rw [s12] at hk0_part10_1
    rw [s14, hv350] at hk0_part10_6 hk0_part10_8
    rw [hv223] at hk0_part11_0 hk0_part11_1 hk0_part11_2 hk0_part11_4
    rw [s15] at hk0_part12_6
    have hO := attOut_of hk0_part10_0 hk0_part10_1 hk0_part10_2 hk0_part10_6 hk0_part10_8 hk0_part11_0 hk0_part11_1 hk0_part11_2 hk0_part11_4 hk0_part12_6
    dsimp only at hk0_part12_7 hk0_part12_8
    subst hk0_part12_7 hk0_part12_8
    iapply Hk
    unfold owns
    isplitl [H3]
    · iexists _; isplitr; swap; · iexact H3
      ipureintro; rfl
    isplitl [H4]
    · iexists _; isplitr; swap; · iexact H4
      ipureintro; rfl
    isplitl [H5]
    · iexists _; isplitr; swap; · iexact H5
      ipureintro; rfl
    isplitl [Hk0_part12_9]
    · iexists _; isplitr; swap; · iexact Hk0_part12_9
      ipureintro
      rw [← hO]
      exact read_yWin arg6.view f6 _ _ rfl
    isplitl [H7]
    · iexists _; isplitr; swap; · iexact H7
      ipureintro
      clear * - e4 e5
      exact left_qCodes arg3.view f3 arg7.view f7 rfl
    isplitl [H8]
    · iexists _; isplitr; swap; · iexact H8
      ipureintro
      clear * - e4 e5
      exact left_qScaleWin arg3.view f3 i arg8.view f8 rfl (k0_off1_inb i)
    isplitl [H9]
    · iexists _; isplitr; swap; · iexact H9
      ipureintro
      delta bodyRun.sl.H9_1 bodyRun.sl.v230 bodyRun.sl.v236
      clear * - e4 e5
      exact left_codes arg9.view f9 (arg4.view.read (Elt Ideal) f4) (fun a b c r l => pay41_at _ r l a b c) _
    isplitl [Hk0_part10_3]
    · iexists _; isplitr; swap; · iexact Hk0_part10_3
      ipureintro; exact s10
    isplitl [H11]
    · iexists _; isplitr; swap; · iexact H11
      ipureintro
      clear * - e4 e5
      delta bodyRun.sl.v290 bodyRun.sl.v317
      exact left_codes arg11.view f11 (arg5.view.read (Elt Ideal) f5) (fun a b c r l => pay48_at _ r l a b c) _
    isplitl [Hk0_part10_4]
    · iexists _; isplitr; swap; · iexact Hk0_part10_4
      ipureintro; exact s12
    isplitl [H13]
    · iexists _; iexact H13
    isplitl [Hk0_part10_5]
    · iexists _; isplitr; swap; · iexact Hk0_part10_5
      ipureintro; exact s14
    isplitl [Hk0_part12_0]
    · iexists _; isplitr; swap; · iexact Hk0_part12_0
      ipureintro; exact s15
    isplitl [Hk0_part12_1]
    · iexists _; iexact Hk0_part12_1
    isplitl [Hk0_part11_3]
    · iexists _; iexact Hk0_part11_3
    isplitl [Hk0_part12_2]
    · iexists _; iexact Hk0_part12_2
    isplitl [Hk0_part12_3]
    · iexists _; iexact Hk0_part12_3
    isplitl [Hk0_part12_4]
    · iexists _; iexact Hk0_part12_4
    iexists _; iexact Hk0_part12_5
  · have hq := fun h => hz ((first_iff i).mpr h)
    set_option sl_exec.resultNames true in sl_exec_parts
    clear h10 h11 h12
    sl_step
    have hX : ∀ (v : View sig .tc .vmem S1x1x32x128 .f32) (f : v.ty.Contents (Elt Ideal)), v.read (Elt Ideal) (v.writes (Elt Ideal) f []) = if (i 2).val = 0 then k0_pay4 (F := Ideal) else v.read (Elt Ideal) f :=
      fun v f => by rw [if_neg hq, View.writes_nil]
    have r10 := left_scaleWin i arg10.view f10 (arg4.view.read (Elt Ideal) f4) (fun a b c l => pay43_at (arg4.view.read (Elt Ideal) f4) l a b c) (k0_off3_inb i) (off3_eq i) [] (hX arg10.view f10)
    have r12 := left_scaleWin i arg12.view f12 (arg5.view.read (Elt Ideal) f5) (fun a b c l => pay50_at (arg5.view.read (Elt Ideal) f5) l a b c) (k0_off3_inb i) (off3_eq i) [] (hX arg12.view f12)
    have r14 := left_kRows i arg14.view f14 (arg4.view.read (Elt Ideal) f4) (fun a r l => pay42_at (arg4.view.read (Elt Ideal) f4) r l a) (k0_off2_inb i) (off2_eq i)
    have r15 := left_vRows i arg15.view f15 (arg5.view.read (Elt Ideal) f5) (fun a r l => pay49_at (arg5.view.read (Elt Ideal) f5) r l a) (k0_off2_inb i) (off2_eq i)
    have s10 : arg10.view.read (Elt Ideal) (arg10.view.writes (Elt Ideal) f10 (bodyRun.sl.H10_1_1 i arg4 f4)) = scaleWin (i 2) (arg10.view.read (Elt Ideal) f10) (arg4.view.read (Elt Ideal) f4) := by
      delta bodyRun.sl.H10_1_1 bodyRun.sl.v273_1 bodyRun.sl.v236_1
      try rw [e4]
      clear * - r10
      exact r10
    have s12 : arg12.view.read (Elt Ideal) (arg12.view.writes (Elt Ideal) f12 (⟨Rect.unit (k0_off3 i) S1x1x1x128.size (k0_off3_inb i), k0_pay50 (F := Ideal) (bodyRun.sl.v315_1 arg5 f5)⟩ :: [])) = scaleWin (i 2) (arg12.view.read (Elt Ideal) f12) (arg5.view.read (Elt Ideal) f5) := by
      delta bodyRun.sl.v315_1
      try rw [e5]
      exact r12
    have s14 : arg14.view.read (Elt Ideal) (arg14.view.writes (Elt Ideal) f14 (bodyRun.sl.H14_1_1 i arg4 f4)) = kRows (i 2) (arg14.view.read (Elt Ideal) f14) (arg4.view.read (Elt Ideal) f4) := by
      delta bodyRun.sl.H14_1_1 bodyRun.sl.v274_1 bodyRun.sl.v230_1 bodyRun.sl.v236_1
      try rw [e4]
      clear * - r14
      exact r14
    have s15 : arg15.view.read (Elt Ideal) (arg15.view.writes (Elt Ideal) f15 [⟨Rect.unit (k0_off2 i) S1x128x128.size (k0_off2_inb i), k0_pay49 (F := Ideal) (bodyRun.sl.v290_1 arg5 f5) (bodyRun.sl.v317_1 arg5 f5) 127#32⟩]) = vRows (i 2) (arg15.view.read (Elt Ideal) f15) (arg5.view.read (Elt Ideal) f5) := by
      delta bodyRun.sl.v290_1 bodyRun.sl.v317_1
      try rw [e5]
      clear * - r15
      exact r15
    have hv350 : bodyRun.sl.v350_1 arg3 arg13 f3 = qStack (arg3.view.read (Elt Ideal) f3) := by
      delta bodyRun.sl.v350_1 View.readCov
      rw [View.readAt_full]
      clear * - e4 e5
      exact left_qStack arg3.view f3 arg13.view _ rfl
    have hv223 : bodyRun.sl.v223_1 arg3 f3 = qScales (arg3.view.read (Elt Ideal) f3) := by
      clear * - e4 e5
      exact left_qScales arg3.view f3
    rw [s10] at hk0_part10_0
    rw [s12] at hk0_part10_1
    rw [s14, hv350] at hk0_part10_6 hk0_part10_8
    rw [hv223] at hk0_part11_0 hk0_part11_1 hk0_part11_2 hk0_part11_4
    rw [s15] at hk0_part12_6
    have hO := attOut_of hk0_part10_0 hk0_part10_1 hk0_part10_2 hk0_part10_6 hk0_part10_8 hk0_part11_0 hk0_part11_1 hk0_part11_2 hk0_part11_4 hk0_part12_6
    dsimp only at hk0_part12_7 hk0_part12_8
    subst hk0_part12_7 hk0_part12_8
    iapply Hk
    unfold owns
    isplitl [H3]
    · iexists _; isplitr; swap; · iexact H3
      ipureintro; rfl
    isplitl [H4]
    · iexists _; isplitr; swap; · iexact H4
      ipureintro; rfl
    isplitl [H5]
    · iexists _; isplitr; swap; · iexact H5
      ipureintro; rfl
    isplitl [Hk0_part12_9]
    · iexists _; isplitr; swap; · iexact Hk0_part12_9
      ipureintro
      rw [← hO]
      exact read_yWin arg6.view f6 _ _ rfl
    isplitl [H7]
    · iexists _; isplitr; swap; · iexact H7
      ipureintro
      clear * - e4 e5
      exact left_qCodes arg3.view f3 arg7.view f7 rfl
    isplitl [H8]
    · iexists _; isplitr; swap; · iexact H8
      ipureintro
      clear * - e4 e5
      exact left_qScaleWin arg3.view f3 i arg8.view f8 rfl (k0_off1_inb i)
    isplitl [H9]
    · iexists _; isplitr; swap; · iexact H9
      ipureintro
      delta bodyRun.sl.H9_1_1 bodyRun.sl.v230_1 bodyRun.sl.v236_1
      clear * - e4 e5
      exact left_codes arg9.view f9 (arg4.view.read (Elt Ideal) f4) (fun a b c r l => pay41_at _ r l a b c) _
    isplitl [Hk0_part10_3]
    · iexists _; isplitr; swap; · iexact Hk0_part10_3
      ipureintro; exact s10
    isplitl [H11]
    · iexists _; isplitr; swap; · iexact H11
      ipureintro
      clear * - e4 e5
      delta bodyRun.sl.v290_1 bodyRun.sl.v317_1
      exact left_codes arg11.view f11 (arg5.view.read (Elt Ideal) f5) (fun a b c r l => pay48_at _ r l a b c) _
    isplitl [Hk0_part10_4]
    · iexists _; isplitr; swap; · iexact Hk0_part10_4
      ipureintro; exact s12
    isplitl [H13]
    · iexists _; iexact H13
    isplitl [Hk0_part10_5]
    · iexists _; isplitr; swap; · iexact Hk0_part10_5
      ipureintro; exact s14
    isplitl [Hk0_part12_0]
    · iexists _; isplitr; swap; · iexact Hk0_part12_0
      ipureintro; exact s15
    isplitl [Hk0_part12_1]
    · iexists _; iexact Hk0_part12_1
    isplitl [Hk0_part11_3]
    · iexists _; iexact Hk0_part11_3
    isplitl [Hk0_part12_2]
    · iexists _; iexact Hk0_part12_2
    isplitl [Hk0_part12_3]
    · iexists _; iexact Hk0_part12_3
    isplitl [Hk0_part12_4]
    · iexists _; iexact Hk0_part12_4
    iexists _; iexact Hk0_part12_5

end Cert.KernelIdeal.Hand
-- ==== Proof.Blocks.lean ====
/-
  What each run of the body leaves in the buffers it keeps, named by the blocks of the arguments: the codes of the keys and of
  the values of the head met so far, their scales, and the output of the point.
-/
module

public import proofs.«01_k».proof.Proof.Run
public import proofs.«01_k».proof.Proof.Gen.KernelIdeal.Frame

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UR sig nD τ) ℕ

/-! ## The output depends on the rows up to the own block alone -/

theorem attend_congr_vt {m : FVec Ideal S1x512 .f32} {s s' : Vec Ideal S32x128x512 .f32} {c inv pvs : Vec Ideal S32x512 .f32} {vt vt' : Vec Ideal S32x128x128 .fp8e4m3} (k : ℕ)
    (h : ∀ n : Fin 32, n.val < k → row3 s n = row3 s' n) (hv : ∀ n : Fin 32, n.val < k → row3 vt n = row3 vt' n) :
    attend m s c inv vt pvs k = attend m s' c inv vt' pvs k := by
  induction k with
  | zero => rfl
  | succ k ih =>
    have ih' := ih (fun n hn => h n (by omega)) (fun n hn => hv n (by omega))
    by_cases hk : k < 32
    · rw [attend_succ _ _ _ _ _ _ k ⟨k, hk⟩ rfl, attend_succ _ _ _ _ _ _ k ⟨k, hk⟩ rfl, ih', h ⟨k, hk⟩ (Nat.lt_succ_self k), hv ⟨k, hk⟩ (Nat.lt_succ_self k)]
    · unfold attend
      rw [dif_neg hk, dif_neg hk]
      exact ih'

theorem maxRows_congr {q8 : Vec Ideal S512x128 .fp8e4m3} {k8 k8' : Vec Ideal S32x128x128 .fp8e4m3} {fill : FVec Ideal S32x512 .f32} {q : Fin 32}
    (h : ∀ n : Fin 32, n.val ≤ q.val → row3 k8 n = row3 k8' n) : maxRows q8 k8 fill q = maxRows q8 k8' fill q := by
  unfold maxRows
  rw [h q le_rfl]
  refine congrArg (fun X => setRow2 X q.val (k0_pay60 q8 (row3 k8' q))) (funext fun y => ?_)
  unfold maxTo
  split_ifs with hy
  · rw [h (y 0) (le_of_lt hy)]
  · rfl

theorem scoreRow_congr {q8 : Vec Ideal S512x128 .fp8e4m3} {k8 k8' : Vec Ideal S32x128x128 .fp8e4m3} {q : ℕ} {n : Fin 32}
    (h : row3 k8 n = row3 k8' n) : scoreRow q8 k8 q n = scoreRow q8 k8' q n := by
  unfold scoreRow; rw [h]

theorem attOut_congr {qs : FVec Ideal S1x512 .f32} {ks vs : Vec Ideal S1x1x32x128 .f32} {q8 : Vec Ideal S512x128 .fp8e4m3} {k8 k8' vt8 vt8' : Vec Ideal S32x128x128 .fp8e4m3}
    {q : Fin 32} (h : ∀ n : Fin 32, n.val ≤ q.val → row3 k8 n = row3 k8' n) (hv : ∀ n : Fin 32, n.val ≤ q.val → row3 vt8 n = row3 vt8' n) :
    attOut qs ks vs q8 k8 vt8 q = attOut qs ks vs q8 k8' vt8' q := by
  unfold attOut
  rw [maxRows_congr h]
  rw [attend_congr_vt (s' := scoresOf q8 k8' q.val) (vt' := vt8') (q.val + 1)
    (fun n hn => by rw [row3_scoresOf, row3_scoresOf]; exact scoreRow_congr (h n (by omega))) (fun n hn => hv n (by omega))]

/-! ## The blocks of a head -/

variable (m : (ℓ : Loc nD τ sig) → Buf (Elt Ideal) ℓ)

theorem N_eq : cfg0.N = 1024 := by decide +kernel

/-- The point of number `u`. -/
def ptN (u : ℕ) : Fin cfg0.N := ⟨u % 1024, lt_of_lt_of_eq (Nat.mod_lt u (by norm_num)) N_eq.symm⟩

theorem ptN_val (t : Fin cfg0.N) : ptN t.val = t := by
  have := t.isLt
  have := N_eq
  exact Fin.ext (Nat.mod_eq_of_lt (by omega))

/-- The query, key and value blocks of point `u`. -/
def xN (c : Dev nD) (u : ℕ) : Vec Ideal S1x128x512 .bf16 := iblk m c 0 (ptN u)
def kN (c : Dev nD) (u : ℕ) : Vec Ideal S1x128x128 .bf16 := iblk m c 1 (ptN u)
def vN (c : Dev nD) (u : ℕ) : Vec Ideal S1x128x128 .bf16 := iblk m c 2 (ptN u)

/-- The codes of the keys of `32` blocks from block `32 · g` on; of the values, transposed in their block. -/
def k8Of (B : ℕ → Vec Ideal S1x128x128 .bf16) (g : ℕ) : Vec Ideal S32x128x128 .fp8e4m3 := fun y => codes (B (32 * g + (y 0).val)) (ix2 (y 1) (y 2))
def v8Of (B : ℕ → Vec Ideal S1x128x128 .bf16) (g : ℕ) : Vec Ideal S32x128x128 .fp8e4m3 := fun y => codes (B (32 * g + (y 0).val)) (ix2 (y 2) (y 1))
/-- The scales met up to block `q` of the head, ones beyond. -/
def scalesOf (B : ℕ → Vec Ideal S1x128x128 .bf16) (g q : ℕ) : Vec Ideal S1x1x32x128 .f32 := fun y =>
  if (y 2).val ≤ q then scl (B (32 * g + (y 2).val)) (ix2 0 0) else k0_pay4 (F := Ideal) y

/-- The scratch of the keys holds the codes of the blocks before the point. -/
def K8ok (B : ℕ → Vec Ideal S1x128x128 .bf16) (u : ℕ) (X : Vec Ideal S32x128x128 .fp8e4m3) : Prop :=
  ∀ n : Fin 32, n.val < u % 32 → row3 X n = row3 (k8Of B (u / 32)) n
def V8ok (B : ℕ → Vec Ideal S1x128x128 .bf16) (u : ℕ) (X : Vec Ideal S32x128x128 .fp8e4m3) : Prop :=
  ∀ n : Fin 32, n.val < u % 32 → row3 X n = row3 (v8Of B (u / 32)) n

theorem kRows_le {B : ℕ → Vec Ideal S1x128x128 .bf16} {u : ℕ} {X : Vec Ideal S32x128x128 .fp8e4m3} (h : K8ok B u X) {q : Fin 32} (hq : q.val = u % 32)
    (n : Fin 32) (hn : n.val ≤ q.val) : row3 (kRows q X (B u)) n = row3 (k8Of B (u / 32)) n := by
  unfold kRows
  by_cases e : n = q
  · subst e
    rw [row3_setRow3_self]
    funext y
    unfold row3 k8Of
    have : 32 * (u / 32) + n.val = u := by omega
    show codes (B u) (ix2 (y 1) (y 2)) = codes (B (32 * (u / 32) + n.val)) (ix2 (y 1) (y 2))
    rw [this]
  · have e' : n.val ≠ q.val := fun h => e (Fin.ext h)
    rw [row3_setRow3_of_ne _ _ _ e']
    exact h n (by omega)

theorem vRows_le {B : ℕ → Vec Ideal S1x128x128 .bf16} {u : ℕ} {X : Vec Ideal S32x128x128 .fp8e4m3} (h : V8ok B u X) {q : Fin 32} (hq : q.val = u % 32)
    (n : Fin 32) (hn : n.val ≤ q.val) : row3 (vRows q X (B u)) n = row3 (v8Of B (u / 32)) n := by
  unfold vRows
  by_cases e : n = q
  · subst e
    rw [row3_setRow3_self]
    funext y
    unfold row3 v8Of
    have : 32 * (u / 32) + n.val = u := by omega
    show codes (B u) (ix2 (y 2) (y 1)) = codes (B (32 * (u / 32) + n.val)) (ix2 (y 2) (y 1))
    rw [this]
  · have e' : n.val ≠ q.val := fun h => e (Fin.ext h)
    rw [row3_setRow3_of_ne _ _ _ e']
    exact h n (by omega)

theorem K8ok_succ {B : ℕ → Vec Ideal S1x128x128 .bf16} {u : ℕ} {X : Vec Ideal S32x128x128 .fp8e4m3} (h : K8ok B u X) {q : Fin 32} (hq : q.val = u % 32) :
    K8ok B (u + 1) (kRows q X (B u)) := fun n hn => by
  have e : (u + 1) / 32 = u / 32 := by omega
  rw [e]
  exact kRows_le h hq n (by omega)

theorem V8ok_succ {B : ℕ → Vec Ideal S1x128x128 .bf16} {u : ℕ} {X : Vec Ideal S32x128x128 .fp8e4m3} (h : V8ok B u X) {q : Fin 32} (hq : q.val = u % 32) :
    V8ok B (u + 1) (vRows q X (B u)) := fun n hn => by
  have e : (u + 1) / 32 = u / 32 := by omega
  rw [e]
  exact vRows_le h hq n (by omega)

theorem scaleWin_eq {B : ℕ → Vec Ideal S1x128x128 .bf16} {u : ℕ} {X : Vec Ideal S1x1x32x128 .f32} {q : Fin 32} (hq : q.val = u % 32)
    (h : u % 32 ≠ 0 → X = scalesOf B ((u - 1) / 32) ((u - 1) % 32)) : scaleWin q X (B u) = scalesOf B (u / 32) (u % 32) := by
  funext y
  unfold scaleWin setRow4
  by_cases hz : q.val = 0
  · rw [if_pos hz]
    unfold scalesOf
    by_cases hy : (y 2).val = q.val
    · rw [if_pos hy, if_pos (by omega)]
      have : 32 * (u / 32) + (y 2).val = u := by omega
      rw [this]
    · rw [if_neg hy, if_neg (by omega)]
  · rw [if_neg hz, h (by omega)]
    have e : (u - 1) / 32 = u / 32 := by omega
    unfold scalesOf
    by_cases hy : (y 2).val = q.val
    · rw [if_pos hy, if_pos (by omega)]
      have : 32 * (u / 32) + (y 2).val = u := by omega
      rw [this]
    · rw [if_neg hy, e]
      by_cases hl : (y 2).val ≤ u % 32
      · rw [if_pos hl, if_pos (by omega)]
      · rw [if_neg hl, if_neg (by omega)]

/-- The window of the query scales holds the scales of the blocks up to the point. -/
def QsOk (B : ℕ → Vec Ideal S1x128x512 .bf16) (u : ℕ) (X : Vec Ideal S1x1x32x512 .f32) : Prop :=
  ∀ y : S1x1x32x512.Idx, (y 2).val ≤ u % 32 → X y = qScales (B (32 * (u / 32) + (y 2).val)) (ix2 0 (y 3))

theorem QsOk_step {B : ℕ → Vec Ideal S1x128x512 .bf16} {u : ℕ} {X : Vec Ideal S1x1x32x512 .f32} {q : Fin 32} (hq : q.val = u % 32)
    (h : u % 32 ≠ 0 → QsOk B (u - 1) X) : QsOk B u (qScaleWin q X (B u)) := fun y hy => by
  unfold qScaleWin setRow4
  by_cases e : (y 2).val = q.val
  · rw [if_pos e]
    have : 32 * (u / 32) + (y 2).val = u := by omega
    rw [this]
    rfl
  · rw [if_neg e]
    have h' := h (by omega) y (by omega)
    have e1 : (u - 1) / 32 = u / 32 := by omega
    rw [e1] at h'
    exact h'

/-- The output block of point `u`. -/
def yN (c : Dev nD) (u : ℕ) : Vec Ideal S1x128x512 .bf16 :=
  yWin (attOut (qScales (xN m c u)) (scalesOf (kN m c) (u / 32) (u % 32)) (scalesOf (vN m c) (u / 32) (u % 32)) (qStack (xN m c u))
    (k8Of (kN m c) (u / 32)) (v8Of (vN m c) (u / 32)) ⟨u % 32, Nat.mod_lt u (by norm_num)⟩)

end Cert.KernelIdeal.Hand

end
-- ==== Proof.Pay.lean ====
/-
  The values of the kernel's attention steps at one element, as sums, maxima and exponentials of extended reals.
-/
module

public import proofs.«01_k».proof.Proof.Blocks
public import proofs.«01_k».proof.Proof.Scale
public import Idealize.ShloMosaic.Lib.Pointwise
public import Idealize.ShloMosaic.Lib.WordCmp

@[expose] public section

set_option maxRecDepth 16384

noncomputable section

namespace Cert.KernelIdeal.Hand

open Cert.KernelIdeal Cert.KernelIdeal.Gen
open Idealize.ShloMosaic

theorem and_127 (c : Fin 512) : IntOp.andi (BitVec.ofNat 32 c.val) 127#32 = BitVec.ofNat 32 (c.val % 128) := by
  have h : ∀ c : Fin 512, IntOp.andi (BitVec.ofNat 32 c.val) 127#32 = BitVec.ofNat 32 (c.val % 128) := by decide +kernel
  exact h c

theorem ofBits_bot : Ideal.ofBits .f32 0xFF800000#32 = ⊥ := by
  simp [Ideal.ofBits, Ideal.ieee, -EReal.coe_mul]

theorem sle_ite (k i : ℕ) (hk : k < 4096) (hi : i < 4096) (a b : EReal) :
    Scalar.select (IntOp.cmpi .sle (BitVec.ofNat 32 k) (BitVec.ofNat 32 i)) a b = if k ≤ i then a else b := by
  have e : ∀ n : ℕ, n < 4096 → (BitVec.ofNat 32 n).toInt = n := fun n hn => by
    rw [BitVec.toInt_eq_toNat_of_lt (by rw [BitVec.toNat_ofNat]; omega), BitVec.toNat_ofNat]
    omega
  show Scalar.select (BitVec.ofBool (decide ((BitVec.ofNat 32 k).toInt ≤ (BitVec.ofNat 32 i).toInt))) a b = _
  rw [e k hk, e i hi]
  by_cases h : k ≤ i
  · simp [Scalar.select, h]
  · simp [Scalar.select, h]

theorem pay52_at (q : Vec Ideal S512x128 .fp8e4m3) (k : Vec Ideal S1x128x128 .fp8e4m3) (t : Fin 128) (c : Fin 512) :
    k0_pay52 q k (ix2 t c) = ∑ d : Fin 128, (k (ix3 0 t d) * q (ix2 c d) : EReal) := by
  pointwise! [k0_pay52]

theorem pay53_at (q : Vec Ideal S512x128 .fp8e4m3) (k : Vec Ideal S1x128x128 .fp8e4m3) (t : Fin 128) (c : Fin 512) :
    k0_pay53 q k (ix3 0 t c) = k0_pay52 q k (ix2 t c) := by
  pointwise! [k0_pay53]

theorem pay54_at (q : Vec Ideal S512x128 .fp8e4m3) (k : Vec Ideal S1x128x128 .fp8e4m3) (c : Fin 512) :
    k0_pay54 q k (ix2 0 c) = Finset.fold max (⊥ : EReal) (fun t : Fin 128 => k0_pay52 q k (ix2 t c)) Finset.univ := by
  unfold k0_pay54
  generalize k0_pay52 q k = X
  pointwise!

theorem pay58_at (q : Vec Ideal S512x128 .fp8e4m3) (k : Vec Ideal S1x128x128 .fp8e4m3) (t : Fin 128) (c : Fin 512) :
    k0_pay58 q k (ix2 t c) = if t.val ≤ c.val % 128 then k0_pay52 q k (ix2 t c) else ⊥ := by
  pointwise! [k0_pay58, k0_pay52]
  rw [and_127, sle_ite _ _ (by omega) (by omega), ofBits_bot]

theorem pay59_at (q : Vec Ideal S512x128 .fp8e4m3) (k : Vec Ideal S1x128x128 .fp8e4m3) (t : Fin 128) (c : Fin 512) :
    k0_pay59 q k (ix3 0 t c) = k0_pay58 q k (ix2 t c) := by
  pointwise! [k0_pay59]

theorem pay60_at (q : Vec Ideal S512x128 .fp8e4m3) (k : Vec Ideal S1x128x128 .fp8e4m3) (c : Fin 512) :
    k0_pay60 q k (ix2 0 c) = Finset.fold max (⊥ : EReal) (fun t : Fin 128 => k0_pay58 q k (ix2 t c)) Finset.univ := by
  unfold k0_pay60
  generalize k0_pay58 q k = X
  pointwise!

theorem pay61_at (s : Vec Ideal S1x1x32x128 .f32) (n : Fin 32) (c : Fin 512) :
    k0_pay61 s (ix2 n c) = s (ix4 0 0 n ⟨c.val % 128, Nat.mod_lt _ (by decide)⟩) := by
  pointwise! [k0_pay61]
  split_ifs <;> exact congrArg s (congrArg (ix4 0 0 n) (Fin.ext (by simp only; omega)))

theorem pay64_at (qs : FVec Ideal S1x512 .f32) (ks : FVec Ideal S32x512 .f32) (w : Ideal .f32) (b : Vec Ideal S32x512 .f32) (n : Fin 32) (c : Fin 512) :
    k0_pay64 qs ks w b (ix2 n c) = (b (ix2 n c) * (qs (ix2 0 c) * w) * ks (ix2 n c) : EReal) := by
  pointwise! [k0_pay64, k0_pay63]

theorem pay65_at (qs : FVec Ideal S1x512 .f32) (ks : FVec Ideal S32x512 .f32) (w : Ideal .f32) (b : Vec Ideal S32x512 .f32) (c : Fin 512) :
    k0_pay65 qs ks w b (ix2 0 c) = Finset.fold max (⊥ : EReal) (fun n : Fin 32 => k0_pay64 qs ks w b (ix2 n c)) Finset.univ := by
  unfold k0_pay65
  generalize k0_pay64 qs ks w b = X
  pointwise!

theorem pay66_at (qs : FVec Ideal S1x512 .f32) (ks : FVec Ideal S32x512 .f32) (w : Ideal .f32) (b : Vec Ideal S32x512 .f32) (n : Fin 32) (c : Fin 512) :
    k0_pay66 qs ks w b (ix2 n c) = Cert.Scale.expo (Ideal.exp (k0_pay64 qs ks w b (ix2 n c) - k0_pay65 qs ks w b (ix2 0 c)) * Ideal.ofBits .f32 0x3B124925#32) := by
  unfold k0_pay66
  generalize k0_pay64 qs ks w b = X
  generalize k0_pay65 qs ks w b = Y
  pointwise!

theorem pay67_at (qs : FVec Ideal S1x512 .f32) (ks : FVec Ideal S32x512 .f32) (w : Ideal .f32) (n : Fin 32) (c : Fin 512) :
    k0_pay67 qs ks w (ix2 n c) = (qs (ix2 0 c) * w * ks (ix2 n c) : EReal) := by
  pointwise! [k0_pay67, k0_pay63]

theorem pay69_at (qs : FVec Ideal S1x512 .f32) (ks : FVec Ideal S32x512 .f32) (w : Ideal .f32) (b : Vec Ideal S32x512 .f32) (n : Fin 32) (c : Fin 512) :
    k0_pay69 (k0_pay68 qs ks w b) (ix2 n c) = Ideal.ofBits .f32 (IntOp.shli .vector (IntOp.addi (IntOp.subi 0#32 (k0_pay66 qs ks w b (ix2 n c))) 127#32) 23#32) := by
  unfold k0_pay68
  generalize k0_pay66 qs ks w b = X
  pointwise! [k0_pay69]

theorem pay70_at (vs : FVec Ideal S32x512 .f32) (X : IVec S32x512 32) (n : Fin 32) (c : Fin 512) :
    k0_pay70 vs X (ix2 n c) = Ideal.ofBits .f32 (IntOp.shli .vector (IntOp.addi (X (ix2 n c)) 127#32) 23#32) * (vs (ix2 n c) : EReal) := by
  pointwise! [k0_pay70]

theorem pay73_at (m : FVec Ideal S1x512 .f32) (s : Vec Ideal S1x128x512 .f32) (w : Vec Ideal S1x512 .f32) (t : Fin 128) (c : Fin 512) :
    k0_pay73 m s w (ix2 t c) = Ideal.exp (s (ix3 0 t c) * w (ix2 0 c) - m (ix2 0 c)) := by
  pointwise! [k0_pay73]

theorem pay74_at (m : FVec Ideal S1x512 .f32) (l : FVec Ideal S8x512 .f32) (s : Vec Ideal S1x128x512 .f32) (w : Vec Ideal S1x512 .f32) (g : Fin 8) (c : Fin 512) :
    k0_pay74 m l s w (ix2 g c) = (l (ix2 g c) + ∑ a : Fin 16, k0_pay73 m s w (ix2 ⟨8 * a.val + g.val, by omega⟩ c) : EReal) := by
  unfold k0_pay74
  generalize k0_pay73 m s w = X
  pointwise!

theorem pay75_at (m : FVec Ideal S1x512 .f32) (s : Vec Ideal S1x128x512 .f32) (w iv : Vec Ideal S1x512 .f32) (v : Vec Ideal S1x128x128 .fp8e4m3) (o : Vec Ideal S128x512 .f32)
    (u : Vec Ideal S1x512 .f32) (d : Fin 128) (c : Fin 512) :
    k0_pay75 m s w iv v o u (ix2 d c) = (o (ix2 d c) + (∑ t : Fin 128, v (ix3 0 d t) * min (Ideal.ofBits .f32 0x43E00000#32) (max (Ideal.ofBits .f32 0xC3E00000#32) (k0_pay73 m s w (ix2 t c) * iv (ix2 0 c)))) * u (ix2 0 c) : EReal) := by
  unfold k0_pay75
  generalize k0_pay73 m s w = X
  pointwise!

theorem pay79_at (l : FVec Ideal S8x512 .f32) (o : FVec Ideal S128x512 .f32) (d : Fin 128) (c : Fin 512) :
    k0_pay79 l o (ix2 d c) = Ideal.div (o (ix2 d c)) (∑ g : Fin 8, (l (ix2 g c) : EReal)) := by
  pointwise! [k0_pay79]

theorem pay71_at (d : Fin 128) (c : Fin 512) : k0_pay71 (F := Ideal) (ix2 d c) = (0 : EReal) := by
  pointwise! [k0_pay71]
theorem pay72_at (d : Fin 8) (c : Fin 512) : k0_pay72 (F := Ideal) (ix2 d c) = (0 : EReal) := by
  pointwise! [k0_pay72]
theorem pay51_at (d : Fin 32) (c : Fin 512) : k0_pay51 (F := Ideal) (ix2 d c) = (⊥ : EReal) := by
  pointwise! [k0_pay51]
theorem pay4_at (a b : Fin 1) (d : Fin 32) (c : Fin 128) : k0_pay4 (F := Ideal) (ix4 a b d c) = (1 : EReal) := by
  pointwise! [k0_pay4]

/-! ## The quantiser -/

/-- The largest magnitude of a block. -/
def amax (B : Vec Ideal S1x128x128 .bf16) : EReal :=
  Finset.fold max (Ideal.ofBits .f32 0xFF800000#32) (fun x : Fin 128 × Fin 128 => FloatOps.absf (F := Ideal) (φ := .f32) (B (ix3 0 x.1 x.2))) Finset.univ

theorem pay7_at (B : Vec Ideal S1x128x128 .bf16) : k0_pay7 B (ix2 0 0) = Cert.Scale.expo (amax B * Ideal.ofBits .f32 0x3B124925#32) := by
  pointwise! [k0_pay7, k0_pay6]

theorem codes_at (B : Vec Ideal S1x128x128 .bf16) (r d : Fin 128) :
    codes B (ix2 r d) = min (Ideal.ofBits .f32 0x43E00000#32) (max (Ideal.ofBits .f32 0xC3E00000#32) ((B (ix3 0 r d) : EReal) * Ideal.ofBits .f32 (IntOp.shli .vector (IntOp.addi (IntOp.subi 0#32 (k0_pay7 B (ix2 0 0))) 127#32) 23#32))) := by
  unfold codes k0_pay8
  generalize k0_pay7 B = e
  pointwise! [k0_pay9, k0_pay6]

theorem pow2S_at (e : IVec S1x1 32) : pow2S e (ix2 0 0) = Ideal.ofBits .f32 (IntOp.shli .vector (IntOp.addi (e (ix2 0 0)) 127#32) 23#32) := by
  pointwise! [pow2S]

end Cert.KernelIdeal.Hand

end
-- ==== Proof.Out.lean ====
/-
  One element of the kernel's attention output: the column form of `Column`, in the codes and the scales of its blocks.
-/
module

public import proofs.«01_k».proof.Proof.Pay
public import proofs.«01_k».proof.Proof.Column

@[expose] public section

set_option maxRecDepth 16384

noncomputable section

namespace Cert.KernelIdeal.Hand

open Cert.KernelIdeal Cert.KernelIdeal.Gen
open Idealize.ShloMosaic

theorem sum_lt_succ (f : Fin 32 → EReal) (k : Fin 32) :
    (∑ n : Fin 32, if n.val < k.val + 1 then f n else 0) = (∑ n : Fin 32, if n.val < k.val then f n else 0) + f k := by
  have e : ∀ n : Fin 32, (if n.val < k.val + 1 then f n else 0) = (if n.val < k.val then f n else 0) + (if n = k then f n else 0) := fun n => by
    by_cases h : n = k
    · subst h; simp
    · have h' : n.val ≠ k.val := fun e => h (Fin.ext e)
      by_cases hl : n.val < k.val
      · rw [if_pos (by omega), if_pos hl, if_neg h, add_zero]
      · rw [if_neg (by omega), if_neg hl, if_neg h, add_zero]
  rw [Finset.sum_congr rfl fun n _ => e n, Finset.sum_add_distrib, Finset.sum_ite_eq' Finset.univ k, if_pos (Finset.mem_univ _)]

abbrev LO : EReal := Ideal.ofBits .f32 0xC3E00000#32
abbrev HI : EReal := Ideal.ofBits .f32 0x43E00000#32
abbrev KA : EReal := Ideal.ofBits .f32 0x3B124925#32
abbrev SM : EReal := Ideal.ofBits .f32 0x3DB504F3#32

/-- The loop over the key blocks, from the values of one of its trips. -/
theorem attend_at (m : FVec Ideal S1x512 .f32) (s : Vec Ideal S32x128x512 .f32) (w iv : Vec Ideal S32x512 .f32) (vt : Vec Ideal S32x128x128 .fp8e4m3) (u : Vec Ideal S32x512 .f32)
    (d : Fin 128) (c : Fin 512) (P : Fin 32 → Fin 128 → EReal) (O : Fin 32 → EReal) (hP : ∀ n t, k0_pay73 m (row3 s n) (row2 w n) (ix2 t c) = P n t)
    (hO : ∀ n, ((∑ t : Fin 128, (vt (ix3 n d t) : EReal) * min HI (max LO (P n t * iv (ix2 n c)))) * u (ix2 n c) : EReal) = O n) (k : ℕ) (hk : k ≤ 32) :
    ((attend m s w iv vt u k).1 (ix2 d c) = ∑ n : Fin 32, if n.val < k then O n else 0)
    ∧ ∀ g : Fin 8, (attend m s w iv vt u k).2 (ix2 g c) = ∑ n : Fin 32, if n.val < k then ∑ a : Fin 16, P n (Cert.Column.key a g) else 0 := by
  induction k with
  | zero =>
    refine ⟨?_, fun g => ?_⟩
    · show k0_pay71 (ix2 d c) = _
      rw [pay71_at]; simp
    · show k0_pay72 (ix2 g c) = _
      rw [pay72_at]; simp
  | succ k ih =>
    obtain ⟨ih1, ih2⟩ := ih (by omega)
    obtain ⟨k', hk'⟩ : ∃ k' : Fin 32, k'.val = k := ⟨⟨k, by omega⟩, rfl⟩
    rw [attend_succ _ _ _ _ _ _ k k' hk']
    generalize attend m s w iv vt u k = A at ih1 ih2
    subst hk'
    refine ⟨?_, fun g => ?_⟩
    · show k0_pay75 m (row3 s k') (row2 w k') (row2 iv k') (row3 vt k') A.1 (row2 u k') (ix2 d c) = _
      rw [pay75_at, ih1, sum_lt_succ, ← hO k']
      simp only [hP]
      rfl
    · show k0_pay74 m A.2 (row3 s k') (row2 w k') (ix2 g c) = _
      rw [pay74_at, ih2, sum_lt_succ]
      simp only [hP]
      rfl

section
variable (qs : FVec Ideal S1x512 .f32) (ks vs : Vec Ideal S1x1x32x128 .f32) (q8 : Vec Ideal S512x128 .fp8e4m3) (k8 vt8 : Vec Ideal S32x128x128 .fp8e4m3) (q : Fin 32)
variable (KS VS : Fin 32 → EReal) (d r : Fin 128) (c : Fin 512) (hc : c.val % 128 = r.val)
variable (hks : ∀ n, ks (ix4 0 0 n r) = Cert.Column.upTo q KS n) (hvs : ∀ n, vs (ix4 0 0 n r) = Cert.Column.upTo q VS n)

/-- The products of the query row with the keys, the column of the values and the query's factor. -/
def accC (n : Fin 32) (t : Fin 128) : EReal := ∑ e : Fin 128, (k8 (ix3 n t e) * q8 (ix2 c e) : EReal)
def valC (n : Fin 32) (t : Fin 128) : EReal := vt8 (ix3 n d t)
def facC : EReal := qs (ix2 0 c) * SM

include hc in
theorem scores_at (n : Fin 32) (t : Fin 128) : scoreRow q8 k8 q.val n (ix3 0 t c) = Cert.Column.sK (accC q8 k8 c) q r n t := by
  unfold scoreRow Cert.Column.sK
  split_ifs with h h'
  · rw [pay53_at, pay52_at]; rfl
  · rw [show k0_pay59 q8 (row3 k8 n) (ix3 0 t c) = k0_pay58 q8 (row3 k8 n) (ix2 t c) from pay59_at _ _ _ _, pay58_at, if_pos (by omega), pay52_at]; rfl
  · rw [show k0_pay59 q8 (row3 k8 n) (ix3 0 t c) = k0_pay58 q8 (row3 k8 n) (ix2 t c) from pay59_at _ _ _ _, pay58_at, if_neg (by omega)]

include hc in
theorem maxRows_at (n : Fin 32) : maxRows q8 k8 k0_pay51 q (ix2 n c) = Cert.Column.bK (accC q8 k8 c) q r n := by
  unfold maxRows setRow2 Cert.Column.bK
  by_cases h : n.val = q.val
  · have e : n = q := Fin.ext h
    subst e
    rw [if_pos (by rfl), if_pos le_rfl]
    show k0_pay60 q8 (row3 k8 n) (ix2 0 c) = _
    rw [pay60_at]
    refine Finset.fold_congr fun t _ => ?_
    rw [← scores_at q8 k8 n r c hc, scoreRow, if_neg (lt_irrefl _)]
    exact (pay59_at _ _ _ _).symm
  · rw [if_neg (by exact h)]
    unfold maxTo
    by_cases h' : n.val < q.val
    · rw [if_pos (by exact h'), if_pos (by omega)]
      show k0_pay54 q8 (row3 k8 n) (ix2 0 c) = _
      rw [pay54_at]
      refine Finset.fold_congr fun t _ => ?_
      rw [← scores_at q8 k8 q r c hc, scoreRow, if_pos h', pay53_at]
    · rw [if_neg (by exact h'), if_neg (by omega), pay51_at]

include hc hks in
theorem ksrow_at (n : Fin 32) : k0_pay61 ks (ix2 n c) = Cert.Column.upTo q KS n := by
  rw [pay61_at, ← hks]
  exact congrArg ks (congrArg (ix4 0 0 n) (Fin.ext hc))

include hc hvs in
theorem vsrow_at (n : Fin 32) : k0_pay62 vs (ix2 n c) = Cert.Column.upTo q VS n := ksrow_at vs q VS r c hc hvs n

include hc hks in
theorem bm_at (n : Fin 32) : k0_pay64 qs (k0_pay61 ks) smC (maxRows q8 k8 k0_pay51 q) (ix2 n c) = Cert.Column.bmK (accC q8 k8 c) KS (facC qs c) q r n := by
  rw [pay64_at, maxRows_at q8 k8 q r c hc, ksrow_at ks q KS r c hc hks]
  rfl

include hc hks in
theorem m_at : k0_pay65 qs (k0_pay61 ks) smC (maxRows q8 k8 k0_pay51 q) (ix2 0 c) = Cert.Column.mK (accC q8 k8 c) KS (facC qs c) q r := by
  rw [pay65_at]
  exact Finset.fold_congr fun n _ => bm_at qs ks q8 k8 q KS r c hc hks n

include hc hks in
theorem expo_at (n : Fin 32) : k0_pay66 qs (k0_pay61 ks) smC (maxRows q8 k8 k0_pay51 q) (ix2 n c) = Cert.Scale.expo (Cert.Column.aK KA (accC q8 k8 c) KS (facC qs c) q r n) := by
  rw [pay66_at, bm_at qs ks q8 k8 q KS r c hc hks, m_at qs ks q8 k8 q KS r c hc hks]
  rfl

include hc hks in
theorem p_at (n : Fin 32) (t : Fin 128) :
    k0_pay73 (k0_pay65 qs (k0_pay61 ks) smC (maxRows q8 k8 k0_pay51 q)) (row3 (scoresOf q8 k8 q.val) n) (row2 (k0_pay67 qs (k0_pay61 ks) smC) n) (ix2 t c)
      = Cert.Column.pK (accC q8 k8 c) KS (facC qs c) q r n t := by
  rw [pay73_at, m_at qs ks q8 k8 q KS r c hc hks, row3_scoresOf, scores_at q8 k8 q r c hc]
  show Ideal.exp (_ * k0_pay67 qs (k0_pay61 ks) smC (ix2 n c) - _) = _
  rw [pay67_at, ksrow_at ks q KS r c hc hks]
  rfl

include hc hks hvs in
theorem o_at (n : Fin 32) :
    ((∑ t : Fin 128, (vt8 (ix3 n d t) : EReal) * min HI (max LO (Cert.Column.pK (accC q8 k8 c) KS (facC qs c) q r n t * k0_pay69 (k0_pay68 qs (k0_pay61 ks) smC (maxRows q8 k8 k0_pay51 q)) (ix2 n c))))
      * k0_pay70 (k0_pay62 vs) (k0_pay66 qs (k0_pay61 ks) smC (maxRows q8 k8 k0_pay51 q)) (ix2 n c) : EReal)
    = Cert.Column.oK LO HI KA (accC q8 k8 c) (valC vt8 d) KS VS (facC qs c) q r n := by
  rw [pay69_at, pay70_at, expo_at qs ks q8 k8 q KS r c hc hks, vsrow_at vs q VS r c hc hvs]
  rfl

attribute [local irreducible] k0_pay65 k0_pay66 k0_pay67 k0_pay68 k0_pay69 k0_pay70 in
include hc hks hvs in
theorem attOut_at : attOut qs ks vs q8 k8 vt8 q (ix2 d c)
    = Cert.Column.yK LO HI KA (accC q8 k8 c) (valC vt8 d) KS VS (facC qs c) q r := by
  obtain ⟨h1, h2⟩ := attend_at (k0_pay65 qs (k0_pay61 ks) smC (maxRows q8 k8 k0_pay51 q)) (scoresOf q8 k8 q.val) (k0_pay67 qs (k0_pay61 ks) smC)
    (k0_pay69 (k0_pay68 qs (k0_pay61 ks) smC (maxRows q8 k8 k0_pay51 q))) vt8 (k0_pay70 (k0_pay62 vs) (k0_pay66 qs (k0_pay61 ks) smC (maxRows q8 k8 k0_pay51 q)))
    d c _ _ (p_at qs ks q8 k8 q KS r c hc hks) (o_at qs ks vs q8 k8 vt8 q KS VS d r c hc hks hvs) (q.val + 1) (by omega)
  unfold attOut
  rw [pay79_at, h1, Finset.sum_congr rfl fun g _ => h2 g]
  simp only [Nat.lt_succ_iff]
  rfl
end

/-! ## The quantiser -/

theorem scl_at (B : Vec Ideal S1x128x128 .bf16) : scl B (ix2 0 0) = Cert.Scale.above (amax B * KA) := by
  rw [scl_eq, pow2S_at, pay7_at, ← Cert.Scale.up_eq_above]
  rfl

theorem codes_eq (B : Vec Ideal S1x128x128 .bf16) (r d : Fin 128) :
    codes B (ix2 r d) = min HI (max LO ((B (ix3 0 r d) : EReal) * Ideal.div 1 (Cert.Scale.above (amax B * KA)))) := by
  rw [codes_at, pay7_at, Cert.Scale.div_above]
  rfl

theorem scl_pos (B : Vec Ideal S1x128x128 .bf16) : (0 : EReal) < scl B (ix2 0 0) := by
  rw [scl_at, ← Cert.Scale.up_eq_above]
  obtain ⟨x, hx, e, -⟩ := Cert.Scale.up_real (amax B * KA)
  rw [e]
  exact_mod_cast hx

end Cert.KernelIdeal.Hand

end
-- ==== Proof.Launch.lean ====
/-
  The launch: every run of the body keeps the invariant of the scratch and leaves its blocks in the windows, so the seven
  result arrays end as the blocks written back.
-/
module

public import proofs.«01_k».proof.Proof.Blocks
public import proofs.«01_k».proof.Proof.KernelIdealFrame
public import Idealize.ShloMosaic.Lib.Pipeline.DatRel
public import Idealize.ShloMosaic.Lib.Pipeline.ArrRel

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

open Idealize.ShloMosaic.Pipeline (Dat BodyObligationRel)

local notation "𝕄" => MT nD τ sig Unit (Elt Ideal) ℕ (UR sig nD τ) ℕ

variable (m : (ℓ : Loc nD τ sig) → Buf (Elt Ideal) ℓ) (ρ : Dev nD → PrngReg)

/-- What the body carries from point to point in its scratch. -/
def scratchAt (c : Dev nD) (u : ℕ) : sProp 𝕄 :=
  iprop(((∃ d, owns (c : Thread nD τ) (Memref.whole cc0_scratch0) fullShare d) ∗ (∃ d, ⌜K8ok (kN m c) u d⌝ ∗ owns (c : Thread nD τ) (Memref.whole cc0_scratch1) fullShare d) ∗ (∃ d, ⌜V8ok (vN m c) u d⌝ ∗ owns (c : Thread nD τ) (Memref.whole cc0_scratch2) fullShare d) ∗ (∃ d, owns (c : Thread nD τ) (Memref.whole cc0_scratch3) fullShare d) ∗ (∃ d, owns (c : Thread nD τ) (Memref.whole cc0_scratch4) fullShare d) ∗ (∃ d, owns (c : Thread nD τ) (Memref.whole cc0_scratch5) fullShare d) ∗ (∃ d, owns (c : Thread nD τ) (Memref.whole cc0_scratch6) fullShare d) ∗ (∃ d, owns (c : Thread nD τ) (Memref.whole cc0_scratch7) fullShare d) ∗ (∃ d, owns (c : Thread nD τ) (Memref.whole cc0_scratch8) fullShare d)) ∗ (∃ r, prngReg c r))

/-- What the body leaves in each output's window. -/
def leftAt (c : Dev nD) (w : Fin cfg0.W) (t : Fin cfg0.N) : ((cfg0.win w).block.Idx → Elt Ideal (cfg0.win w).elt) → Prop := match w with
  | 3 => fun X => X = yN m c t.val
  | 4 => fun X => X = qCodes (xN m c t.val)
  | 5 => fun X => QsOk (xN m c) t.val X
  | 6 => fun X => X = fun y : S1x1x1x128x128.Idx => codes (kN m c t.val) (ix2 (y 3) (y 4))
  | 7 => fun X => X = scalesOf (kN m c) (t.val / 32) (t.val % 32)
  | 8 => fun X => X = fun y : S1x1x1x128x128.Idx => codes (vN m c t.val) (ix2 (y 3) (y 4))
  | 9 => fun X => X = scalesOf (vN m c) (t.val / 32) (t.val % 32)
  | _ => fun _ => True

/-- The proof data: the inputs left at their blocks, the outputs held to `leftAt`. -/
def vdats (c : Dev nD) : Dat τ (Elt Ideal) Unit ℕ (UR sig nD τ) ℕ cfg0 c where
  A w := V m c (Pipeline.arrRef spec0 w)
  after w t := match w with
    | 0 => iblk m c 0 t
    | 1 => iblk m c 1 t
    | 2 => iblk m c 2 t
    | w => Pipeline.Dat.unnamed (cfg := cfg0) w t
  Φ t := scratchAt m c t.val
  q _ := fullShare
  owed _ := 0

theorem vA_eq (c : Dev nD) (w : Fin cfg0.W) : (vdats m c).A w = V m c (Pipeline.arrRef spec0 w) := by dsimp only [vdats]

/-- A window that is written back once a head still holds, at a later point of the head, what the body left at the point before. -/
theorem finds_prev (c : Dev nD) (w : Fin cfg0.W) (hw : (cfg0.win w).isOut = true) (hr : forgets0 w = true)
    (hf : ∀ t : Fin cfg0.N, (cfg0.win w).flush t = true ↔ t.val % 32 = 31) (t : Fin cfg0.N)
    (ht : t.val % 32 ≠ 0) {Y} (h : ((vdats m c).toRRel forgets0 (leftAt m c)).Finds w t Y) :
    leftAt m c w ⟨t.val - 1, Nat.lt_of_le_of_lt (Nat.sub_le _ _) t.isLt⟩ Y := by
  unfold Pipeline.RDat.Finds at h
  rw [(cfg0.win w).fetch_out hw, if_neg Bool.false_ne_true, if_neg (by omega)] at h
  dsimp only at h
  rw [if_neg (fun e => by have := (hf _).mp e; simp only at this; omega)] at h
  obtain ⟨Z, -, h⟩ := h
  rw [Dat.toRRel_after_of_eq_true _ hr] at h
  exact h

theorem coord2 : ∀ t : Fin cfg0.N, (grid0.coords t 2).val = t.val % 32 := by decide +kernel

theorem qi_eq (t : Fin cfg0.N) : (grid0.coords t 2 : Fin 32) = ⟨t.val % 32, Nat.mod_lt _ (by norm_num)⟩ := Fin.ext (coord2 t)

/-- What the body is called with at point `t`, and what it returns. -/
def vbodyPre (c : Dev nD) (t : Fin cfg0.N) : sProp 𝕄 :=
  iprop((vdats m c).Φ t.castSucc ∗ (vdats m c).owesAt () t.castSucc
    ∗ (∃ d, owns (c : Thread nD τ) (st0_0 t) fullShare ((vdats m c).before 0 t d)) ∗ (∃ d, owns (c : Thread nD τ) (st0_1 t) fullShare ((vdats m c).before 1 t d)) ∗ (∃ d, owns (c : Thread nD τ) (st0_2 t) fullShare ((vdats m c).before 2 t d)) ∗ (∃ Y, ⌜((vdats m c).toRRel forgets0 (leftAt m c)).Finds 3 t Y⌝ ∗ owns (c : Thread nD τ) (st0_3 t) fullShare Y) ∗ (∃ Y, ⌜((vdats m c).toRRel forgets0 (leftAt m c)).Finds 4 t Y⌝ ∗ owns (c : Thread nD τ) (st0_4 t) fullShare Y) ∗ (∃ Y, ⌜((vdats m c).toRRel forgets0 (leftAt m c)).Finds 5 t Y⌝ ∗ owns (c : Thread nD τ) (st0_5 t) fullShare Y) ∗ (∃ Y, ⌜((vdats m c).toRRel forgets0 (leftAt m c)).Finds 6 t Y⌝ ∗ owns (c : Thread nD τ) (st0_6 t) fullShare Y) ∗ (∃ Y, ⌜((vdats m c).toRRel forgets0 (leftAt m c)).Finds 7 t Y⌝ ∗ owns (c : Thread nD τ) (st0_7 t) fullShare Y) ∗ (∃ Y, ⌜((vdats m c).toRRel forgets0 (leftAt m c)).Finds 8 t Y⌝ ∗ owns (c : Thread nD τ) (st0_8 t) fullShare Y) ∗ (∃ Y, ⌜((vdats m c).toRRel forgets0 (leftAt m c)).Finds 9 t Y⌝ ∗ owns (c : Thread nD τ) (st0_9 t) fullShare Y))
def vbodyPost (c : Dev nD) (t : Fin cfg0.N) : sProp 𝕄 :=
  iprop((vdats m c).Φ t.succ ∗ (vdats m c).owesAt () t.succ
    ∗ owns (c : Thread nD τ) (st0_0 t) fullShare (iblk m c 0 t) ∗ owns (c : Thread nD τ) (st0_1 t) fullShare (iblk m c 1 t) ∗ owns (c : Thread nD τ) (st0_2 t) fullShare (iblk m c 2 t) ∗ (∃ X, ⌜leftAt m c 3 t X⌝ ∗ owns (c : Thread nD τ) (st0_3 t) fullShare X) ∗ (∃ X, ⌜leftAt m c 4 t X⌝ ∗ owns (c : Thread nD τ) (st0_4 t) fullShare X) ∗ (∃ X, ⌜leftAt m c 5 t X⌝ ∗ owns (c : Thread nD τ) (st0_5 t) fullShare X) ∗ (∃ X, ⌜leftAt m c 6 t X⌝ ∗ owns (c : Thread nD τ) (st0_6 t) fullShare X) ∗ (∃ X, ⌜leftAt m c 7 t X⌝ ∗ owns (c : Thread nD τ) (st0_7 t) fullShare X) ∗ (∃ X, ⌜leftAt m c 8 t X⌝ ∗ owns (c : Thread nD τ) (st0_8 t) fullShare X) ∗ (∃ X, ⌜leftAt m c 9 t X⌝ ∗ owns (c : Thread nD τ) (st0_9 t) fullShare X))

set_option maxHeartbeats 4000000 in
theorem value_body (c : Dev nD) (t : Fin cfg0.N) :
    vbodyPre m c t ⊢ wp frame (wpE (defs₀ (F := Ideal)) Variants.none c none) Set.univ (bodyAt0 t) (fun _ => vbodyPost m c t) := by
  unfold vbodyPre vbodyPost bodyAt0
  simp only [before0_0_of m (vdats m c) (vA_eq m c 0) (fun _ => rfl), before0_1_of m (vdats m c) (vA_eq m c 1) (fun _ => rfl),
    before0_2_of m (vdats m c) (vA_eq m c 2) (fun _ => rfl)]
  rw [show (vdats m c).owesAt () t.succ = (vdats m c).owesAt () t.castSucc from rfl,
    show (vdats m c).Φ t.castSucc = scratchAt m c t.val from rfl, show (vdats m c).Φ t.succ = scratchAt m c (t.val + 1) from rfl]
  have e0 : iblk m c 0 t = xN m c t.val := by unfold xN; rw [ptN_val]
  have e1 : iblk m c 1 t = kN m c t.val := by unfold kN; rw [ptN_val]
  have e2 : iblk m c 2 t = vN m c t.val := by unfold vN; rw [ptN_val]
  have hq : (grid0.coords t 2 : Fin 32).val = t.val % 32 := coord2 t
  have hq' := qi_eq t
  rw [e0, e1, e2]
  unfold scratchAt owns
  iintro ⟨⟨⟨⟨%d13, %f13, -, S0⟩, ⟨%d14, %hk8, %f14, %h14, S1⟩, ⟨%d15, %hv8, %f15, %h15, S2⟩, ⟨%d16, %f16, -, S3⟩, ⟨%d17, %f17, -, S4⟩, ⟨%d18, %f18, -, S5⟩, ⟨%d19, %f19, -, S6⟩, ⟨%d20, %f20, -, S7⟩, ⟨%d21, %f21, -, S8⟩⟩, Hg⟩, HO, ⟨%d3, %f3, %h3, W0⟩, ⟨%d4, %f4, %h4, W1⟩, ⟨%d5, %f5, %h5, W2⟩, ⟨%d6, %F6, %f6, %h6, W3⟩, ⟨%d7, %F7, %f7, %h7, W4⟩, ⟨%d8, %F8, %f8, %h8, W5⟩, ⟨%d9, %F9, %f9, %h9, W6⟩, ⟨%d10, %F10, %f10, %h10, W7⟩, ⟨%d11, %F11, %f11, %h11, W8⟩, ⟨%d12, %F12, %f12, %h12, W9⟩⟩
  subst h14 h15 h8 h10 h12
  have g7 : t.val % 32 ≠ 0 → (st0_7 t).view.read (Elt Ideal) f10 = scalesOf (kN m c) ((t.val - 1) / 32) ((t.val - 1) % 32) := fun h => finds_prev m c 7 rfl rfl flush0_7 t h F10
  have g9 : t.val % 32 ≠ 0 → (st0_9 t).view.read (Elt Ideal) f12 = scalesOf (vN m c) ((t.val - 1) / 32) ((t.val - 1) % 32) := fun h => finds_prev m c 9 rfl rfl flush0_9 t h F12
  have g5 : t.val % 32 ≠ 0 → QsOk (xN m c) (t.val - 1) ((st0_5 t).view.read (Elt Ideal) f8) := fun h => finds_prev m c 5 rfl rfl flush0_5 t h F8
  have key := bodyRun c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) f3 f4 f5 f6 f7 f8 f9 f10 f11 f12 f13 f14 f15 f16 f17 f18 f19 f20 f21
  rw [h3, h4, h5] at key
  iapply (key _)
  clear key
  isplitl [W0]; · iexact W0
  isplitl [W1]; · iexact W1
  isplitl [W2]; · iexact W2
  isplitl [W3]; · iexact W3
  isplitl [W4]; · iexact W4
  isplitl [W5]; · iexact W5
  isplitl [W6]; · iexact W6
  isplitl [W7]; · iexact W7
  isplitl [W8]; · iexact W8
  isplitl [W9]; · iexact W9
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  isplitl [S8]; · iexact S8
  unfold owns
  iintro ⟨W0, W1, W2, W3, W4, W5, W6, W7, W8, W9, ⟨%g13, S0⟩, ⟨%g14, %r14, S1⟩, ⟨%g15, %r15, S2⟩, ⟨%g16, S3⟩, ⟨%g17, S4⟩, ⟨%g18, S5⟩, ⟨%g19, S6⟩, ⟨%g20, S7⟩, ⟨%g21, S8⟩⟩
  isplitl [S0 S1 S2 S3 S4 S5 S6 S7 S8 Hg]
  · isplitr [Hg]
    · isplitl [S0]
      · iexists _, _; isplitr; swap; · iexact S0
        ipureintro; rfl
      isplitl [S1]
      · iexists _; isplitr; swap
        · iexists _; isplitr; swap; · iexact S1
          ipureintro; exact r14
        ipureintro; exact K8ok_succ hk8 hq
      isplitl [S2]
      · iexists _; isplitr; swap
        · iexists _; isplitr; swap; · iexact S2
          ipureintro; exact r15
        ipureintro; exact V8ok_succ hv8 hq
      isplitl [S3]
      · iexists _, _; isplitr; swap; · iexact S3
        ipureintro; rfl
      isplitl [S4]
      · iexists _, _; isplitr; swap; · iexact S4
        ipureintro; rfl
      isplitl [S5]
      · iexists _, _; isplitr; swap; · iexact S5
        ipureintro; rfl
      isplitl [S6]
      · iexists _, _; isplitr; swap; · iexact S6
        ipureintro; rfl
      isplitl [S7]
      · iexists _, _; isplitr; swap; · iexact S7
        ipureintro; rfl
      iexists _, _; isplitr; swap; · iexact S8
      ipureintro; rfl
    · iexact Hg
  isplitl [HO]; · iexact HO
  isplitl [W0]; · iexact W0
  isplitl [W1]; · iexact W1
  isplitl [W2]; · iexact W2
  isplitl [W3]
  · iexists _; isplitr; swap; · iexact W3
    ipureintro
    show yWin (attOut (qScales (xN m c t.val)) (scaleWin (grid0.coords t 2) ((st0_7 t).view.read (Elt Ideal) f10) (kN m c t.val)) (scaleWin (grid0.coords t 2) ((st0_9 t).view.read (Elt Ideal) f12) (vN m c t.val)) (qStack (xN m c t.val)) _ _ (grid0.coords t 2)) = yN m c t.val
    unfold yN
    rw [scaleWin_eq hq g7, scaleWin_eq hq g9, attOut_congr (fun n hn => kRows_le hk8 hq n hn) (fun n hn => vRows_le hv8 hq n hn), hq']
    rfl
  isplitl [W4]
  · iexists _; isplitr; swap; · iexact W4
    ipureintro
    rfl
  isplitl [W5]
  · iexists _; isplitr; swap; · iexact W5
    ipureintro
    exact QsOk_step hq g5
  isplitl [W6]
  · iexists _; isplitr; swap; · iexact W6
    ipureintro
    rfl
  isplitl [W7]
  · iexists _; isplitr; swap; · iexact W7
    ipureintro
    exact scaleWin_eq hq g7
  isplitl [W8]
  · iexists _; isplitr; swap; · iexact W8
    ipureintro
    rfl
  iexists _; isplitr; swap; · iexact W9
  ipureintro
  exact scaleWin_eq hq g9

theorem value_obligation (c : Dev nD) :
    BodyObligationRel (vdats m c) (defs₀ (F := Ideal)) Variants.none () Set.univ forgets0 (leftAt m c) := fun t => by
  rw [bigSep_W0, bigSep_W0, defs₀_row]
  exact triple_restated (value_body m c t) rfl .rfl fun _ => .rfl

theorem scratchAt_of (c : Dev nD) (u : ℕ) (hu : u % 32 = 0) : Pipeline.ΦA (Val := Elt Ideal) (U := UR sig nD τ) spec0 c ⊢ scratchAt m c u := by
  rw [PhiA0_eq]
  unfold scratchAt
  iintro ⟨⟨S0, ⟨%d1, S1⟩, ⟨%d2, S2⟩, S3⟩, Hg⟩
  isplitr [Hg]; swap; · iexact Hg
  isplitl [S0]; · iexact S0
  isplitl [S1]
  · iexists d1; isplitr; swap; · iexact S1
    ipureintro; intro n hn; omega
  isplitl [S2]
  · iexists d2; isplitr; swap; · iexact S2
    ipureintro; intro n hn; omega
  iexact S3

theorem of_scratchAt (c : Dev nD) (u : ℕ) : scratchAt m c u ⊢ Pipeline.ΦA (Val := Elt Ideal) (U := UR sig nD τ) spec0 c := by
  rw [PhiA0_eq]
  unfold scratchAt
  iintro ⟨⟨S0, ⟨%d1, -, S1⟩, ⟨%d2, -, S2⟩, S3⟩, Hg⟩
  isplitr [Hg]; swap; · iexact Hg
  isplitl [S0]; · iexact S0
  isplitl [S1]
  · iexists d1; iexact S1
  isplitl [S2]
  · iexists d2; iexact S2
  iexact S3

set_option backward.isDefEq.respectTransparency.types false in
/-- Every weakly fair execution terminates; the arrays end as the blocks written back. -/
theorem run_values :
    θ_run defs (onTc (τ := τ) (main (F := Ideal))) (s₀ m ρ)
      (fun r => Pipeline.RDat.FramePost (cfgs 0) (fun c => (vdats m c).toRRel forgets0 (leftAt m c)) (V m) r ∧ r.2.sem = fun _ => 0) :=
  Pipeline.RDat.θ_run_frame_track (Q' := _) cfgs (0 : Fin 1) launch0 defs₀ Variants.none (fun c => (vdats m c).toRRel forgets0 (leftAt m c)) m ρ main
    (hbody := fun c => (value_obligation m c).toRRel) (hshare := fun c => (vdats m c).share_full fun _ => rfl)
    (howed := fun _ _ => rfl) (V := V m) (hmain := hmain m Variants.none) (hA := vA_eq m)
    (hin := fun c => scratchAt_of m c 0 rfl) (hout := fun c => of_scratchAt m c _)

/-- The arguments end unchanged and every counter is zero. -/
theorem frame_kept :
    θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) :=
  (θ_run defs _ _).mono (fun r h => ⟨fun c => ⟨h.1.arr_in c 0 rfl, h.1.arr_in c 1 rfl, h.1.arr_in c 2 rfl⟩, h.2⟩) (run_values m ρ)

end Cert.KernelIdeal.Hand

end
-- ==== Proof.Answer.lean ====
/-
  The kernel's result arrays are the functions of `Spec` of its arguments: a point's blocks are blocks of the arguments, and
  the points' blocks cover the arrays.
-/
module

public import proofs.«01_k».proof.Proof.Spec
public import proofs.«01_k».proof.Proof.Out
public import proofs.«01_k».proof.Proof.Launch

@[expose] public section

set_option maxRecDepth 16384

noncomputable section

namespace Cert.KernelIdeal.Hand

open Cert.KernelIdeal Cert.KernelIdeal.Gen
open Idealize.ShloMosaic Idealize.ShloMosaic.TcCoe
open Cert.Spec (blkQ blkK amaxF sclF codF head accF yAt)

variable (m : (ℓ : Loc nD τ sig) → Buf (Elt Ideal) ℓ) (c : Dev nD)

/-- The arguments. -/
def a0 : Cert.Spec.AQ := m ((c : Thread nD τ).loc main_arg0)
def a1 : Cert.Spec.AK := m ((c : Thread nD τ).loc main_arg1)
def a2 : Cert.Spec.AK := m ((c : Thread nD τ).loc main_arg2)

/-! ## Where each window's block lies -/

theorem wi0 : ∀ t : Fin cfg0.N, win0_0.index t = ![t.val / 128, t.val % 32, t.val / 32 % 4] :=
  (by decide +kernel : ∀ t : Fin grid0.N, _)
theorem wi1 : ∀ t : Fin cfg0.N, win0_1.index t = ![t.val / 128, t.val % 32, t.val / 32 % 4] :=
  (by decide +kernel : ∀ t : Fin grid0.N, _)
theorem wi2 : ∀ t : Fin cfg0.N, win0_2.index t = ![t.val / 128, t.val % 32, t.val / 32 % 4] :=
  (by decide +kernel : ∀ t : Fin grid0.N, _)
theorem wi3 : ∀ t : Fin cfg0.N, win0_3.index t = ![t.val / 128, t.val % 32, t.val / 32 % 4] :=
  (by decide +kernel : ∀ t : Fin grid0.N, _)
theorem wi4 : ∀ t : Fin cfg0.N, win0_4.index t = ![t.val / 128, t.val / 32 % 4, t.val % 32, 0, 0] :=
  (by decide +kernel : ∀ t : Fin grid0.N, _)
theorem wi5 : ∀ t : Fin cfg0.N, win0_5.index t = ![t.val / 128, t.val / 32 % 4, 0, 0] :=
  (by decide +kernel : ∀ t : Fin grid0.N, _)
theorem wi6 : ∀ t : Fin cfg0.N, win0_6.index t = ![t.val / 128, t.val / 32 % 4, t.val % 32, 0, 0] :=
  (by decide +kernel : ∀ t : Fin grid0.N, _)
theorem wi7 : ∀ t : Fin cfg0.N, win0_7.index t = ![t.val / 128, t.val / 32 % 4, 0, 0] :=
  (by decide +kernel : ∀ t : Fin grid0.N, _)
theorem wi8 : ∀ t : Fin cfg0.N, win0_8.index t = ![t.val / 128, t.val / 32 % 4, t.val % 32, 0, 0] :=
  (by decide +kernel : ∀ t : Fin grid0.N, _)
theorem wi9 : ∀ t : Fin cfg0.N, win0_9.index t = ![t.val / 128, t.val / 32 % 4, 0, 0] :=
  (by decide +kernel : ∀ t : Fin grid0.N, _)

/-- The point of batch `b`, key head `h`, block `n`. -/
def pt (b : Fin 8) (h : Fin 4) (n : Fin 32) : ℕ := 128 * b.val + 32 * h.val + n.val

theorem ptN_pt (b : Fin 8) (h : Fin 4) (n : Fin 32) : (ptN (pt b h n)).val = pt b h n := Nat.mod_eq_of_lt (by unfold pt; omega)

theorem xN_at (b : Fin 8) (h : Fin 4) (n : Fin 32) (r : Fin 128) (l : Fin 512) :
    xN m c (pt b h n) (ix3 0 r l) = a0 m c (ix3 b ⟨n.val * 128 + r.val, by omega⟩ ⟨h.val * 512 + l.val, by omega⟩) := by
  have e : (ptN (pt b h n)).val = 128 * b.val + 32 * h.val + n.val := ptN_pt b h n
  unfold xN a0
  blk_ext [iblk, V, wi0 (ptN (pt b h n))]
  all_goals omega

theorem kN_at (b : Fin 8) (h : Fin 4) (n : Fin 32) (r d : Fin 128) :
    kN m c (pt b h n) (ix3 0 r d) = blkK (a1 m c) b h n r d := by
  have e : (ptN (pt b h n)).val = 128 * b.val + 32 * h.val + n.val := ptN_pt b h n
  unfold kN a1 blkK
  blk_ext [iblk, V, wi1 (ptN (pt b h n))]
  all_goals omega

theorem vN_at (b : Fin 8) (h : Fin 4) (n : Fin 32) (r d : Fin 128) :
    vN m c (pt b h n) (ix3 0 r d) = blkK (a2 m c) b h n r d := by
  have e : (ptN (pt b h n)).val = 128 * b.val + 32 * h.val + n.val := ptN_pt b h n
  unfold vN a2 blkK
  blk_ext [iblk, V, wi2 (ptN (pt b h n))]
  all_goals omega

end Cert.KernelIdeal.Hand

end
-- ==== Proof.Attention.lean ====
/-
  What the kernel writes back at each point, as the functions of `Spec`.
-/
module

public import proofs.«01_k».proof.Proof.Answer

@[expose] public section

set_option maxRecDepth 16384

noncomputable section

namespace Cert.KernelIdeal.Hand

open Cert.KernelIdeal Cert.KernelIdeal.Gen
open Idealize.ShloMosaic Idealize.ShloMosaic.TcCoe
open Cert.Spec (blkQ blkK amaxF sclF codF head accF yAt)

/-! ## Codes and scales of a block -/

theorem amax_eq (B : Vec Ideal S1x128x128 .bf16) (X : Cert.Spec.Blk) (h : ∀ r d, B (ix3 0 r d) = X r d) : amax B = amaxF X := by
  have e : (fun r d => B (ix3 0 r d)) = X := funext fun r => funext fun d => h r d
  rw [← e]
  rfl

theorem scl_of (B : Vec Ideal S1x128x128 .bf16) (X : Cert.Spec.Blk) (h : ∀ r d, B (ix3 0 r d) = X r d) : scl B (ix2 0 0) = sclF X := by
  rw [scl_at, amax_eq B X h]
  rfl

theorem codes_of (B : Vec Ideal S1x128x128 .bf16) (X : Cert.Spec.Blk) (h : ∀ r d, B (ix3 0 r d) = X r d) (r d : Fin 128) : codes B (ix2 r d) = codF X r d := by
  rw [codes_eq, amax_eq B X h, h]
  rfl

variable (m : (ℓ : Loc nD τ sig) → Buf (Elt Ideal) ℓ) (c : Dev nD)

theorem qPart_at (b : Fin 8) (h g : Fin 4) (n : Fin 32) (r d : Fin 128) :
    qPart (xN m c (pt b h n)) g (ix3 0 r d) = blkQ (a0 m c) b (head h g) n r d := by
  refine (xN_at m c b h n r ⟨128 * g.val + d.val, by omega⟩).trans ?_
  unfold blkQ head
  refine congrArg (fun l => a0 m c (ix3 b _ l)) (Fin.ext ?_)
  show h.val * 512 + (128 * g.val + d.val) = (h.val * 4 + g.val) * 128 + d.val
  omega

theorem scale_q (b : Fin 8) (h g : Fin 4) (n : Fin 32) : scl (qPart (xN m c (pt b h n)) g) (ix2 0 0) = sclF (blkQ (a0 m c) b (head h g) n) :=
  scl_of _ _ (qPart_at m c b h g n)
theorem code_q (b : Fin 8) (h g : Fin 4) (n : Fin 32) (r d : Fin 128) : codes (qPart (xN m c (pt b h n)) g) (ix2 r d) = codF (blkQ (a0 m c) b (head h g) n) r d :=
  codes_of _ _ (qPart_at m c b h g n) r d
theorem scale_k (b : Fin 8) (h : Fin 4) (n : Fin 32) : scl (kN m c (pt b h n)) (ix2 0 0) = sclF (blkK (a1 m c) b h n) :=
  scl_of _ _ (kN_at m c b h n)
theorem code_k (b : Fin 8) (h : Fin 4) (n : Fin 32) (r d : Fin 128) : codes (kN m c (pt b h n)) (ix2 r d) = codF (blkK (a1 m c) b h n) r d :=
  codes_of _ _ (kN_at m c b h n) r d
theorem scale_v (b : Fin 8) (h : Fin 4) (n : Fin 32) : scl (vN m c (pt b h n)) (ix2 0 0) = sclF (blkK (a2 m c) b h n) :=
  scl_of _ _ (vN_at m c b h n)
theorem code_v (b : Fin 8) (h : Fin 4) (n : Fin 32) (r d : Fin 128) : codes (vN m c (pt b h n)) (ix2 r d) = codF (blkK (a2 m c) b h n) r d :=
  codes_of _ _ (vN_at m c b h n) r d

theorem pt_div (b : Fin 8) (h : Fin 4) (q n : Fin 32) : 32 * (pt b h q / 32) + n.val = pt b h n := by unfold pt; omega
theorem pt_mod (b : Fin 8) (h : Fin 4) (q : Fin 32) : pt b h q % 32 = q.val := by unfold pt; omega

/-- The scales a point leaves, of the blocks up to its own. -/
theorem scales_k (b : Fin 8) (h : Fin 4) (q n : Fin 32) (l : Fin 128) :
    scalesOf (kN m c) (pt b h q / 32) (pt b h q % 32) (ix4 0 0 n l) = Cert.Column.upTo q (fun n => sclF (blkK (a1 m c) b h n)) n := by
  show (if n.val ≤ pt b h q % 32 then scl (kN m c (32 * (pt b h q / 32) + n.val)) (ix2 0 0) else k0_pay4 (F := Ideal) (ix4 0 0 n l)) = _
  rw [pt_div, pt_mod, scale_k, pay4_at]
  rfl
theorem scales_v (b : Fin 8) (h : Fin 4) (q n : Fin 32) (l : Fin 128) :
    scalesOf (vN m c) (pt b h q / 32) (pt b h q % 32) (ix4 0 0 n l) = Cert.Column.upTo q (fun n => sclF (blkK (a2 m c) b h n)) n := by
  show (if n.val ≤ pt b h q % 32 then scl (vN m c (32 * (pt b h q / 32) + n.val)) (ix2 0 0) else k0_pay4 (F := Ideal) (ix4 0 0 n l)) = _
  rw [pt_div, pt_mod, scale_v, pay4_at]
  rfl

/-! ## The attention output of a point -/

/-- Lane `128 g + r` of the four heads' columns. -/
def lane (g : Fin 4) (r : Fin 128) : Fin 512 := ⟨128 * g.val + r.val, by omega⟩

theorem tileOf_lane (g : Fin 4) (r : Fin 128) : tileOf (lane g r) = g := Fin.ext (by show (128 * g.val + r.val) / 128 = g.val; omega)

theorem acc_pt (b : Fin 8) (h g : Fin 4) (q : Fin 32) (r : Fin 128) :
    accC (qStack (xN m c (pt b h q))) (k8Of (kN m c) (pt b h q / 32)) (lane g r) = accF (a0 m c) (a1 m c) b h g q r := by
  funext n t
  unfold accC accF
  refine Finset.sum_congr rfl fun e _ => ?_
  have e1 : k8Of (kN m c) (pt b h q / 32) (ix3 n t e) = codes (kN m c (32 * (pt b h q / 32) + n.val)) (ix2 t e) := rfl
  have e2 : qStack (xN m c (pt b h q)) (ix2 (lane g r) e) = codes (qPart (xN m c (pt b h q)) (tileOf (lane g r))) (ix2 ⟨(lane g r).val % 128, Nat.mod_lt _ (by norm_num)⟩ e) := rfl
  have e3 : (⟨(lane g r).val % 128, Nat.mod_lt _ (by norm_num)⟩ : Fin 128) = r := Fin.ext (by show (128 * g.val + r.val) % 128 = r.val; omega)
  rw [e1, e2, e3, tileOf_lane, pt_div, code_k, code_q]

theorem val_pt (b : Fin 8) (h : Fin 4) (q : Fin 32) (d : Fin 128) :
    valC (v8Of (vN m c) (pt b h q / 32)) d = fun n t => codF (blkK (a2 m c) b h n) t d := by
  funext n t
  have e1 : valC (v8Of (vN m c) (pt b h q / 32)) d n t = codes (vN m c (32 * (pt b h q / 32) + n.val)) (ix2 t d) := rfl
  rw [e1, pt_div, code_v]

theorem fac_pt (b : Fin 8) (h g : Fin 4) (q : Fin 32) (r : Fin 128) :
    facC (qScales (xN m c (pt b h q))) (lane g r) = sclF (blkQ (a0 m c) b (head h g) q) * Cert.Spec.SM := by
  have e1 : facC (qScales (xN m c (pt b h q))) (lane g r) = scl (qPart (xN m c (pt b h q)) (tileOf (lane g r))) (ix2 0 0) * Cert.Spec.SM := rfl
  rw [e1, tileOf_lane, scale_q]

theorem out_pt (b : Fin 8) (h g : Fin 4) (q : Fin 32) (r d : Fin 128) :
    attOut (qScales (xN m c (pt b h q))) (scalesOf (kN m c) (pt b h q / 32) (pt b h q % 32)) (scalesOf (vN m c) (pt b h q / 32) (pt b h q % 32)) (qStack (xN m c (pt b h q)))
      (k8Of (kN m c) (pt b h q / 32)) (v8Of (vN m c) (pt b h q / 32)) q (ix2 d (lane g r)) = yAt (a0 m c) (a1 m c) (a2 m c) b h g q r d := by
  rw [attOut_at (q := q) (KS := fun n => sclF (blkK (a1 m c) b h n)) (VS := fun n => sclF (blkK (a2 m c) b h n)) (r := r) (d := d) (c := lane g r)
    (hc := by show (128 * g.val + r.val) % 128 = r.val; omega) (hks := fun n => scales_k m c b h q n r) (hvs := fun n => scales_v m c b h q n r)]
  rw [acc_pt, val_pt, fac_pt]
  exact Cert.Column.yK_eq _ _ _ _ _ _ _ _ _ _ Cert.Spec.LO_le Cert.Spec.HI_ge (Cert.Spec.fac_pos _) fun n => Cert.Spec.sclF_pos _

theorem y_pt (b : Fin 8) (h g : Fin 4) (q : Fin 32) (r d : Fin 128) :
    yN m c (pt b h q) (ix3 0 r (lane g d)) = yAt (a0 m c) (a1 m c) (a2 m c) b h g q r d := by
  refine Eq.trans ?_ (out_pt m c b h g q r d)
  unfold yN yWin
  have eq : (⟨pt b h q % 32, Nat.mod_lt _ (by norm_num)⟩ : Fin 32) = q := Fin.ext (pt_mod b h q)
  rw [eq]
  refine congrArg _ ?_
  funext a
  match a with
  | ⟨0, _⟩ => exact Fin.ext (show (128 * g.val + d.val) % 128 = d.val by omega)
  | ⟨1, _⟩ => exact Fin.ext (show 128 * ((128 * g.val + d.val) / 128) + r.val = 128 * g.val + r.val by omega)

end Cert.KernelIdeal.Hand

end
-- ==== Proof.PointBlocks.lean ====
/-
  A point's seven blocks are blocks of the functions of `Spec`.
-/
module

public import proofs.«01_k».proof.Proof.Attention

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Cert.Spec (blkQ blkK amaxF sclF codF head accF yAt)

variable (m : (ℓ : Loc nD τ sig) → Buf (Elt Ideal) ℓ) (c : Dev nD)

def bOf (t : Fin cfg0.N) : Fin 8 := ⟨t.val / 128, by have := lt_of_lt_of_eq t.isLt N_eq; omega⟩
def hOf (t : Fin cfg0.N) : Fin 4 := ⟨t.val / 32 % 4, by omega⟩
def nOf (t : Fin cfg0.N) : Fin 32 := ⟨t.val % 32, by omega⟩
theorem pt_of (t : Fin cfg0.N) : pt (bOf t) (hOf t) (nOf t) = t.val := by
  have := lt_of_lt_of_eq t.isLt N_eq
  show 128 * (t.val / 128) + 32 * (t.val / 32 % 4) + t.val % 32 = t.val
  omega

theorem y_block (t : Fin cfg0.N) (r : Fin 128) (l : Fin 512) :
    yN m c t.val (ix3 0 r l) = Cert.Spec.Y (a0 m c) (a1 m c) (a2 m c) (ix3 (bOf t) ⟨(nOf t).val * 128 + r.val, by omega⟩ ⟨(hOf t).val * 512 + l.val, by omega⟩) := by
  have e := y_pt m c (bOf t) (hOf t) ⟨l.val / 128, by omega⟩ (nOf t) r ⟨l.val % 128, by omega⟩
  rw [pt_of, show lane ⟨l.val / 128, by omega⟩ ⟨l.val % 128, by omega⟩ = l from Fin.ext (by show 128 * (l.val / 128) + l.val % 128 = l.val; omega)] at e
  rw [e]
  unfold Cert.Spec.Y
  dsimp only [ix3]
  congr 1 <;> refine Fin.ext ?_ <;> simp only [] <;> omega

theorem codes_q_block (t : Fin cfg0.N) (y : S1x4x1x128x128.Idx) :
    qCodes (xN m c t.val) y = Cert.Spec.QC (a0 m c) (ix5 (bOf t) (head (hOf t) (y 1)) (nOf t) (y 3) (y 4)) := by
  have e := code_q m c (bOf t) (hOf t) (y 1) (nOf t) (y 3) (y 4)
  rw [pt_of] at e
  exact e

theorem codes_k_block (t : Fin cfg0.N) (y : S1x1x1x128x128.Idx) :
    codes (kN m c t.val) (ix2 (y 3) (y 4)) = Cert.Spec.KC (a1 m c) (ix5 (bOf t) (hOf t) (nOf t) (y 3) (y 4)) := by
  have e := code_k m c (bOf t) (hOf t) (nOf t) (y 3) (y 4)
  rw [pt_of] at e
  exact e

theorem codes_v_block (t : Fin cfg0.N) (y : S1x1x1x128x128.Idx) :
    codes (vN m c t.val) (ix2 (y 3) (y 4)) = Cert.Spec.KC (a2 m c) (ix5 (bOf t) (hOf t) (nOf t) (y 3) (y 4)) := by
  have e := code_v m c (bOf t) (hOf t) (nOf t) (y 3) (y 4)
  rw [pt_of] at e
  exact e

theorem scales_q_block (t : Fin cfg0.N) (n : Fin 32) (l : Fin 512) :
    qScales (xN m c (32 * (t.val / 32) + n.val)) (ix2 0 l) = Cert.Spec.QS (a0 m c) (ix4 (bOf t) (hOf t) n l) := by
  have e := scale_q m c (bOf t) (hOf t) ⟨l.val / 128, by omega⟩ n
  rw [← pt_div (bOf t) (hOf t) (nOf t) n, pt_of] at e
  exact e

theorem scales_k_block (t : Fin cfg0.N) (ht : t.val % 32 = 31) (y : S1x1x32x128.Idx) :
    scalesOf (kN m c) (t.val / 32) (t.val % 32) y = Cert.Spec.KS (a1 m c) (ix4 (bOf t) (hOf t) (y 2) (y 3)) := by
  have h2 : (y 2).val < 32 := (y 2).isLt
  have e := scale_k m c (bOf t) (hOf t) (y 2)
  rw [← pt_div (bOf t) (hOf t) (nOf t) (y 2), pt_of] at e
  exact (if_pos (by omega)).trans e

theorem scales_v_block (t : Fin cfg0.N) (ht : t.val % 32 = 31) (y : S1x1x32x128.Idx) :
    scalesOf (vN m c) (t.val / 32) (t.val % 32) y = Cert.Spec.KS (a2 m c) (ix4 (bOf t) (hOf t) (y 2) (y 3)) := by
  have h2 : (y 2).val < 32 := (y 2).isLt
  have e := scale_v m c (bOf t) (hOf t) (y 2)
  rw [← pt_div (bOf t) (hOf t) (nOf t) (y 2), pt_of] at e
  exact (if_pos (by omega)).trans e

theorem y_block' (t : Fin cfg0.N) (y : S1x128x512.Idx) :
    yN m c t.val y = Cert.Spec.Y (a0 m c) (a1 m c) (a2 m c) (ix3 (bOf t) ⟨(nOf t).val * 128 + (y 1).val, by have := (y 1).isLt; show (nOf t).val * 128 + (y 1).val < 4096; change (y 1).val < 128 at this; omega⟩ ⟨(hOf t).val * 512 + (y 2).val, by have := (y 2).isLt; show (hOf t).val * 512 + (y 2).val < 2048; change (y 2).val < 512 at this; omega⟩) := by
  refine Eq.trans (congrArg (yN m c t.val) ?_) (y_block m c t (y 1) (y 2))
  funext a
  match a with
  | ⟨0, _⟩ => exact Fin.ext (by have h0 : (y 0).val < 1 := (y 0).isLt; show (y 0).val = 0; omega)
  | ⟨1, _⟩ => rfl
  | ⟨2, _⟩ => rfl

abbrev rdat := (vdats m c).toRRel forgets0 (leftAt m c)

end Cert.KernelIdeal.Hand

end
-- ==== Proof.Final.lean ====
/-
  The first three arrays a run of the kernel ends with, as the functions of `Spec`.
-/
module

public import proofs.«01_k».proof.Proof.PointBlocks

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Cert.Spec (blkQ blkK amaxF sclF codF head accF yAt)

variable (m : (ℓ : Loc nD τ sig) → Buf (Elt Ideal) ℓ) (c : Dev nD)

variable (after : (w : Fin cfg0.W) → Fin cfg0.N → ((cfg0.win w).block.Idx → Elt Ideal (cfg0.win w).elt))
  (hL : ∀ w u, (cfg0.win w).flush u = true → (rdat m c).Leaves w u (after w u))

include hL in
theorem fin0 : ((rdat m c).withAfter after).arrAt 3 cfg0.N = Cert.Spec.Y (a0 m c) (a1 m c) (a2 m c) := by
  refine Pipeline.Dat.arrAt_eq_of_covers _ 3 _ (by decide +kernel) fun t hf y => ?_
  have hl : after 3 t = yN m c t.val := Pipeline.Dat.toRRel_leaves _ rfl (hL 3 t hf)
  rw [Pipeline.RDat.withAfter_after, hl]
  blk_simp
  refine (y_block' m c t y).trans (congrArg (Cert.Spec.Y (a0 m c) (a1 m c) (a2 m c)) ?_)
  blk_ext [wi3 t, bOf, hOf, nOf]
  all_goals omega

include hL in
theorem fin1 : ((rdat m c).withAfter after).arrAt 4 cfg0.N = Cert.Spec.QC (a0 m c) := by
  refine Pipeline.Dat.arrAt_eq_of_covers _ 4 _ (by decide +kernel) fun t hf y => ?_
  have hl : after 4 t = qCodes (xN m c t.val) := Pipeline.Dat.toRRel_leaves _ rfl (hL 4 t hf)
  rw [Pipeline.RDat.withAfter_after, hl]
  blk_simp
  refine (codes_q_block m c t y).trans (congrArg (Cert.Spec.QC (a0 m c)) ?_)
  blk_ext [wi4 t, bOf, hOf, nOf, head]
  all_goals omega

include hL in
theorem fin2 : ((rdat m c).withAfter after).arrAt 5 cfg0.N = Cert.Spec.QS (a0 m c) := by
  refine Pipeline.Dat.arrAt_eq_of_covers _ 5 _ (by decide +kernel) fun t hf y => ?_
  have hl : QsOk (xN m c) t.val (after 5 t) := Pipeline.Dat.toRRel_leaves _ rfl (hL 5 t hf)
  rw [Pipeline.RDat.withAfter_after]
  blk_simp
  have ht : t.val % 32 = 31 := (flush0_5 t).mp hf
  have h2 : ((y : S1x1x32x512.Idx) 2).val < 32 := ((y : S1x1x32x512.Idx) 2).isLt
  refine ((hl y (by rw [ht]; exact Nat.le_of_lt_succ h2)).trans (scales_q_block m c t ((y : S1x1x32x512.Idx) 2) ((y : S1x1x32x512.Idx) 3))).trans (congrArg (Cert.Spec.QS (a0 m c)) ?_)
  blk_ext [wi5 t, bOf, hOf, nOf, head]
  all_goals omega

end Cert.KernelIdeal.Hand

end
-- ==== Proof.FinalKv.lean ====
/-
  The last four arrays a run of the kernel ends with, as the functions of `Spec`.
-/
module

public import proofs.«01_k».proof.Proof.PointBlocks

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Cert.Spec (blkQ blkK amaxF sclF codF head accF yAt)

variable (m : (ℓ : Loc nD τ sig) → Buf (Elt Ideal) ℓ) (c : Dev nD)

variable (after : (w : Fin cfg0.W) → Fin cfg0.N → ((cfg0.win w).block.Idx → Elt Ideal (cfg0.win w).elt))
  (hL : ∀ w u, (cfg0.win w).flush u = true → (rdat m c).Leaves w u (after w u))

include hL in
theorem fin3 : ((rdat m c).withAfter after).arrAt 6 cfg0.N = Cert.Spec.KC (a1 m c) := by
  refine Pipeline.Dat.arrAt_eq_of_covers _ 6 _ (by decide +kernel) fun t hf y => ?_
  have hl : after 6 t = fun y : S1x1x1x128x128.Idx => codes (kN m c t.val) (ix2 (y 3) (y 4)) := Pipeline.Dat.toRRel_leaves _ rfl (hL 6 t hf)
  rw [Pipeline.RDat.withAfter_after, hl]
  blk_simp
  refine (codes_k_block m c t y).trans (congrArg (Cert.Spec.KC (a1 m c)) ?_)
  blk_ext [wi6 t, bOf, hOf, nOf, head]
  all_goals omega

include hL in
theorem fin4 : ((rdat m c).withAfter after).arrAt 7 cfg0.N = Cert.Spec.KS (a1 m c) := by
  refine Pipeline.Dat.arrAt_eq_of_covers _ 7 _ (by decide +kernel) fun t hf y => ?_
  have hl : after 7 t = scalesOf (kN m c) (t.val / 32) (t.val % 32) := Pipeline.Dat.toRRel_leaves _ rfl (hL 7 t hf)
  rw [Pipeline.RDat.withAfter_after, hl]
  blk_simp
  have ht : t.val % 32 = 31 := (flush0_7 t).mp hf
  refine (scales_k_block m c t ht y).trans (congrArg (Cert.Spec.KS (a1 m c)) ?_)
  blk_ext [wi7 t, bOf, hOf, nOf, head]
  all_goals omega

include hL in
theorem fin5 : ((rdat m c).withAfter after).arrAt 8 cfg0.N = Cert.Spec.KC (a2 m c) := by
  refine Pipeline.Dat.arrAt_eq_of_covers _ 8 _ (by decide +kernel) fun t hf y => ?_
  have hl : after 8 t = fun y : S1x1x1x128x128.Idx => codes (vN m c t.val) (ix2 (y 3) (y 4)) := Pipeline.Dat.toRRel_leaves _ rfl (hL 8 t hf)
  rw [Pipeline.RDat.withAfter_after, hl]
  blk_simp
  refine (codes_v_block m c t y).trans (congrArg (Cert.Spec.KC (a2 m c)) ?_)
  blk_ext [wi8 t, bOf, hOf, nOf, head]
  all_goals omega

include hL in
theorem fin6 : ((rdat m c).withAfter after).arrAt 9 cfg0.N = Cert.Spec.KS (a2 m c) := by
  refine Pipeline.Dat.arrAt_eq_of_covers _ 9 _ (by decide +kernel) fun t hf y => ?_
  have hl : after 9 t = scalesOf (vN m c) (t.val / 32) (t.val % 32) := Pipeline.Dat.toRRel_leaves _ rfl (hL 9 t hf)
  rw [Pipeline.RDat.withAfter_after, hl]
  blk_simp
  have ht : t.val % 32 = 31 := (flush0_9 t).mp hf
  refine (scales_v_block m c t ht y).trans (congrArg (Cert.Spec.KS (a2 m c)) ?_)
  blk_ext [wi9 t, bOf, hOf, nOf, head]
  all_goals omega

end Cert.KernelIdeal.Hand

end
-- ==== Proof.EqualKernel.lean ====
/-
  The kernel ends with the functions of `Spec` of its arguments.
-/
module

public import proofs.«01_k».proof.Proof.Final
public import proofs.«01_k».proof.Proof.FinalKv

@[expose] public section

set_option maxRecDepth 16384

noncomputable section

namespace Cert.KernelIdeal.Hand

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg)

theorem run_answer : θ_run defs (onTc (τ := τ) (main (F := Ideal))) ⟨m, fun _ => 0, ρ⟩ (fun r => ∀ c : Dev nD,
      r.2.mem ((c.tc : Thread nD τ).loc main_v0_0) = Cert.Spec.Y (a0 m c) (a1 m c) (a2 m c)
      ∧ r.2.mem ((c.tc : Thread nD τ).loc main_v0_1) = Cert.Spec.QC (a0 m c)
      ∧ r.2.mem ((c.tc : Thread nD τ).loc main_v0_2) = Cert.Spec.QS (a0 m c)
      ∧ r.2.mem ((c.tc : Thread nD τ).loc main_v0_3) = Cert.Spec.KC (a1 m c)
      ∧ r.2.mem ((c.tc : Thread nD τ).loc main_v0_4) = Cert.Spec.KS (a1 m c)
      ∧ r.2.mem ((c.tc : Thread nD τ).loc main_v0_5) = Cert.Spec.KC (a2 m c)
      ∧ r.2.mem ((c.tc : Thread nD τ).loc main_v0_6) = Cert.Spec.KS (a2 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => by
    obtain ⟨after, hL, hA⟩ := h.1.exists_exact c
    refine ⟨(hA 3).trans (fin0 m c after hL), (hA 4).trans (fin1 m c after hL), (hA 5).trans (fin2 m c after hL), (hA 6).trans (fin3 m c after hL),
      (hA 7).trans (fin4 m c after hL), (hA 8).trans (fin5 m c after hL), (hA 9).trans (fin6 m c after hL), ?_, ?_, ?_⟩
    · exact h.1.arr_in c 0 rfl
    · exact h.1.arr_in c 1 rfl
    · exact h.1.arr_in c 2 rfl) (run_values m ρ)

end Cert.KernelIdeal.Hand

end
-- ==== Proof.RefRun.lean ====
/-
  The reference's host operations cut in two: what its buffers hold is what the later operations leave of some contents.
  And a maximum taken over two axes at once, written over pairs.
-/
module

public import proofs.«01_k».proof.Proof.Gen.ReferenceIdeal.Frame
public import proofs.«01_k».proof.Proof.Scale
public import Idealize.ShloMosaic.Lib.StableHlo.RunRead
public import Idealize.ShloMosaic.Lib.StableHlo.ReadAt
public import Idealize.ShloMosaic.Lib.Pointwise

@[expose] public section

set_option maxRecDepth 16384

noncomputable section

namespace Cert.ReferenceIdeal.Hand

open Cert.ReferenceIdeal Cert.ReferenceIdeal.Gen
open Idealize.ShloMosaic Idealize.ShloMosaic.TcCoe

/-! ## Two axes at once -/

theorem fold_pair16 (e : EReal) (f : S8x16x32x128x128.Idx → EReal) (b : Fin 8) (h : Fin 16) (n : Fin 32) :
    Finset.fold max e f {i | reducesTo_S8x16x32x128x128_S8x16x32_d3_4.drop i = ix3 b h n}
      = Finset.fold max e (fun x : Fin 128 × Fin 128 => f (ix5 b h n x.1 x.2)) Finset.univ := by
  classical
  have e1 : (Finset.univ.filter fun i => reducesTo_S8x16x32x128x128_S8x16x32_d3_4.drop i = ix3 b h n)
      = Finset.univ.image fun x : Fin 128 × Fin 128 => ix5 (b : Fin 8) (h : Fin 16) (n : Fin 32) x.1 x.2 := by
    ext i
    obtain ⟨b', h', n', r, d, rfl⟩ : ∃ b' h' n' r d, i = ix5 b' h' n' r d := ⟨i 0, i 1, i 2, i 3, i 4, eq_ix5 i⟩
    simp only [Finset.mem_filter, Finset.mem_univ, true_and, Finset.mem_image, Prod.exists]
    constructor
    · intro hd
      have h0 : b' = b := congrFun hd 0
      have h1 : h' = h := congrFun hd 1
      have h2 : n' = n := congrFun hd 2
      subst h0 h1 h2
      exact ⟨r, d, rfl⟩
    · rintro ⟨r', d', he⟩
      have h0 : b = b' := congrFun he 0
      have h1 : h = h' := congrFun he 1
      have h2 : n = n' := congrFun he 2
      subst h0 h1 h2
      funext a
      match a with
      | ⟨0, _⟩ => rfl
      | ⟨1, _⟩ => rfl
      | ⟨2, _⟩ => rfl
  rw [e1]
  refine Finset.fold_image fun x _ y _ he => Prod.ext ?_ ?_
  · exact congrFun he 3
  · exact congrFun he 4

theorem fold_pair4 (e : EReal) (f : S8x4x32x128x128.Idx → EReal) (b : Fin 8) (h : Fin 4) (n : Fin 32) :
    Finset.fold max e f {i | reducesTo_S8x4x32x128x128_S8x4x32_d3_4.drop i = ix3 b h n}
      = Finset.fold max e (fun x : Fin 128 × Fin 128 => f (ix5 b h n x.1 x.2)) Finset.univ := by
  classical
  have e1 : (Finset.univ.filter fun i => reducesTo_S8x4x32x128x128_S8x4x32_d3_4.drop i = ix3 b h n)
      = Finset.univ.image fun x : Fin 128 × Fin 128 => ix5 (b : Fin 8) (h : Fin 4) (n : Fin 32) x.1 x.2 := by
    ext i
    obtain ⟨b', h', n', r, d, rfl⟩ : ∃ b' h' n' r d, i = ix5 b' h' n' r d := ⟨i 0, i 1, i 2, i 3, i 4, eq_ix5 i⟩
    simp only [Finset.mem_filter, Finset.mem_univ, true_and, Finset.mem_image, Prod.exists]
    constructor
    · intro hd
      have h0 : b' = b := congrFun hd 0
      have h1 : h' = h := congrFun hd 1
      have h2 : n' = n := congrFun hd 2
      subst h0 h1 h2
      exact ⟨r, d, rfl⟩
    · rintro ⟨r', d', he⟩
      have h0 : b = b' := congrFun he 0
      have h1 : h = h' := congrFun he 1
      have h2 : n = n' := congrFun he 2
      subst h0 h1 h2
      funext a
      match a with
      | ⟨0, _⟩ => rfl
      | ⟨1, _⟩ => rfl
      | ⟨2, _⟩ => rfl
  rw [e1]
  refine Finset.fold_image fun x _ y _ he => Prod.ext ?_ ?_
  · exact congrFun he 3
  · exact congrFun he 4

/-! ## The operations from a point on -/

variable (m : (ℓ : Loc nD τ sig) → Buf (Elt Ideal) ℓ) (c : Dev nD)

theorem cut6 : ∃ W : Valuation τ sig (Elt Ideal), ∀ b : Ref sig .tc,
    V m c b = StableHlo.after (List.flatten [hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26]) W b :=
  ⟨StableHlo.after (List.flatten [hostOps0, hostOps0_1, hostOps0_2, hostOps0_3, hostOps0_4, hostOps0_5]) (fun b => m (c, b)), fun b => congrFun (StableHlo.after_append (List.flatten [hostOps0, hostOps0_1, hostOps0_2, hostOps0_3, hostOps0_4, hostOps0_5]) (List.flatten [hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26]) (fun b => m (c, b))) b⟩

theorem cut12 : ∃ W : Valuation τ sig (Elt Ideal), ∀ b : Ref sig .tc,
    V m c b = StableHlo.after (List.flatten [hostOps0_12, hostOps0_13, hostOps0_14, hostOps0_15, hostOps0_16, hostOps0_17, hostOps0_18, hostOps0_19, hostOps0_20, hostOps0_21, hostOps0_22, hostOps0_23, hostOps0_24, hostOps0_25, hostOps0_26]) W b :=
  ⟨StableHlo.after (List.flatten [hostOps0, hostOps0_1, hostOps0_2, hostOps0_3, hostOps0_4, hostOps0_5, hostOps0_6, hostOps0_7, hostOps0_8, hostOps0_9, hostOps0_10, hostOps0_11]) (fun b => m (c, b)), fun b => congrFun (StableHlo.after_append (List.flatten [hostOps0, hostOps0_1, hostOps0_2, hostOps0_3, hostOps0_4, hostOps0_5, hostOps0_6, hostOps0_7, hostOps0_8, hostOps0_9, hostOps0_10, hostOps0_11]) (List.flatten [hostOps0_12, hostOps0_13, hostOps0_14, hostOps0_15, hostOps0_16, hostOps0_17, hostOps0_18, hostOps0_19, hostOps0_20, hostOps0_21, hostOps0_22, hostOps0_23, hostOps0_24, hostOps0_25, hostOps0_26]) (fun b => m (c, b))) b⟩

theorem cut18 : ∃ W : Valuation τ sig (Elt Ideal), ∀ b : Ref sig .tc,
    V m c b = StableHlo.after (List.flatten [hostOps0_18, hostOps0_19, hostOps0_20, hostOps0_21, hostOps0_22, hostOps0_23, hostOps0_24, hostOps0_25, hostOps0_26]) W b :=
  ⟨StableHlo.after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17]) (fun b => m (c, b)), fun b => congrFun (StableHlo.after_append (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17]) (List.flatten [hostOps0_18, hostOps0_19, hostOps0_20, hostOps0_21, hostOps0_22, hostOps0_23, hostOps0_24, hostOps0_25, hostOps0_26]) (fun b => m (c, b))) b⟩

theorem cut20 : ∃ W : Valuation τ sig (Elt Ideal), ∀ b : Ref sig .tc,
    V m c b = StableHlo.after (List.flatten [hostOps0_20, hostOps0_21, hostOps0_22, hostOps0_23, hostOps0_24, hostOps0_25, hostOps0_26]) W b :=
  ⟨StableHlo.after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19]) (fun b => m (c, b)), fun b => congrFun (StableHlo.after_append (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19]) (List.flatten [hostOps0_20, hostOps0_21, hostOps0_22, hostOps0_23, hostOps0_24, hostOps0_25, hostOps0_26]) (fun b => m (c, b))) b⟩

theorem cut24 : ∃ W : Valuation τ sig (Elt Ideal), ∀ b : Ref sig .tc,
    V m c b = StableHlo.after (List.flatten [hostOps0_24, hostOps0_25, hostOps0_26]) W b :=
  ⟨StableHlo.after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23]) (fun b => m (c, b)), fun b => congrFun (StableHlo.after_append (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23]) (List.flatten [hostOps0_24, hostOps0_25, hostOps0_26]) (fun b => m (c, b))) b⟩

theorem cut26 : ∃ W : Valuation τ sig (Elt Ideal), ∀ b : Ref sig .tc,
    V m c b = StableHlo.after (List.flatten [hostOps0_26]) W b :=
  ⟨StableHlo.after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25]) (fun b => m (c, b)), fun b => congrFun (StableHlo.after_append (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25]) (List.flatten [hostOps0_26]) (fun b => m (c, b))) b⟩

end Cert.ReferenceIdeal.Hand

end
-- ==== Proof.Segs.lean ====
/-
  What the reference's buffers hold, a stretch of its host operations at a time: a buffer that no later operation writes holds
  what the stretch leaves in it.
-/
module

public import proofs.«01_k».proof.Proof.RefRun

@[expose] public section

set_option maxRecDepth 16384

noncomputable section

namespace Cert.ReferenceIdeal.Hand

open Cert.ReferenceIdeal Cert.ReferenceIdeal.Gen
open Idealize.ShloMosaic Idealize.ShloMosaic.TcCoe

variable (m : (ℓ : Loc nD τ sig) → Buf (Elt Ideal) ℓ) (c : Dev nD)

/-- The host operations, in order. -/
abbrev hostLine : List (HloOp τ sig (Elt Ideal)) := List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26]

/-- The buffers they write, in order. -/
def hostRefs : List (Ref sig .tc) := [main_v0, main_v1, main_v2, main_v3, main_cst, main_v4, main_v5, main_cst_0, main_v6, main_v7, main_v8, main_cst_1, main_v9, main_v10, main_cst_2, main_v11, main_v12, main_v13, main_v14, main_v15, main_v16, main_v17, main_cst_3, main_call0_v0, main_call0_v1, main_call0_v2, main_v18, main_cst_4, main_v19, main_cst_5, main_v20, main_v21, main_cst_6, main_call1_v0, main_call1_v1, main_v22, main_cst_7, main_v23, main_v24, main_v25, main_v26, main_cst_8, main_cst_9, main_call2_v0, main_call2_v1, main_call2_v2, main_call2_v3, main_call2_v4, main_v27, main_v28, main_v29, main_v30, main_v31, main_cst_10, main_v32, main_v33, main_cst_11, main_v34, main_v35, main_v36, main_cst_12, main_v37, main_v38, main_cst_13, main_v39, main_v40, main_v41, main_v42, main_v43, main_v44, main_v45, main_cst_14, main_call3_v0, main_call3_v1, main_call3_v2, main_v46, main_cst_15, main_v47, main_cst_16, main_v48, main_v49, main_cst_17, main_call4_v0, main_call4_v1, main_v50, main_cst_18, main_v51, main_v52, main_v53, main_v54, main_cst_19, main_cst_20, main_call5_v0, main_call5_v1, main_call5_v2, main_call5_v3, main_call5_v4, main_v55, main_v56, main_v57, main_v58, main_v59, main_cst_21, main_v60, main_v61, main_cst_22, main_v62, main_v63, main_v64, main_cst_23, main_v65, main_v66, main_cst_24, main_v67, main_v68, main_v69, main_v70, main_v71, main_v72, main_v73, main_cst_25, main_call6_v0, main_call6_v1, main_call6_v2, main_v74, main_cst_26, main_v75, main_cst_27, main_v76, main_v77, main_cst_28, main_call7_v0, main_call7_v1, main_v78, main_cst_29, main_v79, main_v80, main_v81, main_v82, main_cst_30, main_cst_31, main_call8_v0, main_call8_v1, main_call8_v2, main_call8_v3, main_call8_v4, main_v83, main_v84, main_v85, main_v86, main_v87, main_v88, main_v89, main_v90, main_cst_32, main_v91, main_v92, main_v93, main_v94, main_v95, main_v96, main_v97, main_v98, main_v99, main_v100, main_v101, main_v102, main_v103, main_v104, main_v105, main_v106, main_v107, main_v108, main_cst_33, main_call9_v0, main_call9_v1, main_call9_v2, main_v109, main_cst_34, main_v110, main_v111, main_v112, main_v113, main_v114, main_cst_35, main_v115, main_v116, main_v117, main_v118, main_cst_36, main_v119, main_v120, main_cst_37, main_v121, main_v122, main_v123, main_cst_38, main_v124, main_v125, main_cst_39, main_v126, main_v127, main_v128, main_v129, main_v130, main_v131, main_v132, main_cst_40, main_call10_v0, main_call10_v1, main_call10_v2, main_v133, main_cst_41, main_v134, main_cst_42, main_v135, main_v136, main_cst_43, main_call11_v0, main_call11_v1, main_v137, main_cst_44, main_v138, main_v139, main_v140, main_v141, main_cst_45, main_cst_46, main_call12_v0, main_call12_v1, main_call12_v2, main_call12_v3, main_call12_v4, main_v142, main_v143, main_v144, main_v145, main_v146, main_v147, main_v148, main_v149, main_cst_47, main_v150, main_v151, main_v152, main_v153, main_v154, main_v155, main_v156, main_v157, main_v158, main_v159, main_v160, main_v161, main_v162, main_v163, main_v164]

theorem writes_eq : hostLine.map HloOp.writes = hostRefs.map fun w => {Proc.devRef (τ := τ) .tc w} := rfl

theorem segAt (i k : ℕ) :
    ∃ W : Valuation τ sig (Elt Ideal), ∀ b : Ref sig .tc, b ∉ hostRefs.drop (i + k) → V m c b = StableHlo.after ((hostLine.drop i).take k) W b := by
  have hW : ((hostLine.drop i).drop k).map HloOp.writes = (hostRefs.drop (i + k)).map fun w => {Proc.devRef (τ := τ) .tc w} := by
    rw [List.drop_drop, List.map_drop, writes_eq, List.map_drop]
  refine ⟨StableHlo.after (hostLine.take i) (fun b => m (c, b)), fun b hb => ?_⟩
  have e : hostLine = hostLine.take i ++ ((hostLine.drop i).take k ++ (hostLine.drop i).drop k) := by
    rw [List.take_append_drop, List.take_append_drop]
  show StableHlo.after hostLine (fun b => m (c, b)) b = _
  rw [show StableHlo.after hostLine (fun b => m (c, b)) = StableHlo.after (hostLine.take i ++ ((hostLine.drop i).take k ++ (hostLine.drop i).drop k)) (fun b => m (c, b)) from congrArg (fun l => StableHlo.after l _) e]
  rw [StableHlo.after_append, StableHlo.after_append]
  exact StableHlo.after_unwritten _ hW hb _

/-- Operations 0 to 2. -/
theorem seg0 : ∃ W : Valuation τ sig (Elt Ideal), ∀ b : Ref sig .tc, b ∉ (hostRefs.drop 3) → V m c b = StableHlo.after ((hostLine.drop 0).take 3) W b :=
  segAt m c 0 3

/-- Operations 3 to 5. -/
theorem seg3 : ∃ W : Valuation τ sig (Elt Ideal), ∀ b : Ref sig .tc, b ∉ (hostRefs.drop 6) → V m c b = StableHlo.after ((hostLine.drop 3).take 3) W b :=
  segAt m c 3 3

/-- Operations 6 to 9. -/
theorem seg6 : ∃ W : Valuation τ sig (Elt Ideal), ∀ b : Ref sig .tc, b ∉ (hostRefs.drop 10) → V m c b = StableHlo.after ((hostLine.drop 6).take 4) W b :=
  segAt m c 6 4

/-- Operations 10 to 26. -/
theorem seg10 : ∃ W : Valuation τ sig (Elt Ideal), ∀ b : Ref sig .tc, b ∉ (hostRefs.drop 27) → V m c b = StableHlo.after ((hostLine.drop 10).take 17) W b :=
  segAt m c 10 17

/-- Operations 27 to 28. -/
theorem seg27 : ∃ W : Valuation τ sig (Elt Ideal), ∀ b : Ref sig .tc, b ∉ (hostRefs.drop 29) → V m c b = StableHlo.after ((hostLine.drop 27).take 2) W b :=
  segAt m c 27 2

/-- Operations 29 to 35. -/
theorem seg29 : ∃ W : Valuation τ sig (Elt Ideal), ∀ b : Ref sig .tc, b ∉ (hostRefs.drop 36) → V m c b = StableHlo.after ((hostLine.drop 29).take 7) W b :=
  segAt m c 29 7

/-- Operations 36 to 48. -/
theorem seg36 : ∃ W : Valuation τ sig (Elt Ideal), ∀ b : Ref sig .tc, b ∉ (hostRefs.drop 49) → V m c b = StableHlo.after ((hostLine.drop 36).take 13) W b :=
  segAt m c 36 13

/-- Operations 49 to 51. -/
theorem seg49 : ∃ W : Valuation τ sig (Elt Ideal), ∀ b : Ref sig .tc, b ∉ (hostRefs.drop 52) → V m c b = StableHlo.after ((hostLine.drop 49).take 3) W b :=
  segAt m c 49 3

/-- Operations 52 to 54. -/
theorem seg52 : ∃ W : Valuation τ sig (Elt Ideal), ∀ b : Ref sig .tc, b ∉ (hostRefs.drop 55) → V m c b = StableHlo.after ((hostLine.drop 52).take 3) W b :=
  segAt m c 52 3

/-- Operations 55 to 58. -/
theorem seg55 : ∃ W : Valuation τ sig (Elt Ideal), ∀ b : Ref sig .tc, b ∉ (hostRefs.drop 59) → V m c b = StableHlo.after ((hostLine.drop 55).take 4) W b :=
  segAt m c 55 4

/-- Operations 59 to 75. -/
theorem seg59 : ∃ W : Valuation τ sig (Elt Ideal), ∀ b : Ref sig .tc, b ∉ (hostRefs.drop 76) → V m c b = StableHlo.after ((hostLine.drop 59).take 17) W b :=
  segAt m c 59 17

/-- Operations 76 to 77. -/
theorem seg76 : ∃ W : Valuation τ sig (Elt Ideal), ∀ b : Ref sig .tc, b ∉ (hostRefs.drop 78) → V m c b = StableHlo.after ((hostLine.drop 76).take 2) W b :=
  segAt m c 76 2

/-- Operations 78 to 84. -/
theorem seg78 : ∃ W : Valuation τ sig (Elt Ideal), ∀ b : Ref sig .tc, b ∉ (hostRefs.drop 85) → V m c b = StableHlo.after ((hostLine.drop 78).take 7) W b :=
  segAt m c 78 7

/-- Operations 85 to 97. -/
theorem seg85 : ∃ W : Valuation τ sig (Elt Ideal), ∀ b : Ref sig .tc, b ∉ (hostRefs.drop 98) → V m c b = StableHlo.after ((hostLine.drop 85).take 13) W b :=
  segAt m c 85 13

/-- Operations 98 to 100. -/
theorem seg98 : ∃ W : Valuation τ sig (Elt Ideal), ∀ b : Ref sig .tc, b ∉ (hostRefs.drop 101) → V m c b = StableHlo.after ((hostLine.drop 98).take 3) W b :=
  segAt m c 98 3

/-- Operations 101 to 103. -/
theorem seg101 : ∃ W : Valuation τ sig (Elt Ideal), ∀ b : Ref sig .tc, b ∉ (hostRefs.drop 104) → V m c b = StableHlo.after ((hostLine.drop 101).take 3) W b :=
  segAt m c 101 3

/-- Operations 104 to 107. -/
theorem seg104 : ∃ W : Valuation τ sig (Elt Ideal), ∀ b : Ref sig .tc, b ∉ (hostRefs.drop 108) → V m c b = StableHlo.after ((hostLine.drop 104).take 4) W b :=
  segAt m c 104 4

/-- Operations 108 to 124. -/
theorem seg108 : ∃ W : Valuation τ sig (Elt Ideal), ∀ b : Ref sig .tc, b ∉ (hostRefs.drop 125) → V m c b = StableHlo.after ((hostLine.drop 108).take 17) W b :=
  segAt m c 108 17

/-- Operations 125 to 126. -/
theorem seg125 : ∃ W : Valuation τ sig (Elt Ideal), ∀ b : Ref sig .tc, b ∉ (hostRefs.drop 127) → V m c b = StableHlo.after ((hostLine.drop 125).take 2) W b :=
  segAt m c 125 2

/-- Operations 127 to 133. -/
theorem seg127 : ∃ W : Valuation τ sig (Elt Ideal), ∀ b : Ref sig .tc, b ∉ (hostRefs.drop 134) → V m c b = StableHlo.after ((hostLine.drop 127).take 7) W b :=
  segAt m c 127 7

/-- Operations 134 to 146. -/
theorem seg134 : ∃ W : Valuation τ sig (Elt Ideal), ∀ b : Ref sig .tc, b ∉ (hostRefs.drop 147) → V m c b = StableHlo.after ((hostLine.drop 134).take 13) W b :=
  segAt m c 134 13

/-- Operations 147 to 149. -/
theorem seg147 : ∃ W : Valuation τ sig (Elt Ideal), ∀ b : Ref sig .tc, b ∉ (hostRefs.drop 150) → V m c b = StableHlo.after ((hostLine.drop 147).take 3) W b :=
  segAt m c 147 3

/-- Operations 150 to 153. -/
theorem seg150 : ∃ W : Valuation τ sig (Elt Ideal), ∀ b : Ref sig .tc, b ∉ (hostRefs.drop 154) → V m c b = StableHlo.after ((hostLine.drop 150).take 4) W b :=
  segAt m c 150 4

/-- Operations 154 to 177. -/
theorem seg154 : ∃ W : Valuation τ sig (Elt Ideal), ∀ b : Ref sig .tc, b ∉ (hostRefs.drop 178) → V m c b = StableHlo.after ((hostLine.drop 154).take 24) W b :=
  segAt m c 154 24

/-- Operations 178 to 179. -/
theorem seg178 : ∃ W : Valuation τ sig (Elt Ideal), ∀ b : Ref sig .tc, b ∉ (hostRefs.drop 180) → V m c b = StableHlo.after ((hostLine.drop 178).take 2) W b :=
  segAt m c 178 2

/-- Operations 180 to 183. -/
theorem seg180 : ∃ W : Valuation τ sig (Elt Ideal), ∀ b : Ref sig .tc, b ∉ (hostRefs.drop 184) → V m c b = StableHlo.after ((hostLine.drop 180).take 4) W b :=
  segAt m c 180 4

/-- Operations 184 to 185. -/
theorem seg184 : ∃ W : Valuation τ sig (Elt Ideal), ∀ b : Ref sig .tc, b ∉ (hostRefs.drop 186) → V m c b = StableHlo.after ((hostLine.drop 184).take 2) W b :=
  segAt m c 184 2

/-- Operations 186 to 187. -/
theorem seg186 : ∃ W : Valuation τ sig (Elt Ideal), ∀ b : Ref sig .tc, b ∉ (hostRefs.drop 188) → V m c b = StableHlo.after ((hostLine.drop 186).take 2) W b :=
  segAt m c 186 2

/-- Operations 188 to 190. -/
theorem seg188 : ∃ W : Valuation τ sig (Elt Ideal), ∀ b : Ref sig .tc, b ∉ (hostRefs.drop 191) → V m c b = StableHlo.after ((hostLine.drop 188).take 3) W b :=
  segAt m c 188 3

/-- Operations 191 to 194. -/
theorem seg191 : ∃ W : Valuation τ sig (Elt Ideal), ∀ b : Ref sig .tc, b ∉ (hostRefs.drop 195) → V m c b = StableHlo.after ((hostLine.drop 191).take 4) W b :=
  segAt m c 191 4

/-- Operations 195 to 211. -/
theorem seg195 : ∃ W : Valuation τ sig (Elt Ideal), ∀ b : Ref sig .tc, b ∉ (hostRefs.drop 212) → V m c b = StableHlo.after ((hostLine.drop 195).take 17) W b :=
  segAt m c 195 17

/-- Operations 212 to 213. -/
theorem seg212 : ∃ W : Valuation τ sig (Elt Ideal), ∀ b : Ref sig .tc, b ∉ (hostRefs.drop 214) → V m c b = StableHlo.after ((hostLine.drop 212).take 2) W b :=
  segAt m c 212 2

/-- Operations 214 to 220. -/
theorem seg214 : ∃ W : Valuation τ sig (Elt Ideal), ∀ b : Ref sig .tc, b ∉ (hostRefs.drop 221) → V m c b = StableHlo.after ((hostLine.drop 214).take 7) W b :=
  segAt m c 214 7

/-- Operations 221 to 233. -/
theorem seg221 : ∃ W : Valuation τ sig (Elt Ideal), ∀ b : Ref sig .tc, b ∉ (hostRefs.drop 234) → V m c b = StableHlo.after ((hostLine.drop 221).take 13) W b :=
  segAt m c 221 13

/-- Operations 234 to 234. -/
theorem seg234 : ∃ W : Valuation τ sig (Elt Ideal), ∀ b : Ref sig .tc, b ∉ (hostRefs.drop 235) → V m c b = StableHlo.after ((hostLine.drop 234).take 1) W b :=
  segAt m c 234 1

/-- Operations 235 to 240. -/
theorem seg235 : ∃ W : Valuation τ sig (Elt Ideal), ∀ b : Ref sig .tc, b ∉ (hostRefs.drop 241) → V m c b = StableHlo.after ((hostLine.drop 235).take 6) W b :=
  segAt m c 235 6

/-- Operations 241 to 242. -/
theorem seg241 : ∃ W : Valuation τ sig (Elt Ideal), ∀ b : Ref sig .tc, b ∉ (hostRefs.drop 243) → V m c b = StableHlo.after ((hostLine.drop 241).take 2) W b :=
  segAt m c 241 2

/-- Operations 243 to 247. -/
theorem seg243 : ∃ W : Valuation τ sig (Elt Ideal), ∀ b : Ref sig .tc, b ∉ (hostRefs.drop 248) → V m c b = StableHlo.after ((hostLine.drop 243).take 5) W b :=
  segAt m c 243 5

/-- Operations 248 to 256. -/
theorem seg248 : ∃ W : Valuation τ sig (Elt Ideal), ∀ b : Ref sig .tc, b ∉ (hostRefs.drop 257) → V m c b = StableHlo.after ((hostLine.drop 248).take 9) W b :=
  segAt m c 248 9

end Cert.ReferenceIdeal.Hand

end
-- ==== Proof.RefNums.lean ====
/-
  The reference's intermediate values by name, and the numbers its constants stand for.
-/
module

public import proofs.«01_k».proof.Proof.Segs
public import Idealize.ShloMosaic.Lib.IdealHost

@[expose] public section

set_option maxRecDepth 16384

noncomputable section

namespace Cert.ReferenceIdeal.Hand

open Cert.ReferenceIdeal Cert.ReferenceIdeal.Gen
open Idealize.ShloMosaic Idealize.ShloMosaic.TcCoe

variable (m : (ℓ : Loc nD τ sig) → Buf (Elt Ideal) ℓ) (c : Dev nD)

/-! The buffers read below, over the extended reals. -/

abbrev x2 (i : S8x16x32x128x128.Idx) : EReal := V m c main_v2 i
abbrev x4 (i : S8x16x32.Idx) : EReal := V m c main_v4 i
abbrev x7 (i : S8x16x32x1x1.Idx) : EReal := V m c main_v7 i
abbrev x18 (i : S8x16x32x1x1x252.Idx) : EReal := V m c main_v18 i
abbrev x19 (i : S8x16x32x1x1.Idx) : EReal := V m c main_v19 i
abbrev x22 (i : S8x16x32x1x1.Idx) : EReal := V m c main_v22 i
abbrev x27 (i : S8x16x32x128x128.Idx) : EReal := V m c main_v27 i
abbrev x30 (i : S8x4x32x128x128.Idx) : EReal := V m c main_v30 i
abbrev x32 (i : S8x4x32.Idx) : EReal := V m c main_v32 i
abbrev x35 (i : S8x4x32x1x1.Idx) : EReal := V m c main_v35 i
abbrev x46 (i : S8x4x32x1x1x252.Idx) : EReal := V m c main_v46 i
abbrev x47 (i : S8x4x32x1x1.Idx) : EReal := V m c main_v47 i
abbrev x50 (i : S8x4x32x1x1.Idx) : EReal := V m c main_v50 i
abbrev x55 (i : S8x4x32x128x128.Idx) : EReal := V m c main_v55 i
abbrev x58 (i : S8x4x32x128x128.Idx) : EReal := V m c main_v58 i
abbrev x60 (i : S8x4x32.Idx) : EReal := V m c main_v60 i
abbrev x63 (i : S8x4x32x1x1.Idx) : EReal := V m c main_v63 i
abbrev x74 (i : S8x4x32x1x1x252.Idx) : EReal := V m c main_v74 i
abbrev x75 (i : S8x4x32x1x1.Idx) : EReal := V m c main_v75 i
abbrev x78 (i : S8x4x32x1x1.Idx) : EReal := V m c main_v78 i
abbrev x83 (i : S8x4x32x128x128.Idx) : EReal := V m c main_v83 i
abbrev x84 (i : S8x16x32.Idx) : EReal := V m c main_v84 i
abbrev x85 (i : S8x4x32.Idx) : EReal := V m c main_v85 i
abbrev x86 (i : S8x4x32.Idx) : EReal := V m c main_v86 i
abbrev x89 (i : S8x4x4x32.Idx) : EReal := V m c main_v89 i
abbrev x90 (i : S8x4x4x4096x4096.Idx) : EReal := V m c main_v90 i
abbrev x109 (i : S8x4x4x4096x4096.Idx) : EReal := V m c main_v109 i
abbrev x110 (i : S8x4x4x4096.Idx) : EReal := V m c main_v110 i
abbrev x114 (i : S8x4x4x4096x4096.Idx) : EReal := V m c main_v114 i
abbrev x115 (i : S8x4x4x4096.Idx) : EReal := V m c main_v115 i
abbrev x116 (i : S8x4x4x4096x1.Idx) : EReal := V m c main_v116 i
abbrev x117 (i : S8x4x4x4096x32x128.Idx) : EReal := V m c main_v117 i
abbrev x119 (i : S8x4x4x4096x32.Idx) : EReal := V m c main_v119 i
abbrev x122 (i : S8x4x4x4096x32x1.Idx) : EReal := V m c main_v122 i
abbrev x133 (i : S8x4x4x4096x32x1x252.Idx) : EReal := V m c main_v133 i
abbrev x134 (i : S8x4x4x4096x32x1.Idx) : EReal := V m c main_v134 i
abbrev x137 (i : S8x4x4x4096x32x1.Idx) : EReal := V m c main_v137 i
abbrev x142 (i : S8x4x4x4096x32x128.Idx) : EReal := V m c main_v142 i
abbrev x143 (i : S8x4x32x128x4x4096.Idx) : EReal := V m c main_v143 i
abbrev x149 (i : S8x4x4x4096x32x128.Idx) : EReal := V m c main_v149 i
abbrev x150 (i : S8x4x4x4096x128.Idx) : EReal := V m c main_v150 i
abbrev x155 (i : S8x4096x2048.Idx) : EReal := V m c main_v155 i
abbrev x158 (i : S8x4x32x512.Idx) : EReal := V m c main_v158 i
abbrev x161 (i : S8x4x32x128.Idx) : EReal := V m c main_v161 i
abbrev x164 (i : S8x4x32x128.Idx) : EReal := V m c main_v164 i

/-! ## Numbers -/

theorem ofBits_T252 : Ideal.ofBits .f32 0x7E800000#32 = Cert.Scale.T 252 := by
  rw [show (0x7E800000#32 : BitVec 32) = BitVec.ofNat 32 (252 + 1) <<< 23 by decide]
  exact Cert.Scale.ofBits_field ⟨252, by norm_num⟩
theorem ofBits_T0 : Ideal.ofBits .f32 0x00800000#32 = Cert.Scale.T 0 := by
  rw [show (0x00800000#32 : BitVec 32) = BitVec.ofNat 32 (0 + 1) <<< 23 by decide]
  exact Cert.Scale.ofBits_field ⟨0, by norm_num⟩
theorem ofBits_one : Ideal.ofBits .f32 0x3F800000#32 = 1 := Ideal.ofBits_one_f32
theorem ofBits_two : Ideal.ofBits .f32 0x40000000#32 = ((2 : ℝ) : EReal) := by
  rw [show (0x40000000#32 : BitVec 32) = BitVec.ofNat 32 (127 + 1) <<< 23 by decide]
  refine (Cert.Scale.ofBits_field ⟨127, by norm_num⟩).trans ?_
  unfold Cert.Scale.T
  norm_num
theorem ofBits_125 : Ideal.ofBits .f32 0x42FA0000#32 = ((125 : ℝ) : EReal) := by
  simp [Ideal.ofBits, Ideal.ieee, -EReal.coe_mul]; norm_num
theorem ofBits_top : Ideal.ofBits .f32 0x7F800000#32 = ⊤ := by
  simp [Ideal.ofBits, Ideal.ieee, -EReal.coe_mul]
theorem ofBits_bot : Ideal.ofBits .f32 0xFF800000#32 = ⊥ := by
  simp [Ideal.ofBits, Ideal.ieee, -EReal.coe_mul]
theorem ofBits_zero : Ideal.ofBits .f32 0x00000000#32 = 0 := Ideal.ofBits_zero_f32

theorem pow_T (j : Fin 252) : Ideal.pow (Ideal.ofBits .f32 0x40000000#32)
    ((FloatOps.sitofp (F := Ideal) .f32 (BitVec.ofNat 32 j.val) : EReal) - Ideal.ofBits .f32 0x42FA0000#32) = Cert.Scale.T (j.val + 1) := by
  rw [ofBits_two, ofBits_125]
  have e : (FloatOps.sitofp (F := Ideal) .f32 (BitVec.ofNat 32 j.val) : EReal) = ((j.val : ℝ) : EReal) := by
    show (((BitVec.ofNat 32 j.val).toInt : ℝ) : EReal) = _
    have h : ∀ j : Fin 252, (BitVec.ofNat 32 j.val).toInt = j.val := by decide +kernel
    rw [h j]
    norm_num
  rw [e, ← EReal.coe_sub]
  show ((Real.rpow 2 ((j.val : ℝ) - 125) : ℝ) : EReal) = _
  unfold Cert.Scale.T
  refine congrArg _ ?_
  rw [show ((j.val : ℝ) - 125) = (((j.val : ℤ) - 125 : ℤ) : ℝ) by push_cast; ring]
  refine (Real.rpow_intCast 2 _).trans ?_
  congr 1
  push_cast
  ring

theorem const_at (b : BitVec 32) : id (constant (F := Ideal) S_ .f32 b) ix0 = Ideal.ofBits .f32 b := rfl

theorem sle_ite (k i : ℕ) (hk : k < 4096) (hi : i < 4096) (a b : EReal) :
    Scalar.select (IntOp.cmpi .sle (BitVec.ofNat 32 k) (BitVec.ofNat 32 i)) a b = if k ≤ i then a else b := by
  have e : ∀ n : ℕ, n < 4096 → (BitVec.ofNat 32 n).toInt = n := fun n hn => by
    rw [BitVec.toInt_eq_toNat_of_lt (by rw [BitVec.toNat_ofNat]; omega), BitVec.toNat_ofNat]
    omega
  show Scalar.select (BitVec.ofBool (decide ((BitVec.ofNat 32 k).toInt ≤ (BitVec.ofNat 32 i).toInt))) a b = _
  rw [e k hk, e i hi]
  by_cases h : k ≤ i
  · simp [Scalar.select, h]
  · simp [Scalar.select, h]

theorem select_ite {p : Prop} [Decidable p] (a b : EReal) : Scalar.select (BitVec.ofBool (decide p)) a b = if p then a else b := by
  by_cases h : p <;> simp [Scalar.select, h]

end Cert.ReferenceIdeal.Hand

end
-- ==== Proof.RefQuant.lean ====
/-
  The reference's quantised queries: largest magnitude, scale and codes of a block, element by element.
-/
module

public import proofs.«01_k».proof.Proof.RefNums
public import Idealize.ShloMosaic.Lib.IdealHost

@[expose] public section

set_option maxRecDepth 16384

noncomputable section

namespace Cert.ReferenceIdeal.Hand

open Cert.ReferenceIdeal Cert.ReferenceIdeal.Gen
open Idealize.ShloMosaic Idealize.ShloMosaic.TcCoe

variable (m : (ℓ : Loc nD τ sig) → Buf (Elt Ideal) ℓ) (c : Dev nD)

theorem v2_at (b : Fin 8) (h : Fin 16) (n : Fin 32) (r d : Fin 128) :
    x2 m c (ix5 b h n r d) = m (c, Proc.tc.devRef main_arg0) (ix3 b ⟨n.val * 128 + r.val, by omega⟩ ⟨h.val * 128 + d.val, by omega⟩) := by
  rw [show m (c, Proc.tc.devRef main_arg0) = V m c main_arg0 from (V_main_arg0 m c).symm]
  unfold x2
  obtain ⟨W, hW⟩ := seg0 m c
  rw [hW main_v2 (by decide), hW main_arg0 (by decide)]
  after_reads_at

theorem v7_at (b : Fin 8) (h : Fin 16) (n : Fin 32) :
    x7 m c (ix5 b h n 0 0) = x4 m c (ix3 b h n) * Ideal.ofBits .f32 0x3B124925#32 := by
  unfold x7 x4
  obtain ⟨W, hW⟩ := seg6 m c
  rw [hW main_v7 (by decide), hW main_v4 (by decide)]
  after_reads_at

theorem v4_at (b : Fin 8) (h : Fin 16) (n : Fin 32) :
    x4 m c (ix3 b h n) = Finset.fold max (Ideal.ofBits .f32 0xFF800000#32) (fun x : Fin 128 × Fin 128 => FloatOps.absf (F := Ideal) (φ := .f32) (x2 m c (ix5 b h n x.1 x.2))) Finset.univ := by
  unfold x4 x2
  obtain ⟨W, hW⟩ := seg3 m c
  rw [hW main_v4 (by decide), hW main_v2 (by decide)]
  after_reads_simp
  try simp -implicitDefEqProofs only [StableHlo.TRef.toBuf, StableHlo.TRef.ofBuf, cast_cast, cast_eq]
  rw [Host.reduce_eq_fold]
  exact fold_pair16 _ _ b h n

theorem v27_at (b : Fin 8) (h : Fin 16) (n : Fin 32) (r d : Fin 128) :
    x27 m c (ix5 b h n r d) = min (Ideal.ofBits .f32 0x43E00000#32) (max (Ideal.ofBits .f32 0xC3E00000#32) (x2 m c (ix5 b h n r d) * Ideal.div 1 (x22 m c (ix5 b h n 0 0)))) := by
  unfold x27 x22 x2
  obtain ⟨W, hW⟩ := seg36 m c
  rw [hW main_v27 (by decide), hW main_v22 (by decide), hW main_v2 (by decide)]
  after_reads_at
  rw [const_at, const_at]

theorem v22_eq (b : Fin 8) (h : Fin 16) (n : Fin 32) :
    x22 m c (ix5 b h n 0 0) = if x7 m c (ix5 b h n 0 0) < Ideal.ofBits .f32 0x00800000#32 then 1 else x19 m c (ix5 b h n 0 0) := by
  unfold x22 x7 x19
  obtain ⟨W, hW⟩ := seg29 m c
  rw [hW main_v22 (by decide), hW main_v7 (by decide), hW main_v19 (by decide)]
  after_reads_at
  rw [const_at, ofBits_one]

theorem v19_at (b : Fin 8) (h : Fin 16) (n : Fin 32) :
    x19 m c (ix5 b h n 0 0) = Finset.fold min (Ideal.ofBits .f32 0x7F800000#32) (fun j : Fin 252 => x18 m c (ix6 b h n 0 0 j)) Finset.univ := by
  unfold x19 x18
  obtain ⟨W, hW⟩ := seg27 m c
  rw [hW main_v19 (by decide), hW main_v18 (by decide)]
  after_reads_simp
  try simp -implicitDefEqProofs only [StableHlo.TRef.toBuf, StableHlo.TRef.ofBuf, cast_cast, cast_eq]
  rw [Host.reduce_eq_fold_single _ _ _ _ (by decide)]
  exact Finset.fold_congr fun j _ => congrArg (W _) (funext fun a => by fin_cases a <;> rfl)

theorem v18_at (b : Fin 8) (h : Fin 16) (n : Fin 32) (j : Fin 252) :
    x18 m c (ix6 b h n 0 0 j) = if x7 m c (ix5 b h n 0 0) < Cert.Scale.T (j.val + 1) then Cert.Scale.T (j.val + 1) else Cert.Scale.T 252 := by
  unfold x18 x7
  obtain ⟨W, hW⟩ := seg10 m c
  rw [hW main_v18 (by decide), hW main_v7 (by decide)]
  after_reads_at
  rw [pow_T, const_at, ofBits_T252]

theorem v22_at (b : Fin 8) (h : Fin 16) (n : Fin 32) :
    x22 m c (ix5 b h n 0 0) = Cert.Scale.above (x7 m c (ix5 b h n 0 0)) := by
  rw [v22_eq, v19_at]
  have e := funext fun j : Fin 252 => v18_at m c b h n j
  rw [e, ofBits_T0, ofBits_top, Cert.Scale.above]

end Cert.ReferenceIdeal.Hand

end
-- ==== Proof.RefQuantK.lean ====
/-
  The reference's quantised keys: largest magnitude, scale and codes of a block, element by element.
-/
module

public import proofs.«01_k».proof.Proof.RefNums
public import Idealize.ShloMosaic.Lib.IdealHost

@[expose] public section

set_option maxRecDepth 16384

noncomputable section

namespace Cert.ReferenceIdeal.Hand

open Cert.ReferenceIdeal Cert.ReferenceIdeal.Gen
open Idealize.ShloMosaic Idealize.ShloMosaic.TcCoe

variable (m : (ℓ : Loc nD τ sig) → Buf (Elt Ideal) ℓ) (c : Dev nD)

theorem v30_at (b : Fin 8) (h : Fin 4) (n : Fin 32) (r d : Fin 128) :
    x30 m c (ix5 b h n r d) = m (c, Proc.tc.devRef main_arg1) (ix3 b ⟨n.val * 128 + r.val, by omega⟩ ⟨h.val * 128 + d.val, by omega⟩) := by
  rw [show m (c, Proc.tc.devRef main_arg1) = V m c main_arg1 from (V_main_arg1 m c).symm]
  unfold x30
  obtain ⟨W, hW⟩ := seg49 m c
  rw [hW main_v30 (by decide), hW main_arg1 (by decide)]
  after_reads_at

theorem v35_at (b : Fin 8) (h : Fin 4) (n : Fin 32) :
    x35 m c (ix5 b h n 0 0) = x32 m c (ix3 b h n) * Ideal.ofBits .f32 0x3B124925#32 := by
  unfold x35 x32
  obtain ⟨W, hW⟩ := seg55 m c
  rw [hW main_v35 (by decide), hW main_v32 (by decide)]
  after_reads_at

theorem v32_at (b : Fin 8) (h : Fin 4) (n : Fin 32) :
    x32 m c (ix3 b h n) = Finset.fold max (Ideal.ofBits .f32 0xFF800000#32) (fun x : Fin 128 × Fin 128 => FloatOps.absf (F := Ideal) (φ := .f32) (x30 m c (ix5 b h n x.1 x.2))) Finset.univ := by
  unfold x32 x30
  obtain ⟨W, hW⟩ := seg52 m c
  rw [hW main_v32 (by decide), hW main_v30 (by decide)]
  after_reads_simp
  try simp -implicitDefEqProofs only [StableHlo.TRef.toBuf, StableHlo.TRef.ofBuf, cast_cast, cast_eq]
  rw [Host.reduce_eq_fold]
  exact fold_pair4 _ _ b h n

theorem v55_at (b : Fin 8) (h : Fin 4) (n : Fin 32) (r d : Fin 128) :
    x55 m c (ix5 b h n r d) = min (Ideal.ofBits .f32 0x43E00000#32) (max (Ideal.ofBits .f32 0xC3E00000#32) (x30 m c (ix5 b h n r d) * Ideal.div 1 (x50 m c (ix5 b h n 0 0)))) := by
  unfold x55 x50 x30
  obtain ⟨W, hW⟩ := seg85 m c
  rw [hW main_v55 (by decide), hW main_v50 (by decide), hW main_v30 (by decide)]
  after_reads_at
  rw [const_at, const_at]

theorem v50_eq (b : Fin 8) (h : Fin 4) (n : Fin 32) :
    x50 m c (ix5 b h n 0 0) = if x35 m c (ix5 b h n 0 0) < Ideal.ofBits .f32 0x00800000#32 then 1 else x47 m c (ix5 b h n 0 0) := by
  unfold x50 x35 x47
  obtain ⟨W, hW⟩ := seg78 m c
  rw [hW main_v50 (by decide), hW main_v35 (by decide), hW main_v47 (by decide)]
  after_reads_at
  rw [const_at, ofBits_one]

theorem v47_at (b : Fin 8) (h : Fin 4) (n : Fin 32) :
    x47 m c (ix5 b h n 0 0) = Finset.fold min (Ideal.ofBits .f32 0x7F800000#32) (fun j : Fin 252 => x46 m c (ix6 b h n 0 0 j)) Finset.univ := by
  unfold x47 x46
  obtain ⟨W, hW⟩ := seg76 m c
  rw [hW main_v47 (by decide), hW main_v46 (by decide)]
  after_reads_simp
  try simp -implicitDefEqProofs only [StableHlo.TRef.toBuf, StableHlo.TRef.ofBuf, cast_cast, cast_eq]
  rw [Host.reduce_eq_fold_single _ _ _ _ (by decide)]
  exact Finset.fold_congr fun j _ => congrArg (W _) (funext fun a => by fin_cases a <;> rfl)

theorem v46_at (b : Fin 8) (h : Fin 4) (n : Fin 32) (j : Fin 252) :
    x46 m c (ix6 b h n 0 0 j) = if x35 m c (ix5 b h n 0 0) < Cert.Scale.T (j.val + 1) then Cert.Scale.T (j.val + 1) else Cert.Scale.T 252 := by
  unfold x46 x35
  obtain ⟨W, hW⟩ := seg59 m c
  rw [hW main_v46 (by decide), hW main_v35 (by decide)]
  after_reads_at
  rw [pow_T, const_at, ofBits_T252]

theorem v50_at (b : Fin 8) (h : Fin 4) (n : Fin 32) :
    x50 m c (ix5 b h n 0 0) = Cert.Scale.above (x35 m c (ix5 b h n 0 0)) := by
  rw [v50_eq, v47_at]
  have e := funext fun j : Fin 252 => v46_at m c b h n j
  rw [e, ofBits_T0, ofBits_top, Cert.Scale.above]

end Cert.ReferenceIdeal.Hand

end
-- ==== Proof.RefQuantV.lean ====
/-
  The reference's quantised values: largest magnitude, scale and codes of a block, element by element.
-/
module

public import proofs.«01_k».proof.Proof.RefNums
public import Idealize.ShloMosaic.Lib.IdealHost

@[expose] public section

set_option maxRecDepth 16384

noncomputable section

namespace Cert.ReferenceIdeal.Hand

open Cert.ReferenceIdeal Cert.ReferenceIdeal.Gen
open Idealize.ShloMosaic Idealize.ShloMosaic.TcCoe

variable (m : (ℓ : Loc nD τ sig) → Buf (Elt Ideal) ℓ) (c : Dev nD)

theorem v58_at (b : Fin 8) (h : Fin 4) (n : Fin 32) (r d : Fin 128) :
    x58 m c (ix5 b h n r d) = m (c, Proc.tc.devRef main_arg2) (ix3 b ⟨n.val * 128 + r.val, by omega⟩ ⟨h.val * 128 + d.val, by omega⟩) := by
  rw [show m (c, Proc.tc.devRef main_arg2) = V m c main_arg2 from (V_main_arg2 m c).symm]
  unfold x58
  obtain ⟨W, hW⟩ := seg98 m c
  rw [hW main_v58 (by decide), hW main_arg2 (by decide)]
  after_reads_at

theorem v63_at (b : Fin 8) (h : Fin 4) (n : Fin 32) :
    x63 m c (ix5 b h n 0 0) = x60 m c (ix3 b h n) * Ideal.ofBits .f32 0x3B124925#32 := by
  unfold x63 x60
  obtain ⟨W, hW⟩ := seg104 m c
  rw [hW main_v63 (by decide), hW main_v60 (by decide)]
  after_reads_at

theorem v60_at (b : Fin 8) (h : Fin 4) (n : Fin 32) :
    x60 m c (ix3 b h n) = Finset.fold max (Ideal.ofBits .f32 0xFF800000#32) (fun x : Fin 128 × Fin 128 => FloatOps.absf (F := Ideal) (φ := .f32) (x58 m c (ix5 b h n x.1 x.2))) Finset.univ := by
  unfold x60 x58
  obtain ⟨W, hW⟩ := seg101 m c
  rw [hW main_v60 (by decide), hW main_v58 (by decide)]
  after_reads_simp
  try simp -implicitDefEqProofs only [StableHlo.TRef.toBuf, StableHlo.TRef.ofBuf, cast_cast, cast_eq]
  rw [Host.reduce_eq_fold]
  exact fold_pair4 _ _ b h n

theorem v83_at (b : Fin 8) (h : Fin 4) (n : Fin 32) (r d : Fin 128) :
    x83 m c (ix5 b h n r d) = min (Ideal.ofBits .f32 0x43E00000#32) (max (Ideal.ofBits .f32 0xC3E00000#32) (x58 m c (ix5 b h n r d) * Ideal.div 1 (x78 m c (ix5 b h n 0 0)))) := by
  unfold x83 x78 x58
  obtain ⟨W, hW⟩ := seg134 m c
  rw [hW main_v83 (by decide), hW main_v78 (by decide), hW main_v58 (by decide)]
  after_reads_at
  rw [const_at, const_at]

theorem v78_eq (b : Fin 8) (h : Fin 4) (n : Fin 32) :
    x78 m c (ix5 b h n 0 0) = if x63 m c (ix5 b h n 0 0) < Ideal.ofBits .f32 0x00800000#32 then 1 else x75 m c (ix5 b h n 0 0) := by
  unfold x78 x63 x75
  obtain ⟨W, hW⟩ := seg127 m c
  rw [hW main_v78 (by decide), hW main_v63 (by decide), hW main_v75 (by decide)]
  after_reads_at
  rw [const_at, ofBits_one]

theorem v75_at (b : Fin 8) (h : Fin 4) (n : Fin 32) :
    x75 m c (ix5 b h n 0 0) = Finset.fold min (Ideal.ofBits .f32 0x7F800000#32) (fun j : Fin 252 => x74 m c (ix6 b h n 0 0 j)) Finset.univ := by
  unfold x75 x74
  obtain ⟨W, hW⟩ := seg125 m c
  rw [hW main_v75 (by decide), hW main_v74 (by decide)]
  after_reads_simp
  try simp -implicitDefEqProofs only [StableHlo.TRef.toBuf, StableHlo.TRef.ofBuf, cast_cast, cast_eq]
  rw [Host.reduce_eq_fold_single _ _ _ _ (by decide)]
  exact Finset.fold_congr fun j _ => congrArg (W _) (funext fun a => by fin_cases a <;> rfl)

theorem v74_at (b : Fin 8) (h : Fin 4) (n : Fin 32) (j : Fin 252) :
    x74 m c (ix6 b h n 0 0 j) = if x63 m c (ix5 b h n 0 0) < Cert.Scale.T (j.val + 1) then Cert.Scale.T (j.val + 1) else Cert.Scale.T 252 := by
  unfold x74 x63
  obtain ⟨W, hW⟩ := seg108 m c
  rw [hW main_v74 (by decide), hW main_v63 (by decide)]
  after_reads_at
  rw [pow_T, const_at, ofBits_T252]

theorem v78_at (b : Fin 8) (h : Fin 4) (n : Fin 32) :
    x78 m c (ix5 b h n 0 0) = Cert.Scale.above (x63 m c (ix5 b h n 0 0)) := by
  rw [v78_eq, v75_at]
  have e := funext fun j : Fin 252 => v74_at m c b h n j
  rw [e, ofBits_T0, ofBits_top, Cert.Scale.above]

end Cert.ReferenceIdeal.Hand

end
-- ==== Proof.RefScores.lean ====
/-
  The reference's scores, their maximum, and the exponentials and their sum, element by element.
-/
module

public import proofs.«01_k».proof.Proof.RefNums
public import Idealize.ShloMosaic.Lib.IdealHost

@[expose] public section

set_option maxRecDepth 16384

noncomputable section

namespace Cert.ReferenceIdeal.Hand

open Cert.ReferenceIdeal Cert.ReferenceIdeal.Gen
open Idealize.ShloMosaic Idealize.ShloMosaic.TcCoe

variable (m : (ℓ : Loc nD τ sig) → Buf (Elt Ideal) ℓ) (c : Dev nD)

theorem v109_at (b : Fin 8) (h g : Fin 4) (i k : Fin 4096) :
    x109 m c (ix5 b h g i k) = if k.val ≤ i.val then x90 m c (ix5 b h g i k) * (x89 m c (ix4 b h g ⟨i.val / 128, by omega⟩) * Ideal.ofBits .f32 0x3DB504F3#32) * x85 m c (ix3 b h ⟨k.val / 128, by omega⟩) else ⊥ := by
  unfold x109 x90 x89 x85
  obtain ⟨W, hW⟩ := seg154 m c
  rw [hW main_v109 (by decide), hW main_v90 (by decide), hW main_v89 (by decide), hW main_v85 (by decide)]
  after_reads_at
  rw [sle_ite _ _ (by omega) (by omega), const_at, ofBits_bot]

theorem v90_at (b : Fin 8) (h g : Fin 4) (i k : Fin 4096) :
    x90 m c (ix5 b h g i k) = ∑ d : Fin 128, x27 m c (ix5 b ⟨h.val * 4 + g.val, by omega⟩ ⟨i.val / 128, by omega⟩ ⟨i.val % 128, by omega⟩ d) * x55 m c (ix5 b h ⟨k.val / 128, by omega⟩ ⟨k.val % 128, by omega⟩ d) := by
  unfold x90 x27 x55
  obtain ⟨W, hW⟩ := seg150 m c
  rw [hW main_v90 (by decide), hW main_v27 (by decide), hW main_v55 (by decide)]
  after_reads_at
theorem v84_at (b : Fin 8) (h : Fin 16) (n : Fin 32) : x84 m c (ix3 b h n) = x22 m c (ix5 b h n 0 0) := by
  unfold x84 x22
  obtain ⟨W, hW⟩ := seg147 m c
  rw [hW main_v84 (by decide), hW main_v22 (by decide)]
  after_reads_at
theorem v89_at (b : Fin 8) (h g : Fin 4) (n : Fin 32) :
    x89 m c (ix4 b h g n) = x22 m c (ix5 b ⟨h.val * 4 + g.val, by omega⟩ n 0 0) := by
  rw [← v84_at]
  unfold x89 x84
  obtain ⟨W, hW⟩ := seg150 m c
  rw [hW main_v89 (by decide), hW main_v84 (by decide)]
  after_reads_at
theorem v85_at (b : Fin 8) (h : Fin 4) (n : Fin 32) :
    x85 m c (ix3 b h n) = x50 m c (ix5 b h n 0 0) := by
  unfold x85 x50
  obtain ⟨W, hW⟩ := seg147 m c
  rw [hW main_v85 (by decide), hW main_v50 (by decide)]
  after_reads_at
theorem v86_at (b : Fin 8) (h : Fin 4) (n : Fin 32) :
    x86 m c (ix3 b h n) = x78 m c (ix5 b h n 0 0) := by
  unfold x86 x78
  obtain ⟨W, hW⟩ := seg147 m c
  rw [hW main_v86 (by decide), hW main_v78 (by decide)]
  after_reads_at
theorem v110_at (b : Fin 8) (h g : Fin 4) (i : Fin 4096) :
    x110 m c (ix4 b h g i) = Finset.fold max (Ideal.ofBits .f32 0xFF800000#32) (fun k : Fin 4096 => x109 m c (ix5 b h g i k)) Finset.univ := by
  unfold x110 x109
  obtain ⟨W, hW⟩ := seg178 m c
  rw [hW main_v110 (by decide), hW main_v109 (by decide)]
  after_reads_simp
  try simp -implicitDefEqProofs only [StableHlo.TRef.toBuf, StableHlo.TRef.ofBuf, cast_cast, cast_eq]
  rw [Host.reduce_eq_fold_single _ _ _ _ (by decide)]
  exact Finset.fold_congr fun j _ => congrArg (W _) (funext fun a => by fin_cases a <;> rfl)

theorem v114_at (b : Fin 8) (h g : Fin 4) (i k : Fin 4096) :
    x114 m c (ix5 b h g i k) = Ideal.exp (x109 m c (ix5 b h g i k) - x110 m c (ix4 b h g i)) := by
  unfold x114 x109 x110
  obtain ⟨W, hW⟩ := seg180 m c
  rw [hW main_v114 (by decide), hW main_v109 (by decide), hW main_v110 (by decide)]
  after_reads_at
theorem v115_at (b : Fin 8) (h g : Fin 4) (i : Fin 4096) :
    x115 m c (ix4 b h g i) = ∑ k : Fin 4096, x114 m c (ix5 b h g i k) := by
  unfold x115 x114
  obtain ⟨W, hW⟩ := seg184 m c
  rw [hW main_v115 (by decide), hW main_v114 (by decide)]
  after_reads_at

end Cert.ReferenceIdeal.Hand

end
-- ==== Proof.RefProbs.lean ====
/-
  The reference's quantised probabilities, element by element.
-/
module

public import proofs.«01_k».proof.Proof.RefNums
public import Idealize.ShloMosaic.Lib.IdealHost

@[expose] public section

set_option maxRecDepth 16384

noncomputable section

namespace Cert.ReferenceIdeal.Hand

open Cert.ReferenceIdeal Cert.ReferenceIdeal.Gen
open Idealize.ShloMosaic Idealize.ShloMosaic.TcCoe

variable (m : (ℓ : Loc nD τ sig) → Buf (Elt Ideal) ℓ) (c : Dev nD)

theorem v116_at (b : Fin 8) (h g : Fin 4) (i : Fin 4096) :
    x116 m c (ix5 b h g i 0) = x115 m c (ix4 b h g i) := by
  unfold x116 x115
  obtain ⟨W, hW⟩ := seg186 m c
  rw [hW main_v116 (by decide), hW main_v115 (by decide)]
  after_reads_at
theorem v117_at (b : Fin 8) (h g : Fin 4) (i : Fin 4096) (n : Fin 32) (t : Fin 128) :
    x117 m c (ix6 b h g i n t) = x114 m c (ix5 b h g i ⟨n.val * 128 + t.val, by omega⟩) := by
  unfold x117 x114
  obtain ⟨W, hW⟩ := seg186 m c
  rw [hW main_v117 (by decide), hW main_v114 (by decide)]
  after_reads_at
theorem v119_at (b : Fin 8) (h g : Fin 4) (i : Fin 4096) (n : Fin 32) :
    x119 m c (ix5 b h g i n) = Finset.fold max (Ideal.ofBits .f32 0xFF800000#32) (fun t : Fin 128 => FloatOps.absf (F := Ideal) (φ := .f32) (x117 m c (ix6 b h g i n t))) Finset.univ := by
  unfold x119 x117
  obtain ⟨W, hW⟩ := seg188 m c
  rw [hW main_v119 (by decide), hW main_v117 (by decide)]
  after_reads_simp
  try simp -implicitDefEqProofs only [StableHlo.TRef.toBuf, StableHlo.TRef.ofBuf, cast_cast, cast_eq]
  rw [Host.reduce_eq_fold_single _ _ _ _ (by decide)]
  exact Finset.fold_congr fun j _ => congrArg (fun y => FloatOps.absf (F := Ideal) (φ := .f32) (W (Proc.tc.devRef main_v117) y)) (funext fun a => by fin_cases a <;> rfl)

theorem v122_at (b : Fin 8) (h g : Fin 4) (i : Fin 4096) (n : Fin 32) :
    x122 m c (ix6 b h g i n 0) = x119 m c (ix5 b h g i n) * Ideal.ofBits .f32 0x3B124925#32 := by
  unfold x122 x119
  obtain ⟨W, hW⟩ := seg191 m c
  rw [hW main_v122 (by decide), hW main_v119 (by decide)]
  after_reads_at
theorem v142_at (b : Fin 8) (h g : Fin 4) (i : Fin 4096) (n : Fin 32) (t : Fin 128) :
    x142 m c (ix6 b h g i n t) = min (Ideal.ofBits .f32 0x43E00000#32) (max (Ideal.ofBits .f32 0xC3E00000#32) (x117 m c (ix6 b h g i n t) * Ideal.div 1 (x137 m c (ix6 b h g i n 0)))) := by
  unfold x142 x117 x137
  obtain ⟨W, hW⟩ := seg221 m c
  rw [hW main_v142 (by decide), hW main_v117 (by decide), hW main_v137 (by decide)]
  after_reads_at
  rw [const_at, const_at]

theorem v137_eq (b : Fin 8) (h g : Fin 4) (i : Fin 4096) (n : Fin 32) :
    x137 m c (ix6 b h g i n 0) = if x122 m c (ix6 b h g i n 0) < Ideal.ofBits .f32 0x00800000#32 then 1 else x134 m c (ix6 b h g i n 0) := by
  unfold x137 x122 x134
  obtain ⟨W, hW⟩ := seg214 m c
  rw [hW main_v137 (by decide), hW main_v122 (by decide), hW main_v134 (by decide)]
  after_reads_at
  rw [const_at, ofBits_one]

theorem v134_at (b : Fin 8) (h g : Fin 4) (i : Fin 4096) (n : Fin 32) :
    x134 m c (ix6 b h g i n 0) = Finset.fold min (Ideal.ofBits .f32 0x7F800000#32) (fun j : Fin 252 => x133 m c (ix7 b h g i n 0 j)) Finset.univ := by
  unfold x134 x133
  obtain ⟨W, hW⟩ := seg212 m c
  rw [hW main_v134 (by decide), hW main_v133 (by decide)]
  after_reads_simp
  try simp -implicitDefEqProofs only [StableHlo.TRef.toBuf, StableHlo.TRef.ofBuf, cast_cast, cast_eq]
  rw [Host.reduce_eq_fold_single _ _ _ _ (by decide)]
  exact Finset.fold_congr fun j _ => congrArg (W _) (funext fun a => by fin_cases a <;> rfl)

theorem v133_at (b : Fin 8) (h g : Fin 4) (i : Fin 4096) (n : Fin 32) (j : Fin 252) :
    x133 m c (ix7 b h g i n 0 j) = if x122 m c (ix6 b h g i n 0) < Cert.Scale.T (j.val + 1) then Cert.Scale.T (j.val + 1) else Cert.Scale.T 252 := by
  unfold x133 x122
  obtain ⟨W, hW⟩ := seg195 m c
  rw [hW main_v133 (by decide), hW main_v122 (by decide)]
  after_reads_at
  rw [pow_T, const_at, ofBits_T252]

theorem v137_at (b : Fin 8) (h g : Fin 4) (i : Fin 4096) (n : Fin 32) :
    x137 m c (ix6 b h g i n 0) = Cert.Scale.above (x122 m c (ix6 b h g i n 0)) := by
  rw [v137_eq, v134_at]
  have e := funext fun j : Fin 252 => v133_at m c b h g i n j
  rw [e, ofBits_T0, ofBits_top, Cert.Scale.above]

end Cert.ReferenceIdeal.Hand

end
-- ==== Proof.RefOut.lean ====
/-
  The reference's weighted sum of the values, its quotient, and the scales it returns, element by element.
-/
module

public import proofs.«01_k».proof.Proof.RefNums
public import Idealize.ShloMosaic.Lib.IdealHost

@[expose] public section

set_option maxRecDepth 16384

noncomputable section

namespace Cert.ReferenceIdeal.Hand

open Cert.ReferenceIdeal Cert.ReferenceIdeal.Gen
open Idealize.ShloMosaic Idealize.ShloMosaic.TcCoe

variable (m : (ℓ : Loc nD τ sig) → Buf (Elt Ideal) ℓ) (c : Dev nD)

theorem v143_at (b : Fin 8) (h g : Fin 4) (i : Fin 4096) (n : Fin 32) (d : Fin 128) :
    x143 m c (ix6 b h n d g i) = ∑ t : Fin 128, x83 m c (ix5 b h n t d) * x142 m c (ix6 b h g i n t) := by
  unfold x143 x83 x142
  obtain ⟨W, hW⟩ := seg234 m c
  rw [hW main_v143 (by decide), hW main_v83 (by decide), hW main_v142 (by decide)]
  after_reads_at
theorem v149_at (b : Fin 8) (h g : Fin 4) (i : Fin 4096) (n : Fin 32) (d : Fin 128) :
    x149 m c (ix6 b h g i n d) = x143 m c (ix6 b h n d g i) * x137 m c (ix6 b h g i n 0) * x86 m c (ix3 b h n) := by
  unfold x149 x143 x137 x86
  obtain ⟨W, hW⟩ := seg235 m c
  rw [hW main_v149 (by decide), hW main_v143 (by decide), hW main_v137 (by decide), hW main_v86 (by decide)]
  after_reads_at
theorem v150_at (b : Fin 8) (h g : Fin 4) (i : Fin 4096) (d : Fin 128) :
    x150 m c (ix5 b h g i d) = ∑ n : Fin 32, x149 m c (ix6 b h g i n d) := by
  unfold x150 x149
  obtain ⟨W, hW⟩ := seg241 m c
  rw [hW main_v150 (by decide), hW main_v149 (by decide)]
  after_reads_at
  rw [Ideal.hostReduceAdd_single _ (by decide), zero_add]
  exact Finset.sum_congr rfl fun n _ => congrArg (W _) (funext fun a => by fin_cases a <;> rfl)

theorem v155_at (b : Fin 8) (h g : Fin 4) (i : Fin 4096) (d : Fin 128) :
    x155 m c (ix3 b i ⟨(h.val * 4 + g.val) * 128 + d.val, by omega⟩) = Ideal.div (x150 m c (ix5 b h g i d)) (x116 m c (ix5 b h g i 0)) := by
  unfold x155 x150 x116
  obtain ⟨W, hW⟩ := seg243 m c
  rw [hW main_v155 (by decide), hW main_v150 (by decide), hW main_v116 (by decide)]
  after_reads_at
  rw [show (⟨((h.val * 4 + g.val) * 128 + d.val) / 512, by omega⟩ : Fin 4) = h from Fin.ext (by simp only; omega),
    show (⟨((h.val * 4 + g.val) * 128 + d.val) / 128 % 4, by omega⟩ : Fin 4) = g from Fin.ext (by simp only; omega),
    show (⟨((h.val * 4 + g.val) * 128 + d.val) % 128, by omega⟩ : Fin 128) = d from Fin.ext (by simp only; omega)]
theorem v158_at (b : Fin 8) (h : Fin 4) (n : Fin 32) (l : Fin 512) :
    x158 m c (ix4 b h n l) = x89 m c (ix4 b h ⟨l.val / 128, by omega⟩ n) := by
  unfold x158 x89
  obtain ⟨W, hW⟩ := seg248 m c
  rw [hW main_v158 (by decide), hW main_v89 (by decide)]
  after_reads_at
theorem v161_at (b : Fin 8) (h : Fin 4) (n : Fin 32) (d : Fin 128) :
    x161 m c (ix4 b h n d) = x85 m c (ix3 b h n) := by
  unfold x161 x85
  obtain ⟨W, hW⟩ := seg248 m c
  rw [hW main_v161 (by decide), hW main_v85 (by decide)]
  after_reads_at
theorem v164_at (b : Fin 8) (h : Fin 4) (n : Fin 32) (d : Fin 128) :
    x164 m c (ix4 b h n d) = x86 m c (ix3 b h n) := by
  unfold x164 x86
  obtain ⟨W, hW⟩ := seg248 m c
  rw [hW main_v164 (by decide), hW main_v86 (by decide)]
  after_reads_at

end Cert.ReferenceIdeal.Hand

end
-- ==== Proof.RefAnswer.lean ====
/-
  The reference's values are the functions of `Spec`: the attention output and the scales here, the codes it returns through
  its last region.
-/
module

public import proofs.«01_k».proof.Proof.Spec
public import proofs.«01_k».proof.Proof.RefQuant
public import proofs.«01_k».proof.Proof.RefQuantK
public import proofs.«01_k».proof.Proof.RefQuantV
public import proofs.«01_k».proof.Proof.RefScores
public import proofs.«01_k».proof.Proof.RefProbs
public import proofs.«01_k».proof.Proof.RefOut

@[expose] public section

set_option maxRecDepth 16384

noncomputable section

namespace Cert.ReferenceIdeal.Hand

open Cert.ReferenceIdeal Cert.ReferenceIdeal.Gen
open Idealize.ShloMosaic Idealize.ShloMosaic.TcCoe
open Cert.Spec (blkQ blkK amaxF sclF codF head accF yAt LO HI KA SM)

/-! ## Keys by block -/

/-- Key `t` of block `n`. -/
def keyAt (x : Fin 32 × Fin 128) : Fin 4096 := ⟨x.1.val * 128 + x.2.val, by omega⟩

theorem keyAt_inj : Function.Injective keyAt := fun x y h => by
  have h' : x.1.val * 128 + x.2.val = y.1.val * 128 + y.2.val := congrArg Fin.val h
  exact Prod.ext (Fin.ext (by omega)) (Fin.ext (by omega))

theorem univ_keys : (Finset.univ : Finset (Fin 4096)) = Finset.univ.map ⟨keyAt, keyAt_inj⟩ := by
  ext k
  simp only [Finset.mem_univ, Finset.mem_map, Function.Embedding.coeFn_mk, true_and, true_iff]
  exact ⟨(⟨k.val / 128, by omega⟩, ⟨k.val % 128, by omega⟩), Fin.ext (by simp only [keyAt]; omega)⟩

theorem fold_keys (b : EReal) (f : Fin 4096 → EReal) : Finset.fold max b f Finset.univ = Finset.fold max b (fun x => f (keyAt x)) Finset.univ := by
  rw [univ_keys, Finset.fold_map]
  rfl

theorem sum_keys (f : Fin 4096 → EReal) : ∑ k, f k = ∑ x, f (keyAt x) := by
  rw [univ_keys, Finset.sum_map]
  rfl

variable (m : (ℓ : Loc nD τ sig) → Buf (Elt Ideal) ℓ) (c : Dev nD)

/-- The arguments. -/
def a0 : Cert.Spec.AQ := m (c, Proc.tc.devRef main_arg0)
def a1 : Cert.Spec.AK := m (c, Proc.tc.devRef main_arg1)
def a2 : Cert.Spec.AK := m (c, Proc.tc.devRef main_arg2)

/-! ## The quantised blocks -/

theorem scaleQ (b : Fin 8) (h : Fin 16) (n : Fin 32) : x22 m c (ix5 b h n 0 0) = sclF (blkQ (a0 m c) b h n) := by
  rw [v22_at, v7_at, v4_at]
  have e := funext fun x : Fin 128 × Fin 128 => congrArg (FloatOps.absf (F := Ideal) (φ := .f32)) (v2_at m c b h n x.1 x.2)
  rw [e]
  rfl

theorem codeQ (b : Fin 8) (h : Fin 16) (n : Fin 32) (r d : Fin 128) : x27 m c (ix5 b h n r d) = codF (blkQ (a0 m c) b h n) r d := by
  rw [v27_at, scaleQ, v2_at]
  rfl

theorem scaleK (b : Fin 8) (h : Fin 4) (n : Fin 32) : x50 m c (ix5 b h n 0 0) = sclF (blkK (a1 m c) b h n) := by
  rw [v50_at, v35_at, v32_at]
  have e := funext fun x : Fin 128 × Fin 128 => congrArg (FloatOps.absf (F := Ideal) (φ := .f32)) (v30_at m c b h n x.1 x.2)
  rw [e]
  rfl

theorem codeK (b : Fin 8) (h : Fin 4) (n : Fin 32) (r d : Fin 128) : x55 m c (ix5 b h n r d) = codF (blkK (a1 m c) b h n) r d := by
  rw [v55_at, scaleK, v30_at]
  rfl

theorem scaleV (b : Fin 8) (h : Fin 4) (n : Fin 32) : x78 m c (ix5 b h n 0 0) = sclF (blkK (a2 m c) b h n) := by
  rw [v78_at, v63_at, v60_at]
  have e := funext fun x : Fin 128 × Fin 128 => congrArg (FloatOps.absf (F := Ideal) (φ := .f32)) (v58_at m c b h n x.1 x.2)
  rw [e]
  rfl

theorem codeV (b : Fin 8) (h : Fin 4) (n : Fin 32) (r d : Fin 128) : x83 m c (ix5 b h n r d) = codF (blkK (a2 m c) b h n) r d := by
  rw [v83_at, scaleV, v58_at]
  rfl

/-! ## The attention output at one position -/

section column
variable (b : Fin 8) (h g : Fin 4) (i : Fin 4096)

def qOf (i : Fin 4096) : Fin 32 := ⟨i.val / 128, by omega⟩
def rOf (i : Fin 4096) : Fin 128 := ⟨i.val % 128, by omega⟩

theorem dot (n : Fin 32) (t : Fin 128) : x90 m c (ix5 b h g i (keyAt (n, t))) = accF (a0 m c) (a1 m c) b h g (qOf i) (rOf i) n t := by
  rw [v90_at]
  have en : (⟨(keyAt (n, t)).val / 128, by omega⟩ : Fin 32) = n := Fin.ext (by simp only [keyAt]; omega)
  have et : (⟨(keyAt (n, t)).val % 128, by omega⟩ : Fin 128) = t := Fin.ext (by simp only [keyAt]; omega)
  rw [en, et]
  unfold accF
  refine Finset.sum_congr rfl fun d _ => ?_
  rw [codeQ, codeK]
  exact mul_comm _ _

theorem score (n : Fin 32) (t : Fin 128) :
    x109 m c (ix5 b h g i (keyAt (n, t))) = Cert.Column.sc (accF (a0 m c) (a1 m c) b h g (qOf i) (rOf i)) (fun n : Fin 32 => sclF (blkK (a1 m c) b h n)) (sclF (blkQ (a0 m c) b (head h g) (qOf i)) * SM) (qOf i) (rOf i) n t := by
  rw [v109_at, dot, v89_at, v85_at]
  have en : (⟨(keyAt (n, t)).val / 128, by omega⟩ : Fin 32) = n := Fin.ext (by simp only [keyAt]; omega)
  rw [en, scaleQ, scaleK]
  unfold Cert.Column.sc
  have ec : (keyAt (n, t)).val ≤ i.val ↔ 128 * n.val + t.val ≤ 128 * (qOf i).val + (rOf i).val := by
    simp only [keyAt, qOf, rOf]; omega
  exact if_congr ec rfl rfl

theorem top : x110 m c (ix4 b h g i) = Cert.Column.mR (accF (a0 m c) (a1 m c) b h g (qOf i) (rOf i)) (fun n : Fin 32 => sclF (blkK (a1 m c) b h n)) (sclF (blkQ (a0 m c) b (head h g) (qOf i)) * SM) (qOf i) (rOf i) := by
  rw [v110_at, ofBits_bot, fold_keys]
  have e := funext fun x : Fin 32 × Fin 128 => score m c b h g i x.1 x.2
  rw [e]
  rfl

theorem prob (n : Fin 32) (t : Fin 128) :
    x114 m c (ix5 b h g i (keyAt (n, t))) = Cert.Column.pR (accF (a0 m c) (a1 m c) b h g (qOf i) (rOf i)) (fun n : Fin 32 => sclF (blkK (a1 m c) b h n)) (sclF (blkQ (a0 m c) b (head h g) (qOf i)) * SM) (qOf i) (rOf i) n t := by
  rw [v114_at, score, top]
  rfl

theorem total : x116 m c (ix5 b h g i 0) = Cert.Column.lR (accF (a0 m c) (a1 m c) b h g (qOf i) (rOf i)) (fun n : Fin 32 => sclF (blkK (a1 m c) b h n)) (sclF (blkQ (a0 m c) b (head h g) (qOf i)) * SM) (qOf i) (rOf i) := by
  rw [v116_at, v115_at, sum_keys]
  exact Finset.sum_congr rfl fun x _ => prob m c b h g i x.1 x.2

theorem probAt (n : Fin 32) (t : Fin 128) :
    x117 m c (ix6 b h g i n t) = Cert.Column.pR (accF (a0 m c) (a1 m c) b h g (qOf i) (rOf i)) (fun n : Fin 32 => sclF (blkK (a1 m c) b h n)) (sclF (blkQ (a0 m c) b (head h g) (qOf i)) * SM) (qOf i) (rOf i) n t := by
  rw [v117_at]
  exact prob m c b h g i n t

theorem probScale (n : Fin 32) :
    x122 m c (ix6 b h g i n 0) = Cert.Column.aR KA (accF (a0 m c) (a1 m c) b h g (qOf i) (rOf i)) (fun n : Fin 32 => sclF (blkK (a1 m c) b h n)) (sclF (blkQ (a0 m c) b (head h g) (qOf i)) * SM) (qOf i) (rOf i) n := by
  rw [v122_at, v119_at, ofBits_bot]
  have e := funext fun t : Fin 128 => congrArg (FloatOps.absf (F := Ideal) (φ := .f32)) (probAt m c b h g i n t)
  rw [e]
  rfl

theorem probCode (n : Fin 32) (t : Fin 128) :
    x142 m c (ix6 b h g i n t) = Cert.Column.codeR LO HI KA (accF (a0 m c) (a1 m c) b h g (qOf i) (rOf i)) (fun n : Fin 32 => sclF (blkK (a1 m c) b h n)) (sclF (blkQ (a0 m c) b (head h g) (qOf i)) * SM) (qOf i) (rOf i) n t := by
  rw [v142_at, v137_at, probScale, probAt]
  rfl

theorem weighed (n : Fin 32) (d : Fin 128) :
    x143 m c (ix6 b h n d g i) = ∑ t, codF (blkK (a2 m c) b h n) t d * Cert.Column.codeR LO HI KA (accF (a0 m c) (a1 m c) b h g (qOf i) (rOf i)) (fun n : Fin 32 => sclF (blkK (a1 m c) b h n)) (sclF (blkQ (a0 m c) b (head h g) (qOf i)) * SM) (qOf i) (rOf i) n t := by
  rw [v143_at]
  refine Finset.sum_congr rfl fun t _ => ?_
  rw [codeV, probCode]

theorem part (n : Fin 32) (d : Fin 128) :
    x149 m c (ix6 b h g i n d) = (∑ t, codF (blkK (a2 m c) b h n) t d * Cert.Column.codeR LO HI KA (accF (a0 m c) (a1 m c) b h g (qOf i) (rOf i)) (fun n : Fin 32 => sclF (blkK (a1 m c) b h n)) (sclF (blkQ (a0 m c) b (head h g) (qOf i)) * SM) (qOf i) (rOf i) n t) * Cert.Scale.above (Cert.Column.aR KA (accF (a0 m c) (a1 m c) b h g (qOf i) (rOf i)) (fun n : Fin 32 => sclF (blkK (a1 m c) b h n)) (sclF (blkQ (a0 m c) b (head h g) (qOf i)) * SM) (qOf i) (rOf i) n) * sclF (blkK (a2 m c) b h n) := by
  rw [v149_at, weighed, v137_at, probScale, v86_at, scaleV]

theorem answer (d : Fin 128) :
    x155 m c (ix3 b i ⟨(h.val * 4 + g.val) * 128 + d.val, by omega⟩) = yAt (a0 m c) (a1 m c) (a2 m c) b h g (qOf i) (rOf i) d := by
  rw [v155_at, v150_at, total]
  have e := funext fun n : Fin 32 => part m c b h g i n d
  rw [e]
  unfold yAt Cert.Column.yR
  exact rfl

end column

/-! ## The results -/

theorem res0 : x155 m c = Cert.Spec.Y (a0 m c) (a1 m c) (a2 m c) := by
  funext y
  have h1 : (y 1).val < 4096 := (y 1).isLt
  have h2 : (y 2).val < 2048 := (y 2).isLt
  have e := answer m c (y 0) ⟨(y 2).val / 512, by omega⟩ ⟨(y 2).val / 128 % 4, by omega⟩ (y 1) ⟨(y 2).val % 128, by omega⟩
  refine Eq.trans (congrArg (x155 m c) ?_) e
  funext a
  match a with
  | ⟨0, _⟩ => rfl
  | ⟨1, _⟩ => rfl
  | ⟨2, _⟩ => exact Fin.ext (show (y 2).val = ((y 2).val / 512 * 4 + (y 2).val / 128 % 4) * 128 + (y 2).val % 128 by omega)

theorem res2 : x158 m c = Cert.Spec.QS (a0 m c) := by
  funext y
  rw [eq_ix4 y]
  exact (v158_at m c _ _ _ _).trans ((v89_at m c _ _ _ _).trans (scaleQ m c _ _ _))

theorem res4 : x161 m c = Cert.Spec.KS (a1 m c) := by
  funext y
  rw [eq_ix4 y]
  exact (v161_at m c _ _ _ _).trans ((v85_at m c _ _ _).trans (scaleK m c _ _ _))

theorem res6 : x164 m c = Cert.Spec.KS (a2 m c) := by
  funext y
  rw [eq_ix4 y]
  exact (v164_at m c _ _ _ _).trans ((v86_at m c _ _ _).trans (scaleV m c _ _ _))

theorem codesQ : x27 m c = Cert.Spec.QC (a0 m c) := by
  funext y
  rw [eq_ix5 y]
  exact codeQ m c _ _ _ _ _
theorem codesK : x55 m c = Cert.Spec.KC (a1 m c) := by
  funext y
  rw [eq_ix5 y]
  exact codeK m c _ _ _ _ _
theorem codesV : x83 m c = Cert.Spec.KC (a2 m c) := by
  funext y
  rw [eq_ix5 y]
  exact codeV m c _ _ _ _ _

end Cert.ReferenceIdeal.Hand

end
-- ==== Proof.RefFinal.lean ====
/-
  The arrays the reference's last region writes: the codes of the three arguments.
-/
module

public import proofs.«01_k».proof.Proof.RefAnswer
public import proofs.«01_k».proof.Proof.Gen.ReferenceIdeal.Value
public import Idealize.ShloMosaic.Lib.Pipeline.ValueKit

@[expose] public section

set_option maxRecDepth 16384

noncomputable section

namespace Cert.ReferenceIdeal.Hand

open Cert.ReferenceIdeal Cert.ReferenceIdeal.Gen
open Idealize.ShloMosaic Idealize.ShloMosaic.TcCoe Idealize.ShloMosaic.Tactic

variable (m : (ℓ : Loc nD τ sig) → Buf (Elt Ideal) ℓ) (c : Dev nD)

theorem ri0 : ∀ t : Fin cfg0.N, win0_0.index t = ![0, 0, 0, 0, 0] := (by decide +kernel : ∀ t : Fin grid0.N, _)
theorem ri1 : ∀ t : Fin cfg0.N, win0_1.index t = ![0, 0, 0, 0, 0] := (by decide +kernel : ∀ t : Fin grid0.N, _)
theorem ri2 : ∀ t : Fin cfg0.N, win0_2.index t = ![0, 0, 0, 0, 0] := (by decide +kernel : ∀ t : Fin grid0.N, _)
theorem ri3 : ∀ t : Fin cfg0.N, win0_3.index t = ![0, 0, 0, 0, 0] := (by decide +kernel : ∀ t : Fin grid0.N, _)
theorem ri4 : ∀ t : Fin cfg0.N, win0_4.index t = ![0, 0, 0, 0, 0] := (by decide +kernel : ∀ t : Fin grid0.N, _)
theorem ri5 : ∀ t : Fin cfg0.N, win0_5.index t = ![0, 0, 0, 0, 0] := (by decide +kernel : ∀ t : Fin grid0.N, _)

theorem block0 (t : Fin cfg0.N) : iblk m c 0 t = x27 m c := by
  unfold x27 iblk
  generalize V m c = W
  blk_ext! [ri0 t]

theorem arr3 : (dats m 0 c).arrAt 3 cfg0.N = x27 m c := by
  refine (dats m 0 c).arrAt_eq_of_covers 3 _ (by decide +kernel) fun t hf y => ?_
  blk_simp
  rw [after0_3]
  unfold out0_3
  rw [Cert.ReferenceIdeal.Value.canon3_eq, block0]
  show x27 m c (r0_0.idx (Cert.ReferenceIdeal.Value.ix3_0 y)) = _
  refine congrArg (x27 m c) ?_
  blk_ext [ri3 t]
  all_goals exact (Nat.zero_add _).trans (Nat.one_mul _)

theorem block1 (t : Fin cfg0.N) : iblk m c 1 t = x55 m c := by
  unfold x55 iblk
  generalize V m c = W
  blk_ext! [ri1 t]

theorem arr4 : (dats m 0 c).arrAt 4 cfg0.N = x55 m c := by
  refine (dats m 0 c).arrAt_eq_of_covers 4 _ (by decide +kernel) fun t hf y => ?_
  blk_simp
  rw [after0_4]
  unfold out0_4
  rw [Cert.ReferenceIdeal.Value.canon4_eq, block1]
  show x55 m c (r0_1.idx (Cert.ReferenceIdeal.Value.ix4_0 y)) = _
  refine congrArg (x55 m c) ?_
  blk_ext [ri4 t]
  all_goals exact (Nat.zero_add _).trans (Nat.one_mul _)

theorem block2 (t : Fin cfg0.N) : iblk m c 2 t = x83 m c := by
  unfold x83 iblk
  generalize V m c = W
  blk_ext! [ri2 t]

theorem arr5 : (dats m 0 c).arrAt 5 cfg0.N = x83 m c := by
  refine (dats m 0 c).arrAt_eq_of_covers 5 _ (by decide +kernel) fun t hf y => ?_
  blk_simp
  rw [after0_5]
  unfold out0_5
  rw [Cert.ReferenceIdeal.Value.canon5_eq, block2]
  show x83 m c (r0_1.idx (Cert.ReferenceIdeal.Value.ix5_0 y)) = _
  refine congrArg (x83 m c) ?_
  blk_ext [ri5 t]
  all_goals exact (Nat.zero_add _).trans (Nat.one_mul _)

end Cert.ReferenceIdeal.Hand

end
-- ==== Proof.EqualRef.lean ====
/-
  The reference ends with the functions of `Spec` of its arguments.
-/
module

public import proofs.«01_k».proof.Proof.RefFinal

@[expose] public section

set_option maxRecDepth 16384

noncomputable section

namespace Cert.ReferenceIdeal.Hand

open Cert.ReferenceIdeal Cert.ReferenceIdeal.Gen
open Idealize.ShloMosaic Idealize.ShloMosaic.TcCoe Idealize.SL.Sem

variable (m : (ℓ : Loc nD τ sig) → Buf (Elt Ideal) ℓ) (ρ : Dev nD → PrngReg)

theorem left155 (c : Dev nD) : V m c main_v155 = Cert.Spec.Y (a0 m c) (a1 m c) (a2 m c) := funext fun i => congrFun (res0 m c) i
theorem left158 (c : Dev nD) : V m c main_v158 = Cert.Spec.QS (a0 m c) := funext fun i => congrFun (res2 m c) i
theorem left161 (c : Dev nD) : V m c main_v161 = Cert.Spec.KS (a1 m c) := funext fun i => congrFun (res4 m c) i
theorem left164 (c : Dev nD) : V m c main_v164 = Cert.Spec.KS (a2 m c) := funext fun i => congrFun (res6 m c) i

theorem run_answer : θ_run defs (onTc (τ := τ) (main (F := Ideal))) ⟨m, fun _ => 0, ρ⟩ (fun r => ∀ c : Dev nD,
      r.2.mem ((c.tc : Thread nD τ).loc main_v155) = Cert.Spec.Y (a0 m c) (a1 m c) (a2 m c)
      ∧ r.2.mem ((c.tc : Thread nD τ).loc main_v165_0) = Cert.Spec.QC (a0 m c)
      ∧ r.2.mem ((c.tc : Thread nD τ).loc main_v158) = Cert.Spec.QS (a0 m c)
      ∧ r.2.mem ((c.tc : Thread nD τ).loc main_v165_1) = Cert.Spec.KC (a1 m c)
      ∧ r.2.mem ((c.tc : Thread nD τ).loc main_v161) = Cert.Spec.KS (a1 m c)
      ∧ r.2.mem ((c.tc : Thread nD τ).loc main_v165_2) = Cert.Spec.KC (a2 m c)
      ∧ r.2.mem ((c.tc : Thread nD τ).loc main_v164) = Cert.Spec.KS (a2 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨((h c).2 main_v155 (Pipeline.mem_restRefs_of main_v155 (by decide) (by decide))).trans (left155 m c),
      (Cert.ReferenceIdeal.Value.post3 m r h c).trans ((arr3 m c).trans (codesQ m c)),
      ((h c).2 main_v158 (Pipeline.mem_restRefs_of main_v158 (by decide) (by decide))).trans (left158 m c),
      (Cert.ReferenceIdeal.Value.post4 m r h c).trans ((arr4 m c).trans (codesK m c)),
      ((h c).2 main_v161 (Pipeline.mem_restRefs_of main_v161 (by decide) (by decide))).trans (left161 m c),
      (Cert.ReferenceIdeal.Value.post5 m r h c).trans ((arr5 m c).trans (codesV m c)),
      ((h c).2 main_v164 (Pipeline.mem_restRefs_of main_v164 (by decide) (by decide))).trans (left164 m c),
      Cert.ReferenceIdeal.Value.kept_main_arg0 m r h c, Cert.ReferenceIdeal.Value.kept_main_arg1 m r h c, Cert.ReferenceIdeal.Value.kept_main_arg2 m r h c⟩)
    (run_main m ρ)

end Cert.ReferenceIdeal.Hand

end
-- ==== Proof.Equal.lean ====
/-
  The kernel and the reference end with equal results: both end with the functions of `Spec` of the arguments.
-/
module

public import proofs.«01_k».proof.Defs
public import proofs.«01_k».proof.Proof.EqualKernel
public import proofs.«01_k».proof.Proof.EqualRef

@[expose] public section

set_option maxRecDepth 16384

noncomputable section

namespace Cert.Equal

open Idealize.ShloMosaic Idealize.SL.Sem
open Cert.KernelIdeal.Hand (a0 a1 a2)

theorem algebraic : Cert.algebraic_KernelIdeal_ReferenceIdeal (hKernelIdeal := Cert.KernelIdeal.Gen.facts) (hReferenceIdeal := Cert.ReferenceIdeal.Gen.facts) := by
  intro m g m' g' _ hargs
  refine ⟨fun c => Cert.Spec.Y (a0 m c) (a1 m c) (a2 m c), fun c => Cert.Spec.QC (a0 m c), fun c => Cert.Spec.QS (a0 m c), fun c => Cert.Spec.KC (a1 m c),
    fun c => Cert.Spec.KS (a1 m c), fun c => Cert.Spec.KC (a2 m c), fun c => Cert.Spec.KS (a2 m c), Cert.KernelIdeal.Hand.run_answer m g, ?_⟩
  refine (θ_run _ _ _).mono (fun r h c => ?_) (Cert.ReferenceIdeal.Hand.run_answer m' g')
  have e0 : Cert.ReferenceIdeal.Hand.a0 m' c = a0 m c := (hargs c).1
  have e1 : Cert.ReferenceIdeal.Hand.a1 m' c = a1 m c := (hargs c).2.1
  have e2 : Cert.ReferenceIdeal.Hand.a2 m' c = a2 m c := (hargs c).2.2
  have hc := h c
  rw [e0, e1, e2] at hc
  exact hc

end Cert.Equal

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.KernelFrame
public import proofs.«01_k».proof.Proof.KernelIdealFrame
public import proofs.«01_k».proof.Proof.Equal
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  fun m g _ => Cert.Kernel.Hand.frame m g, fun m g _ => Cert.KernelIdeal.Hand.frame_kept m g,
  fun m g _ => Cert.ReferenceIdeal.Gen.frame m g, trivial, Cert.Equal.algebraic⟩

end Cert.Proof

end
